-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_2)) (v2 : (c : Dev Cert.Kernel3Ideal.nD) → Buf (Elt Ideal) ((c.tc : Thread Cert.Kernel3Ideal.nD Cert.Kernel3Ideal.τ).loc Cert.Kernel3Ideal.main_v8_3)) (v3 : (c : Dev Cert.Kernel3Ideal.nD) → Buf (Elt Ideal) ((c.tc : Thread Cert.Kernel3Ideal.nD Cert.Kernel3Ideal.τ).loc Cert.Kernel3Ideal.main_v8_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_2) = v1 c
          ∧ r.2.mem ((c.tc : Thread Cert.Kernel3Ideal.nD Cert.Kernel3Ideal.τ).loc Cert.Kernel3Ideal.main_v8_3) = v2 c
          ∧ r.2.mem ((c.tc : Thread Cert.Kernel3Ideal.nD Cert.Kernel3Ideal.τ).loc Cert.Kernel3Ideal.main_v8_6) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_v54) = v1 c
          ∧ r.2.mem ((c.tc : Thread Cert.Reference3Ideal.nD Cert.Reference3Ideal.τ).loc Cert.Reference3Ideal.main_v55) = v2 c
          ∧ r.2.mem ((c.tc : Thread Cert.Reference3Ideal.nD Cert.Reference3Ideal.τ).loc Cert.Reference3Ideal.main_v50) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_v25) = v2 c
          ∧ r.2.mem ((c.tc : Thread Cert.Reference4Ideal.nD Cert.Reference4Ideal.τ).loc Cert.Reference4Ideal.main_v27) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v14_0)) (v1 : (c : Dev Cert.Kernel5Ideal.nD) → Buf (Elt Ideal) ((c.tc : Thread Cert.Kernel5Ideal.nD Cert.Kernel5Ideal.τ).loc Cert.Kernel5Ideal.main_v14_2)) (v2 : (c : Dev Cert.Kernel5Ideal.nD) → Buf (Elt Ideal) ((c.tc : Thread Cert.Kernel5Ideal.nD Cert.Kernel5Ideal.τ).loc Cert.Kernel5Ideal.main_v14_3)) (v3 : (c : Dev Cert.Kernel5Ideal.nD) → Buf (Elt Ideal) ((c.tc : Thread Cert.Kernel5Ideal.nD Cert.Kernel5Ideal.τ).loc Cert.Kernel5Ideal.main_v14_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14_0) = v0 c
          ∧ r.2.mem ((c.tc : Thread Cert.Kernel5Ideal.nD Cert.Kernel5Ideal.τ).loc Cert.Kernel5Ideal.main_v14_2) = v1 c
          ∧ r.2.mem ((c.tc : Thread Cert.Kernel5Ideal.nD Cert.Kernel5Ideal.τ).loc Cert.Kernel5Ideal.main_v14_3) = v2 c
          ∧ r.2.mem ((c.tc : Thread Cert.Kernel5Ideal.nD Cert.Kernel5Ideal.τ).loc Cert.Kernel5Ideal.main_v14_4) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_v56) = v1 c
          ∧ r.2.mem ((c.tc : Thread Cert.Reference5Ideal.nD Cert.Reference5Ideal.τ).loc Cert.Reference5Ideal.main_v58) = v2 c
          ∧ r.2.mem ((c.tc : Thread Cert.Reference5Ideal.nD Cert.Reference5Ideal.τ).loc Cert.Reference5Ideal.main_v59) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v22_0)) (v1 : (c : Dev Cert.Kernel6Ideal.nD) → Buf (Elt Ideal) ((c.tc : Thread Cert.Kernel6Ideal.nD Cert.Kernel6Ideal.τ).loc Cert.Kernel6Ideal.main_v22_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v22_0) = v0 c
          ∧ r.2.mem ((c.tc : Thread Cert.Kernel6Ideal.nD Cert.Kernel6Ideal.τ).loc Cert.Kernel6Ideal.main_v22_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v68) = v0 c
          ∧ r.2.mem ((c.tc : Thread Cert.Reference6Ideal.nD Cert.Reference6Ideal.τ).loc Cert.Reference6Ideal.main_v69) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite2 : Cert.Pre_finite2.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite2.lean ====
abbrev S4x4096x1024 : Shape := ⟨3, ![4, 4096, 1024]⟩
abbrev S4x4096x512 : Shape := ⟨3, ![4, 4096, 512]⟩
abbrev S1x1024x1024 : Shape := ⟨3, ![1, 1024, 1024]⟩
abbrev S1x1024 : Shape := ⟨2, ![1, 1024]⟩
abbrev S4x256x4x256 : Shape := ⟨4, ![4, 256, 4, 256]⟩
abbrev S_ : Shape := ⟨0, ![]⟩

class Facts : Prop where
  bcast_S_S1x1024 : S_.BroadcastsInDim S1x1024 (![] : Fin 0 → Fin S1x1024.rank)
  bcast_S_S1x1024x1024 : S_.BroadcastsInDim S1x1024x1024 (![] : Fin 0 → Fin S1x1024x1024.rank)
  bcast_S_S4x256x4x256 : S_.BroadcastsInDim S4x256x4x256 (![] : Fin 0 → Fin S4x256x4x256.rank)

variable [Facts]

def fn {F : FTy → Type} [FloatOps F] (main_arg0 : FVec F S4x4096x1024 .f32) (main_arg1 : FVec F S4x4096x512 .f32) (main_arg2 : FVec F S4x4096x512 .f32) (main_arg3 : FVec F S1x1024x1024 .f32) (main_arg4 : FVec F S1x1024 .f32) (main_arg5 : FVec F S1x1024x1024 .f32) (main_arg6 : FVec F S4x256x4x256 .f32) (main_arg7 : FVec F S4x256x4x256 .f32) (main_arg8 : FVec F S1x1024x1024 .f32) : IVec S1x1024 1 × IVec S1x1024x1024 1 × IVec S4x256x4x256 1 :=
  let main_v0 : FVec F S1x1024 .f32 := Host.absf main_arg4
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x1024 .f32 := Host.absf main_arg5
  let main_cst_0 : FVec F S_ .f32 := constant S_ .f32 0x7F800000#32
  let main_v4 : FVec F S1x1024x1024 .f32 := broadcastInDim S1x1024x1024 ![] bcast_S_S1x1024x1024 main_cst_0
  let main_v5 : IVec S1x1024x1024 1 := cmpf .olt main_v3 main_v4
  let main_v6 : FVec F S4x256x4x256 .f32 := Host.absf main_arg6
  let main_cst_1 : FVec F S_ .f32 := constant S_ .f32 0x7F800000#32
  let main_v7 : FVec F S4x256x4x256 .f32 := broadcastInDim S4x256x4x256 ![] bcast_S_S4x256x4x256 main_cst_1
  let main_v8 : IVec S4x256x4x256 1 := cmpf .olt main_v6 main_v7
  (main_v2, main_v5, main_v8)
-- ==== Kernel.lean ====
abbrev S4x4096x1024 : Shape := ⟨3, ![4, 4096, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S16384x1024 : Shape := ⟨2, ![16384, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S4x2x5632 : Shape := ⟨3, ![4, 2, 5632]⟩
abbrev S512x1024 : Shape := ⟨2, ![512, 1024]⟩
abbrev S1x2x5632 : Shape := ⟨3, ![1, 2, 5632]⟩
abbrev S520x2816 : Shape := ⟨2, ![520, 2816]⟩
abbrev S8x5632 : Shape := ⟨2, ![8, 5632]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S8x2816 : Shape := ⟨2, ![8, 2816]⟩
abbrev S3x2816 : Shape := ⟨2, ![3, 2816]⟩
abbrev S1x2816 : Shape := ⟨2, ![1, 2816]⟩
abbrev S2x2816 : Shape := ⟨2, ![2, 2816]⟩
abbrev S1x2x2816 : Shape := ⟨3, ![1, 2, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 20
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S16384x1024, .f32⟩
  | .hbm, ⟨8, _⟩ => ⟨S1024, .f32⟩
  | .hbm, ⟨9, _⟩ => ⟨S1x1024, .f32⟩
  | .hbm, ⟨10, _⟩ => ⟨S1024x5632, .f32⟩
  | .hbm, ⟨11, _⟩ => ⟨S1024x5632, .bf16⟩
  | .hbm, ⟨12, _⟩ => ⟨S3x5632, .f32⟩
  | .hbm, ⟨13, _⟩ => ⟨S5632, .f32⟩
  | .hbm, ⟨14, _⟩ => ⟨S1x5632, .f32⟩
  | .hbm, ⟨15, _⟩ => ⟨S2816x1024, .f32⟩
  | .hbm, ⟨16, _⟩ => ⟨S2816x1024, .bf16⟩
  | .hbm, ⟨17, _⟩ => ⟨S1x1024, .f32⟩
  | .hbm, ⟨18, _⟩ => ⟨S16384x1024, .f32⟩
  | .hbm, ⟨19, _⟩ => ⟨S4x2x5632, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x2x5632, .f32⟩
  | .local _ .vmem, ⟨11, _⟩ => ⟨S1x2x5632, .f32⟩
  | .local _ .vmem, ⟨12, _⟩ => ⟨S520x2816, .f32⟩
  | .local _ .vmem, ⟨13, _⟩ => ⟨S8x5632, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4x4096x1024 : Shape := ⟨3, ![4, 4096, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x5632 : Shape := ⟨2, ![1024, 5632]⟩
abbrev S4x4096x5632 : Shape := ⟨3, ![4, 4096, 5632]⟩
abbrev S4x2x5632 : Shape := ⟨3, ![4, 2, 5632]⟩
abbrev S3x5632 : Shape := ⟨2, ![3, 5632]⟩
abbrev S5632 : Shape := ⟨1, ![5632]⟩
abbrev S4x4098x5632 : Shape := ⟨3, ![4, 4098, 5632]⟩
abbrev S1x1x5632 : Shape := ⟨3, ![1, 1, 5632]⟩
abbrev S4x4096x2816 : Shape := ⟨3, ![4, 4096, 2816]⟩
abbrev S2816x1024 : Shape := ⟨2, ![2816, 1024]⟩
abbrev S16384x1024 : Shape := ⟨2, ![16384, 1024]⟩

abbrev nBuf : Space → Nat
  | .hbm => 87
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S1024x5632, .f32⟩
  | .hbm, ⟨25, _⟩ => ⟨S4x4096x5632, .f32⟩
  | .hbm, ⟨26, _⟩ => ⟨S_, .f32⟩
  | .hbm, ⟨27, _⟩ => ⟨S4x2x5632, .f32⟩
  | .hbm, ⟨28, _⟩ => ⟨S3x5632, .f32⟩
  | .hbm, ⟨29, _⟩ => ⟨S5632, .f32⟩
  | .hbm, ⟨30, _⟩ => ⟨S4x4098x5632, .f32⟩
  | .hbm, ⟨31, _⟩ => ⟨S1x5632, .f32⟩
  | .hbm, ⟨32, _⟩ => ⟨S5632, .f32⟩
  | .hbm, ⟨33, _⟩ => ⟨S4x4096x5632, .f32⟩
  | .hbm, ⟨34, _⟩ => ⟨S1x1x5632, .f32⟩
  | .hbm, ⟨35, _⟩ => ⟨S4x4096x5632, .f32⟩
  | .hbm, ⟨36, _⟩ => ⟨S4x4096x5632, .f32⟩
  | .hbm, ⟨37, _⟩ => ⟨S1x1x5632, .f32⟩
  | .hbm, ⟨38, _⟩ => ⟨S4x4096x5632, .f32⟩
  | .hbm, ⟨39, _⟩ => ⟨S4x4096x5632, .f32⟩
  | .hbm, ⟨40, _⟩ => ⟨S1x5632, .f32⟩
  | .hbm, ⟨41, _⟩ => ⟨S5632, .f32⟩
  | .hbm, ⟨42, _⟩ => ⟨S4x4096x5632, .f32⟩
  | .hbm, ⟨43, _⟩ => ⟨S1x1x5632, .f32⟩
  | .hbm, ⟨44, _⟩ => ⟨S4x4096x5632, .f32⟩
  | .hbm, ⟨45, _⟩ => ⟨S4x4096x5632, .f32⟩
  | .hbm, ⟨46, _⟩ => ⟨S4x4096x5632, .f32⟩
  | .hbm, ⟨47, _⟩ => ⟨S1x5632, .f32⟩
  | .hbm, ⟨48, _⟩ => ⟨S5632, .f32⟩
  | .hbm, ⟨49, _⟩ => ⟨S4x4096x5632, .f32⟩
  | .hbm, ⟨50, _⟩ => ⟨S1x1x5632, .f32⟩
  | .hbm, ⟨51, _⟩ => ⟨S4x4096x5632, .f32⟩
  | .hbm, ⟨52, _⟩ => ⟨S4x4096x5632, .f32⟩
  | .hbm, ⟨53, _⟩ => ⟨S4x4096x5632, .f32⟩
  | .hbm, ⟨54, _⟩ => ⟨S4x2x5632, .f32⟩
  | .hbm, ⟨55, _⟩ => ⟨S4x4096x2816, .f32⟩
  | .hbm, ⟨56, _⟩ => ⟨S4x4096x2816, .f32⟩
  | .hbm, ⟨57, _⟩ => ⟨S4x4096x2816, .f32⟩
  | .hbm, ⟨58, _⟩ => ⟨S4x4096x2816, .f32⟩
  | .hbm, ⟨59, _⟩ => ⟨S_, .f32⟩
  | .hbm, ⟨60, _⟩ => ⟨S4x4096x2816, .f32⟩
  | .hbm, ⟨61, _⟩ => ⟨S4x4096x2816, .f32⟩
  | .hbm, ⟨62, _⟩ => ⟨S_, .f32⟩
  | .hbm, ⟨63, _⟩ => ⟨S4x4096x2816, .f32⟩
  | .hbm, ⟨64, _⟩ => ⟨S4x4096x2816, .f32⟩
  | .hbm, ⟨65, _⟩ => ⟨S4x4096x2816, .f32⟩
  | .hbm, ⟨66, _⟩ => ⟨S4x4096x2816, .f32⟩
  | .hbm, ⟨67, _⟩ => ⟨S2816x1024, .f32⟩
  | .hbm, ⟨68, _⟩ => ⟨S4x4096x1024, .f32⟩
  | .hbm, ⟨69, _⟩ => ⟨S4x4096x1024, .f32⟩
  | .hbm, ⟨70, _⟩ => ⟨S4x4096x1024, .f32⟩
  | .hbm, ⟨71, _⟩ => ⟨S_, .f32⟩
  | .hbm, ⟨72, _⟩ => ⟨S4x4096, .f32⟩
  | .hbm, ⟨73, _⟩ => ⟨S4x4096x1, .f32⟩
  | .hbm, ⟨74, _⟩ => ⟨S_, .f32⟩
  | .hbm, ⟨75, _⟩ => ⟨S4x4096x1, .f32⟩
  | .hbm, ⟨76, _⟩ => ⟨S4x4096x1, .f32⟩
  | .hbm, ⟨77, _⟩ => ⟨S_, .f32⟩
  | .hbm, ⟨78, _⟩ => ⟨S4x4096x1, .f32⟩
  | .hbm, ⟨79, _⟩ => ⟨S4x4096x1, .f32⟩
  | .hbm, ⟨80, _⟩ => ⟨S4x4096x1, .f32⟩
  | .hbm, ⟨81, _⟩ => ⟨S4x4096x1024, .f32⟩
  | .hbm, ⟨82, _⟩ => ⟨S4x4096x1024, .f32⟩
  | .hbm, ⟨83, _⟩ => ⟨S1x1x1024, .f32⟩
  | .hbm, ⟨84, _⟩ => ⟨S4x4096x1024, .f32⟩
  | .hbm, ⟨85, _⟩ => ⟨S4x4096x1024, .f32⟩
  | .hbm, ⟨86, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_3 : Ref sig .tc := ⟨.hbm, 71, rfl⟩
abbrev main_v52 : Ref sig .tc := ⟨.hbm, 72, rfl⟩
abbrev main_v53 : Ref sig .tc := ⟨.hbm, 73, rfl⟩
abbrev main_cst_4 : Ref sig .tc := ⟨.hbm, 74, rfl⟩
abbrev main_v54 : Ref sig .tc := ⟨.hbm, 75, rfl⟩
abbrev main_v55 : Ref sig .tc := ⟨.hbm, 76, rfl⟩
abbrev main_cst_5 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x4096x512 : Shape := ⟨3, ![4, 4096, 512]⟩
abbrev S1x1024x1024 : Shape := ⟨3, ![1, 1024, 1024]⟩
abbrev S1x1024 : Shape := ⟨2, ![1, 1024]⟩
abbrev S4x256x4x256 : Shape := ⟨4, ![4, 256, 4, 256]⟩
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x512 : Shape := ⟨2, ![1024, 512]⟩
abbrev S256x1024 : Shape := ⟨2, ![256, 1024]⟩
abbrev S512x1024 : Shape := ⟨2, ![512, 1024]⟩
abbrev S1024x1 : Shape := ⟨2, ![1024, 1]⟩
abbrev S1024x256 : Shape := ⟨2, ![1024, 256]⟩
abbrev S256x256 : Shape := ⟨2, ![256, 256]⟩

abbrev nBuf : Space → Nat
  | .hbm => 27
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S1x1024x1024, .f32⟩
  | .hbm, ⟨4, _⟩ => ⟨S1x1024, .f32⟩
  | .hbm, ⟨5, _⟩ => ⟨S1x1024x1024, .f32⟩
  | .hbm, ⟨6, _⟩ => ⟨S4x256x4x256, .f32⟩
  | .hbm, ⟨7, _⟩ => ⟨S4x256x4x256, .f32⟩
  | .hbm, ⟨8, _⟩ => ⟨S1x1024x1024, .f32⟩
  | .hbm, ⟨9, _⟩ => ⟨S16384x1024, .f32⟩
  | .hbm, ⟨10, _⟩ => ⟨S16384x512, .f32⟩
  | .hbm, ⟨11, _⟩ => ⟨S16384x512, .bf16⟩
  | .hbm, ⟨12, _⟩ => ⟨S16384x512, .f32⟩
  | .hbm, ⟨13, _⟩ => ⟨S16384x512, .bf16⟩
  | .hbm, ⟨14, _⟩ => ⟨S1024x1024, .f32⟩
  | .hbm, ⟨15, _⟩ => ⟨S1024x1024, .bf16⟩
  | .hbm, ⟨16, _⟩ => ⟨S1024, .f32⟩
  | .hbm, ⟨17, _⟩ => ⟨S1x1024, .f32⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S4x4096x1024 : Shape := ⟨3, ![4, 4096, 1024]⟩
abbrev S4x4096x512 : Shape := ⟨3, ![4, 4096, 512]⟩
abbrev S1x1024x1024 : Shape := ⟨3, ![1, 1024, 1024]⟩
abbrev S1x1024 : Shape := ⟨2, ![1, 1024]⟩
abbrev S4x256x4x256 : Shape := ⟨4, ![4, 256, 4, 256]⟩
abbrev S1024x1024 : Shape := ⟨2, ![1024, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4x256 : Shape := ⟨4, ![4, 4096, 4, 256]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩
abbrev S16384x1024 : Shape := ⟨2, ![16384, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S1x1024x1024, .f32⟩
  | .hbm, ⟨4, _⟩ => ⟨S1x1024, .f32⟩
  | .hbm, ⟨5, _⟩ => ⟨S1x1024x1024, .f32⟩
  | .hbm, ⟨6, _⟩ => ⟨S4x256x4x256, .f32⟩
  | .hbm, ⟨7, _⟩ => ⟨S4x256x4x256, .f32⟩
  | .hbm, ⟨8, _⟩ => ⟨S1x1024x1024, .f32⟩
  | .hbm, ⟨9, _⟩ => ⟨S4x4096x1024, .f32⟩
  | .hbm, ⟨10, _⟩ => ⟨S1024x1024, .f32⟩
  | .hbm, ⟨11, _⟩ => ⟨S4x4096x1024, .f32⟩
  | .hbm, ⟨12, _⟩ => ⟨S4x4096x1024, .f32⟩
  | .hbm, ⟨13, _⟩ => ⟨S1024, .f32⟩
  | .hbm, ⟨14, _⟩ => ⟨S4x4096x1024, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S1024x1024, .f32⟩
  | .hbm, ⟨31, _⟩ => ⟨S4x4096x1024, .f32⟩
  | .hbm, ⟨32, _⟩ => ⟨S4x4096x4x256, .f32⟩
  | .hbm, ⟨33, _⟩ => ⟨S4x4x4096x256, .f32⟩
  | .hbm, ⟨34, _⟩ => ⟨S_, .f32⟩
  | .hbm, ⟨35, _⟩ => ⟨S4x4x4096x256, .f32⟩
  | .hbm, ⟨36, _⟩ => ⟨S4x4x4096x256, .f32⟩
  | .hbm, ⟨37, _⟩ => ⟨S_, .f32⟩
  | .hbm, ⟨38, _⟩ => ⟨S4x4x4096, .f32⟩
  | .hbm, ⟨39, _⟩ => ⟨S_, .f32⟩
  | .hbm, ⟨40, _⟩ => ⟨S4x4x4096, .f32⟩
  | .hbm, ⟨41, _⟩ => ⟨S4x4x4096, .f32⟩
  | .hbm, ⟨42, _⟩ => ⟨S4x4x4096x1, .f32⟩
  | .hbm, ⟨43, _⟩ => ⟨S4x4x4096x256, .f32⟩
  | .hbm, ⟨44, _⟩ => ⟨S4x4x4096x256, .f32⟩
  | .hbm, ⟨45, _⟩ => ⟨S4x4x4096x256, .f32⟩
  | .hbm, ⟨46, _⟩ => ⟨S_, .f32⟩
  | .hbm, ⟨47, _⟩ => ⟨S4x4x4096, .f32⟩
  | .hbm, ⟨48, _⟩ => ⟨S4x4x4096x1, .f32⟩
  | .hbm, ⟨49, _⟩ => ⟨S4x4x4096x256, .f32⟩
  | .hbm, ⟨50, _⟩ => ⟨S4x4x4096x256, .f32⟩
  | .hbm, ⟨51, _⟩ => ⟨S4x4x256x4096, .f32⟩
  | .hbm, ⟨52, _⟩ => ⟨S4x4096x4x256, .f32⟩
  | .hbm, ⟨53, _⟩ => ⟨S4x4096x1024, .f32⟩
  | .hbm, ⟨54, _⟩ => ⟨S1024x1024, .f32⟩
  | .hbm, ⟨55, _⟩ => ⟨S4x4096x1024, .f32⟩
  | .hbm, ⟨56, _⟩ => ⟨S4x4096x1024, .f32⟩
  | .hbm, ⟨57, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel3.lean ====
abbrev S4x4096x1024 : Shape := ⟨3, ![4, 4096, 1024]⟩
abbrev S1x1024 : Shape := ⟨2, ![1, 1024]⟩
abbrev S1x1024x3072 : Shape := ⟨3, ![1, 1024, 3072]⟩
abbrev S1x3x512 : Shape := ⟨3, ![1, 3, 512]⟩
abbrev S1x512 : Shape := ⟨2, ![1, 512]⟩
abbrev S16384x1024 : Shape := ⟨2, ![16384, 1024]⟩
abbrev S1024 : Shape := ⟨1, ![1024]⟩
abbrev S1024x3072 : Shape := ⟨2, ![1024, 3072]⟩
abbrev S3x512 : Shape := ⟨2, ![3, 512]⟩
abbrev S512 : Shape := ⟨1, ![512]⟩
abbrev S16384x512 : Shape := ⟨2, ![16384, 512]⟩
abbrev S4x4x8x128x512 : Shape := ⟨5, ![4, 4, 8, 128, 512]⟩
abbrev S65536x128 : Shape := ⟨2, ![65536, 128]⟩
abbrev S4x4x4096x128 : Shape := ⟨4, ![4, 4, 4096, 128]⟩
abbrev S4x4x8x144x512 : Shape := ⟨5, ![4, 4, 8, 144, 512]⟩
abbrev S4x2x512 : Shape := ⟨3, ![4, 2, 512]⟩
abbrev S512x1024 : Shape := ⟨2, ![512, 1024]⟩
abbrev S512x512 : Shape := ⟨2, ![512, 512]⟩
abbrev S1x4x1x128x512 : Shape := ⟨5, ![1, 4, 1, 128, 512]⟩
abbrev S2048x128 : Shape := ⟨2, ![2048, 128]⟩
abbrev S1x4x512x128 : Shape := ⟨4, ![1, 4, 512, 128]⟩
abbrev S1x4x1x144x512 : Shape := ⟨5, ![1, 4, 1, 144, 512]⟩
abbrev S1x2x512 : Shape := ⟨3, ![1, 2, 512]⟩
abbrev S520x512 : Shape := ⟨2, ![520, 512]⟩
abbrev S512x1 : Shape := ⟨2, ![512, 1]⟩
abbrev S8x512 : Shape := ⟨2, ![8, 512]⟩
abbrev S1024x512 : Shape := ⟨2, ![1024, 512]⟩
abbrev S2x512 : Shape := ⟨2, ![2, 512]⟩
abbrev S16x512 : Shape := ⟨2, ![16, 512]⟩
abbrev S512x128 : Shape := ⟨2, ![512, 128]⟩
abbrev S1x1x512x128 : Shape := ⟨4, ![1, 1, 512, 128]⟩
abbrev S128x512 : Shape := ⟨2, ![128, 512]⟩
abbrev S1x1x1x128x512 : Shape := ⟨5, ![1, 1, 1, 128, 512]⟩
abbrev S1x1x1x16x512 : Shape := ⟨5, ![1, 1, 1, 16, 512]⟩

abbrev nBuf : Space → Nat
  | .hbm => 20
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x3072, .f32⟩
  | .hbm, ⟨3, _⟩ => ⟨S1x3x512, .f32⟩
  | .hbm, ⟨4, _⟩ => ⟨S1x512, .f32⟩
  | .hbm, ⟨5, _⟩ => ⟨S16384x1024, .f32⟩
  | .hbm, ⟨6, _⟩ => ⟨S1024, .f32⟩
  | .hbm, ⟨7, _⟩ => ⟨S1x1024, .f32⟩
  | .hbm, ⟨8, _⟩ => ⟨S1024x3072, .f32⟩
  | .hbm, ⟨9, _⟩ => ⟨S1024x3072, .bf16⟩
  | .hbm, ⟨10, _⟩ => ⟨S3x512, .f32⟩
  | .hbm, ⟨11, _⟩ => ⟨S512, .f32⟩
  | .hbm, ⟨12, _⟩ => ⟨S1x512, .f32⟩
  | .hbm, ⟨13, _⟩ => ⟨S16384x512, .bf16⟩
  | .hbm, ⟨14, _⟩ => ⟨S4x4x8x128x512, .bf16⟩
  | .hbm, ⟨15, _⟩ => ⟨S65536x128, .f32⟩
  | .hbm, ⟨16, _⟩ => ⟨S65536x128, .f32⟩
  | .hbm, ⟨17, _⟩ => ⟨S4x4x4096x128, .bf16⟩
  | .hbm, ⟨18, _⟩ => ⟨S4x4x8x144x512, .bf16⟩
  | .hbm, ⟨19, _⟩ => ⟨S4x2x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S3x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S1x4x1x128x512, .bf16⟩
  | .local _ .vmem, ⟨9, _⟩ => ⟨S1x4x1x128x512, .bf16⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S1x4x512x128, .bf16⟩
  | .local _ .vmem, ⟨15, _⟩ => ⟨S1x4x512x128, .bf16⟩
  | .local _ .vmem, ⟨16, _⟩ => ⟨S1x4x1x144x512, .bf16⟩
  | .local _ .vmem, ⟨17, _⟩ => ⟨S1x4x1x144x512, .bf16⟩
  | .local _ .vmem, ⟨18, _⟩ => ⟨S1x2x512, .f32⟩
  | .local _ .vmem, ⟨19, _⟩ => ⟨S1x2x512, .f32⟩
  | .local _ .vmem, ⟨20, _⟩ => ⟨S520x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev main_v8_5 : Ref sig .tc := ⟨.hbm, 18, rfl⟩
abbrev main_v8_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x1x144x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference3Ideal.lean ====
abbrev S4x4096x1024 : Shape := ⟨3, ![4, 4096, 1024]⟩
abbrev S1x1024 : Shape := ⟨2, ![1, 1024]⟩
abbrev S1x1024x3072 : Shape := ⟨3, ![1, 1024, 3072]⟩
abbrev S1x3x512 : Shape := ⟨3, ![1, 3, 512]⟩
abbrev S1x512 : Shape := ⟨2, ![1, 512]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x3072 : Shape := ⟨2, ![1024, 3072]⟩
abbrev S4x4096x3072 : Shape := ⟨3, ![4, 4096, 3072]⟩
abbrev S4x4096x512 : Shape := ⟨3, ![4, 4096, 512]⟩
abbrev S4x2x512 : Shape := ⟨3, ![4, 2, 512]⟩
abbrev S3x512 : Shape := ⟨2, ![3, 512]⟩
abbrev S512 : Shape := ⟨1, ![512]⟩
abbrev S4x4098x512 : Shape := ⟨3, ![4, 4098, 512]⟩
abbrev S1x1x512 : Shape := ⟨3, ![1, 1, 512]⟩
abbrev S16384x512 : Shape := ⟨2, ![16384, 512]⟩
abbrev S65536x128 : Shape := ⟨2, ![65536, 128]⟩

abbrev nBuf : Space → Nat
  | .hbm => 65
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x3072, .f32⟩
  | .hbm, ⟨3, _⟩ => ⟨S1x3x512, .f32⟩
  | .hbm, ⟨4, _⟩ => ⟨S1x512, .f32⟩
  | .hbm, ⟨5, _⟩ => ⟨S1024, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S1024x3072, .f32⟩
  | .hbm, ⟨23, _⟩ => ⟨S4x4096x3072, .f32⟩
  | .hbm, ⟨24, _⟩ => ⟨S4x4096x512, .f32⟩
  | .hbm, ⟨25, _⟩ => ⟨S4x4096x512, .f32⟩
  | .hbm, ⟨26, _⟩ => ⟨S4x4096x512, .f32⟩
  | .hbm, ⟨27, _⟩ => ⟨S4x4096x512, .f32⟩
  | .hbm, ⟨28, _⟩ => ⟨S4x4096x512, .f32⟩
  | .hbm, ⟨29, _⟩ => ⟨S4x4096x512, .f32⟩
  | .hbm, ⟨30, _⟩ => ⟨S4x4096x512, .f32⟩
  | .hbm, ⟨31, _⟩ => ⟨S_, .f32⟩
  | .hbm, ⟨32, _⟩ => ⟨S4x2x512, .f32⟩
  | .hbm, ⟨33, _⟩ => ⟨S3x512, .f32⟩
  | .hbm, ⟨34, _⟩ => ⟨S512, .f32⟩
  | .hbm, ⟨35, _⟩ => ⟨S4x4098x512, .f32⟩
  | .hbm, ⟨36, _⟩ => ⟨S1x512, .f32⟩
  | .hbm, ⟨37, _⟩ => ⟨S512, .f32⟩
  | .hbm, ⟨38, _⟩ => ⟨S4x4096x512, .f32⟩
  | .hbm, ⟨39, _⟩ => ⟨S1x1x512, .f32⟩
  | .hbm, ⟨40, _⟩ => ⟨S4x4096x512, .f32⟩
  | .hbm, ⟨41, _⟩ => ⟨S4x4096x512, .f32⟩
  | .hbm, ⟨42, _⟩ => ⟨S1x1x512, .f32⟩
  | .hbm, ⟨43, _⟩ => ⟨S4x4096x512, .f32⟩
  | .hbm, ⟨44, _⟩ => ⟨S4x4096x512, .f32⟩
  | .hbm, ⟨45, _⟩ => ⟨S1x512, .f32⟩
  | .hbm, ⟨46, _⟩ => ⟨S512, .f32⟩
  | .hbm, ⟨47, _⟩ => ⟨S4x4096x512, .f32⟩
  | .hbm, ⟨48, _⟩ => ⟨S1x1x512, .f32⟩
  | .hbm, ⟨49, _⟩ => ⟨S4x4096x512, .f32⟩
  | .hbm, ⟨50, _⟩ => ⟨S4x4096x512, .f32⟩
  | .hbm, ⟨51, _⟩ => ⟨S4x4096x512, .f32⟩
  | .hbm, ⟨52, _⟩ => ⟨S1x512, .f32⟩
  | .hbm, ⟨53, _⟩ => ⟨S512, .f32⟩
  | .hbm, ⟨54, _⟩ => ⟨S4x4096x512, .f32⟩
  | .hbm, ⟨55, _⟩ => ⟨S1x1x512, .f32⟩
  | .hbm, ⟨56, _⟩ => ⟨S4x4096x512, .f32⟩
  | .hbm, ⟨57, _⟩ => ⟨S4x4096x512, .f32⟩
  | .hbm, ⟨58, _⟩ => ⟨S4x4096x512, .f32⟩
  | .hbm, ⟨59, _⟩ => ⟨S4x2x512, .f32⟩
  | .hbm, ⟨60, _⟩ => ⟨S4x4096x512, .f32⟩
  | .hbm, ⟨61, _⟩ => ⟨S16384x512, .f32⟩
  | .hbm, ⟨62, _⟩ => ⟨S16384x512, .bf16⟩
  | .hbm, ⟨63, _⟩ => ⟨S65536x128, .f32⟩
  | .hbm, ⟨64, _⟩ => ⟨S65536x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩

abbrev nD : Nat := 1
abbrev τ : Topo := Topo.v7x

variable {F : FTy → Type} [FloatOps F]
-- ==== Kernel4.lean ====
abbrev S4x256x1024 : Shape := ⟨3, ![4, 256, 1024]⟩
abbrev S1x1024 : Shape := ⟨2, ![1, 1024]⟩
abbrev S1x1024x2048 : Shape := ⟨3, ![1, 1024, 2048]⟩
abbrev S1024x1024 : Shape := ⟨2, ![1024, 1024]⟩
abbrev S1024 : Shape := ⟨1, ![1024]⟩
abbrev S1024x2048 : Shape := ⟨2, ![1024, 2048]⟩
abbrev S8192x128 : Shape := ⟨2, ![8192, 128]⟩
abbrev S256x1024 : Shape := ⟨2, ![256, 1024]⟩
abbrev S2048x128 : Shape := ⟨2, ![2048, 128]⟩
abbrev S256 : Shape := ⟨1, ![256]⟩
abbrev S256x1 : Shape := ⟨2, ![256, 1]⟩
abbrev S256x128 : Shape := ⟨2, ![256, 128]⟩

abbrev nBuf : Space → Nat
  | .hbm => 11
  | .vmem => 12
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x2048, .f32⟩
  | .hbm, ⟨3, _⟩ => ⟨S1024x1024, .f32⟩
  | .hbm, ⟨4, _⟩ => ⟨S1024, .f32⟩
  | .hbm, ⟨5, _⟩ => ⟨S1x1024, .f32⟩
  | .hbm, ⟨6, _⟩ => ⟨S1024x2048, .f32⟩
  | .hbm, ⟨7, _⟩ => ⟨S8192x128, .f32⟩
  | .hbm, ⟨8, _⟩ => ⟨S8192x128, .f32⟩
  | .hbm, ⟨9, _⟩ => ⟨S1024x1024, .bf16⟩
  | .hbm, ⟨10, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S4x256x1024 : Shape := ⟨3, ![4, 256, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x2048 : Shape := ⟨2, ![1024, 2048]⟩
abbrev S4x256x2048 : Shape := ⟨3, ![4, 256, 2048]⟩
abbrev S4x256x4x2x128 : Shape := ⟨5, ![4, 256, 4, 2, 128]⟩
abbrev S4x256x2x4x128 : Shape := ⟨5, ![4, 256, 2, 4, 128]⟩
abbrev S8192x128 : Shape := ⟨2, ![8192, 128]⟩
abbrev S1024x1024 : Shape := ⟨2, ![1024, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S1024x2048, .f32⟩
  | .hbm, ⟨21, _⟩ => ⟨S4x256x2048, .f32⟩
  | .hbm, ⟨22, _⟩ => ⟨S4x256x1024, .f32⟩
  | .hbm, ⟨23, _⟩ => ⟨S4x256x1024, .f32⟩
  | .hbm, ⟨24, _⟩ => ⟨S4x256x4x2x128, .f32⟩
  | .hbm, ⟨25, _⟩ => ⟨S4x256x2x4x128, .f32⟩
  | .hbm, ⟨26, _⟩ => ⟨S8192x128, .f32⟩
  | .hbm, ⟨27, _⟩ => ⟨S4x256x4x2x128, .f32⟩
  | .hbm, ⟨28, _⟩ => ⟨S4x256x2x4x128, .f32⟩
  | .hbm, ⟨29, _⟩ => ⟨S8192x128, .f32⟩
  | .hbm, ⟨30, _⟩ => ⟨S1024x1024, .f32⟩
  | .hbm, ⟨31, _⟩ => ⟨S1024x1024, .bf16⟩
  | .hbm, ⟨32, _⟩ => ⟨S1024x1024, .f32⟩
  | .hbm, ⟨33, _⟩ => ⟨S1024x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Kernel5.lean ====
abbrev S32x4x1024 : Shape := ⟨3, ![32, 4, 1024]⟩
abbrev S1x1024 : Shape := ⟨2, ![1, 1024]⟩
abbrev S1x1024x3072 : Shape := ⟨3, ![1, 1024, 3072]⟩
abbrev S1x3x512 : Shape := ⟨3, ![1, 3, 512]⟩
abbrev S1x512 : Shape := ⟨2, ![1, 512]⟩
abbrev S1x32x2x512 : Shape := ⟨4, ![1, 32, 2, 512]⟩
abbrev S4x32x1024 : Shape := ⟨3, ![4, 32, 1024]⟩
abbrev S128x1024 : Shape := ⟨2, ![128, 1024]⟩
abbrev S1024 : Shape := ⟨1, ![1024]⟩
abbrev S1024x3072 : Shape := ⟨2, ![1024, 3072]⟩
abbrev S3x512 : Shape := ⟨2, ![3, 512]⟩
abbrev S512 : Shape := ⟨1, ![512]⟩
abbrev S32x2x512 : Shape := ⟨3, ![32, 2, 512]⟩
abbrev S32x1x512 : Shape := ⟨3, ![32, 1, 512]⟩
abbrev S32x512 : Shape := ⟨2, ![32, 512]⟩
abbrev S128x512 : Shape := ⟨2, ![128, 512]⟩
abbrev S2x128x512 : Shape := ⟨3, ![2, 128, 512]⟩
abbrev S2x32x512 : Shape := ⟨3, ![2, 32, 512]⟩
abbrev S128 : Shape := ⟨1, ![128]⟩
abbrev S128x1 : Shape := ⟨2, ![128, 1]⟩
abbrev S1024x512 : Shape := ⟨2, ![1024, 512]⟩
abbrev S1x32x512 : Shape := ⟨3, ![1, 32, 512]⟩
abbrev S1x128x512 : Shape := ⟨3, ![1, 128, 512]⟩

abbrev nBuf : Space → Nat
  | .hbm => 26
  | .vmem => 13
  | .smem => 0
  | _ => 0

abbrev bufTy : (tb : Table) → Fin (tcTables nBuf tb) → BufTy
  | .hbm, ⟨0, _⟩ => ⟨S32x4x1024, .f32⟩
  | .hbm, ⟨1, _⟩ => ⟨S1x1024, .f32⟩
  | .hbm, ⟨2, _⟩ => ⟨S1x1024x3072, .f32⟩
  | .hbm, ⟨3, _⟩ => ⟨S1x3x512, .f32⟩
  | .hbm, ⟨4, _⟩ => ⟨S1x512, .f32⟩
  | .hbm, ⟨5, _⟩ => ⟨S1x32x2x512, .f32⟩
  | .hbm, ⟨6, _⟩ => ⟨S4x32x1024, .f32⟩
  | .hbm, ⟨7, _⟩ => ⟨S128x1024, .f32⟩
  | .hbm, ⟨8, _⟩ => ⟨S1024, .f32⟩
  | .hbm, ⟨9, _⟩ => ⟨S1x1024, .f32⟩
  | .hbm, ⟨10, _⟩ => ⟨S1024x3072, .f32⟩
  | .hbm, ⟨11, _⟩ => ⟨S3x512, .f32⟩
  | .hbm, ⟨12, _⟩ => ⟨S512, .f32⟩
  | .hbm, ⟨13, _⟩ => ⟨S1x512, .f32⟩
  | .hbm, ⟨14, _⟩ => ⟨S32x2x512, .f32⟩
  | .hbm, ⟨15, _⟩ => ⟨S32x1x512, .f32⟩
  | .hbm, ⟨16, _⟩ => ⟨S32x512, .f32⟩
  | .hbm, ⟨17, _⟩ => ⟨S32x2x512, .f32⟩
  | .hbm, ⟨18, _⟩ => ⟨S32x1x512, .f32⟩
  | .hbm, ⟨19, _⟩ => ⟨S32x512, .f32⟩
  | .hbm, ⟨20, _⟩ => ⟨S128x512, .bf16⟩
  | .hbm, ⟨21, _⟩ => ⟨S2x128x512, .bf16⟩
  | .hbm, ⟨22, _⟩ => ⟨S128x512, .f32⟩
  | .hbm, ⟨23, _⟩ => ⟨S128x512, .f32⟩
  | .hbm, ⟨24, _⟩ => ⟨S2x32x512, .f32⟩
  | .hbm, ⟨25, _⟩ => ⟨S1024x3072, .bf16⟩
  | .local _ .vmem, ⟨0, _⟩ => ⟨S128x1024, .f32⟩
  | .local _ .vmem, ⟨1, _⟩ => ⟨S1x1024, .f32⟩
  | .local _ .vmem, ⟨2, _⟩ => ⟨S1024x3072, .f32⟩
  | .local _ .vmem, ⟨3, _⟩ => ⟨S3x512, .f32⟩
  | .local _ .vmem, ⟨4, _⟩ => ⟨S1x512, .f32⟩
  | .local _ .vmem, ⟨5, _⟩ => ⟨S32x512, .f32⟩
  | .local _ .vmem, ⟨6, _⟩ => ⟨S32x512, .f32⟩
  | .local _ .vmem, ⟨7, _⟩ => ⟨S128x512, .bf16⟩
  | .local _ .vmem, ⟨8, _⟩ => ⟨S2x128x512, .bf16⟩
  | .local _ .vmem, ⟨9, _⟩ => ⟨S128x512, .f32⟩
  | .local _ .vmem, ⟨10, _⟩ => ⟨S128x512, .f32⟩
  | .local _ .vmem, ⟨11, _⟩ => ⟨S2x32x512, .f32⟩
  | .local _ .vmem, ⟨12, _⟩ => ⟨S1024x3072, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev main_v14_4 : Ref sig .tc := ⟨.hbm, 24, rfl⟩
abbrev main_v14_5 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x3072 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Reference5Ideal.lean ====
abbrev S32x4x1024 : Shape := ⟨3, ![32, 4, 1024]⟩
abbrev S1x1024 : Shape := ⟨2, ![1, 1024]⟩
abbrev S1x1024x3072 : Shape := ⟨3, ![1, 1024, 3072]⟩
abbrev S1x3x512 : Shape := ⟨3, ![1, 3, 512]⟩
abbrev S1x512 : Shape := ⟨2, ![1, 512]⟩
abbrev S1x32x2x512 : Shape := ⟨4, ![1, 32, 2, 512]⟩
abbrev S1024 : Shape := ⟨1, ![1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S1024x3072 : Shape := ⟨2, ![1024, 3072]⟩
abbrev S32x4x3072 : Shape := ⟨3, ![32, 4, 3072]⟩
abbrev S32x4x512 : Shape := ⟨3, ![32, 4, 512]⟩
abbrev S32x2x512 : Shape := ⟨3, ![32, 2, 512]⟩
abbrev S3x512 : Shape := ⟨2, ![3, 512]⟩
abbrev S512 : Shape := ⟨1, ![512]⟩
abbrev S32x6x512 : Shape := ⟨3, ![32, 6, 512]⟩
abbrev S1x1x512 : Shape := ⟨3, ![1, 1, 512]⟩
abbrev S4x32x512 : Shape := ⟨3, ![4, 32, 512]⟩
abbrev S128x512 : Shape := ⟨2, ![128, 512]⟩
abbrev S2x32x512 : Shape := ⟨3, ![2, 32, 512]⟩

abbrev nBuf : Space → Nat
  | .hbm => 69
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1x1024, .f32⟩
  | .hbm, ⟨2, _⟩ => ⟨S1x1024x3072, .f32⟩
  | .hbm, ⟨3, _⟩ => ⟨S1x3x512, .f32⟩
  | .hbm, ⟨4, _⟩ => ⟨S1x512, .f32⟩
  | .hbm, ⟨5, _⟩ => ⟨S1x32x2x512, .f32⟩
  | .hbm, ⟨6, _⟩ => ⟨S1024, .f32⟩
  | .hbm, ⟨7, _⟩ => ⟨S32x4x1024, .f32⟩
  | .hbm, ⟨8, _⟩ => ⟨S_, .f32⟩
  | .hbm, ⟨9, _⟩ => ⟨S32x4, .f32⟩
  | .hbm, ⟨10, _⟩ => ⟨S32x4x1, .f32⟩
  | .hbm, ⟨11, _⟩ => ⟨S_, .f32⟩
  | .hbm, ⟨12, _⟩ => ⟨S32x4x1, .f32⟩
  | .hbm, ⟨13, _⟩ => ⟨S32x4x1, .f32⟩
  | .hbm, ⟨14, _⟩ => ⟨S_, .f32⟩
  | .hbm, ⟨15, _⟩ => ⟨S32x4x1, .f32⟩
  | .hbm, ⟨16, _⟩ => ⟨S32x4x1, .f32⟩
  | .hbm, ⟨17, _⟩ => ⟨S32x4x1, .f32⟩
  | .hbm, ⟨18, _⟩ => ⟨S32x4x1024, .f32⟩
  | .hbm, ⟨19, _⟩ => ⟨S32x4x1024, .f32⟩
  | .hbm, ⟨20, _⟩ => ⟨S1x1x1024, .f32⟩
  | .hbm, ⟨21, _⟩ => ⟨S32x4x1024, .f32⟩
  | .hbm, ⟨22, _⟩ => ⟨S32x4x1024, .f32⟩
  | .hbm, ⟨23, _⟩ => ⟨S1024x3072, .f32⟩
  | .hbm, ⟨24, _⟩ => ⟨S32x4x3072, .f32⟩
  | .hbm, ⟨25, _⟩ => ⟨S32x4x512, .f32⟩
  | .hbm, ⟨26, _⟩ => ⟨S32x4x512, .f32⟩
  | .hbm, ⟨27, _⟩ => ⟨S32x4x512, .f32⟩
  | .hbm, ⟨28, _⟩ => ⟨S32x4x512, .f32⟩
  | .hbm, ⟨29, _⟩ => ⟨S32x4x512, .f32⟩
  | .hbm, ⟨30, _⟩ => ⟨S32x4x512, .f32⟩
  | .hbm, ⟨31, _⟩ => ⟨S32x4x512, .f32⟩
  | .hbm, ⟨32, _⟩ => ⟨S32x2x512, .f32⟩
  | .hbm, ⟨33, _⟩ => ⟨S3x512, .f32⟩
  | .hbm, ⟨34, _⟩ => ⟨S512, .f32⟩
  | .hbm, ⟨35, _⟩ => ⟨S32x6x512, .f32⟩
  | .hbm, ⟨36, _⟩ => ⟨S1x512, .f32⟩
  | .hbm, ⟨37, _⟩ => ⟨S512, .f32⟩
  | .hbm, ⟨38, _⟩ => ⟨S32x4x512, .f32⟩
  | .hbm, ⟨39, _⟩ => ⟨S1x1x512, .f32⟩
  | .hbm, ⟨40, _⟩ => ⟨S32x4x512, .f32⟩
  | .hbm, ⟨41, _⟩ => ⟨S32x4x512, .f32⟩
  | .hbm, ⟨42, _⟩ => ⟨S1x1x512, .f32⟩
  | .hbm, ⟨43, _⟩ => ⟨S32x4x512, .f32⟩
  | .hbm, ⟨44, _⟩ => ⟨S32x4x512, .f32⟩
  | .hbm, ⟨45, _⟩ => ⟨S1x512, .f32⟩
  | .hbm, ⟨46, _⟩ => ⟨S512, .f32⟩
  | .hbm, ⟨47, _⟩ => ⟨S32x4x512, .f32⟩
  | .hbm, ⟨48, _⟩ => ⟨S1x1x512, .f32⟩
  | .hbm, ⟨49, _⟩ => ⟨S32x4x512, .f32⟩
  | .hbm, ⟨50, _⟩ => ⟨S32x4x512, .f32⟩
  | .hbm, ⟨51, _⟩ => ⟨S32x4x512, .f32⟩
  | .hbm, ⟨52, _⟩ => ⟨S1x512, .f32⟩
  | .hbm, ⟨53, _⟩ => ⟨S512, .f32⟩
  | .hbm, ⟨54, _⟩ => ⟨S32x4x512, .f32⟩
  | .hbm, ⟨55, _⟩ => ⟨S1x1x512, .f32⟩
  | .hbm, ⟨56, _⟩ => ⟨S32x4x512, .f32⟩
  | .hbm, ⟨57, _⟩ => ⟨S32x4x512, .f32⟩
  | .hbm, ⟨58, _⟩ => ⟨S32x4x512, .f32⟩
  | .hbm, ⟨59, _⟩ => ⟨S32x2x512, .f32⟩
  | .hbm, ⟨60, _⟩ => ⟨S32x4x512, .f32⟩
  | .hbm, ⟨61, _⟩ => ⟨S4x32x512, .f32⟩
  | .hbm, ⟨62, _⟩ => ⟨S128x512, .f32⟩
  | .hbm, ⟨63, _⟩ => ⟨S128x512, .bf16⟩
  | .hbm, ⟨64, _⟩ => ⟨S4x32x512, .f32⟩
  | .hbm, ⟨65, _⟩ => ⟨S128x512, .f32⟩
  | .hbm, ⟨66, _⟩ => ⟨S4x32x512, .f32⟩
  | .hbm, ⟨67, _⟩ => ⟨S128x512, .f32⟩
  | .hbm, ⟨68, _⟩ => ⟨S2x32x512, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩

abbrev nD : Nat := 1
abbrev τ : Topo := Topo.v7x

variable {F : FTy → Type} [FloatOps F]
-- ==== Kernel6.lean ====
abbrev S32x4x1024 : Shape := ⟨3, ![32, 4, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1x32x2x5632 : Shape := ⟨4, ![1, 32, 2, 5632]⟩
abbrev S4x32x1024 : Shape := ⟨3, ![4, 32, 1024]⟩
abbrev S128x1024 : Shape := ⟨2, ![128, 1024]⟩
abbrev S1024x1024 : Shape := ⟨2, ![1024, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32x2x5632 : Shape := ⟨3, ![32, 2, 5632]⟩
abbrev S32x1x5632 : Shape := ⟨3, ![32, 1, 5632]⟩
abbrev S32x5632 : Shape := ⟨2, ![32, 5632]⟩
abbrev S2x32x5632 : Shape := ⟨3, ![2, 32, 5632]⟩
abbrev S128x2816 : Shape := ⟨2, ![128, 2816]⟩
abbrev S128 : Shape := ⟨1, ![128]⟩
abbrev S128x1 : Shape := ⟨2, ![128, 1]⟩
abbrev S1024x2816 : Shape := ⟨2, ![1024, 2816]⟩
abbrev S32x2816 : Shape := ⟨2, ![32, 2816]⟩
abbrev S1x32x2816 : Shape := ⟨3, ![1, 32, 2816]⟩
abbrev S3x2816 : Shape := ⟨2, ![3, 2816]⟩
abbrev S1x2816 : Shape := ⟨2, ![1, 2816]⟩

abbrev nBuf : Space → Nat
  | .hbm => 35
  | .vmem => 15
  | .smem => 0
  | _ => 0

abbrev bufTy : (tb : Table) → Fin (tcTables nBuf tb) → BufTy
  | .hbm, ⟨0, _⟩ => ⟨S32x4x1024, .f32⟩
  | .hbm, ⟨1, _⟩ => ⟨S32x4x1024, .f32⟩
  | .hbm, ⟨2, _⟩ => ⟨S1x1024x1024, .f32⟩
  | .hbm, ⟨3, _⟩ => ⟨S1x1024, .f32⟩
  | .hbm, ⟨4, _⟩ => ⟨S1x1024x5632, .f32⟩
  | .hbm, ⟨5, _⟩ => ⟨S1x3x5632, .f32⟩
  | .hbm, ⟨6, _⟩ => ⟨S1x5632, .f32⟩
  | .hbm, ⟨7, _⟩ => ⟨S1x2816x1024, .f32⟩
  | .hbm, ⟨8, _⟩ => ⟨S1024, .f32⟩
  | .hbm, ⟨9, _⟩ => ⟨S1x32x2x5632, .f32⟩
  | .hbm, ⟨10, _⟩ => ⟨S4x32x1024, .f32⟩
  | .hbm, ⟨11, _⟩ => ⟨S128x1024, .f32⟩
  | .hbm, ⟨12, _⟩ => ⟨S4x32x1024, .f32⟩
  | .hbm, ⟨13, _⟩ => ⟨S128x1024, .f32⟩
  | .hbm, ⟨14, _⟩ => ⟨S128x1024, .bf16⟩
  | .hbm, ⟨15, _⟩ => ⟨S1024x1024, .f32⟩
  | .hbm, ⟨16, _⟩ => ⟨S1024, .f32⟩
  | .hbm, ⟨17, _⟩ => ⟨S1x1024, .f32⟩
  | .hbm, ⟨18, _⟩ => ⟨S1024x5632, .f32⟩
  | .hbm, ⟨19, _⟩ => ⟨S1024x5632, .bf16⟩
  | .hbm, ⟨20, _⟩ => ⟨S3x5632, .f32⟩
  | .hbm, ⟨21, _⟩ => ⟨S5632, .f32⟩
  | .hbm, ⟨22, _⟩ => ⟨S1x5632, .f32⟩
  | .hbm, ⟨23, _⟩ => ⟨S2816x1024, .f32⟩
  | .hbm, ⟨24, _⟩ => ⟨S2816x1024, .bf16⟩
  | .hbm, ⟨25, _⟩ => ⟨S1x1024, .f32⟩
  | .hbm, ⟨26, _⟩ => ⟨S32x2x5632, .f32⟩
  | .hbm, ⟨27, _⟩ => ⟨S32x1x5632, .f32⟩
  | .hbm, ⟨28, _⟩ => ⟨S32x5632, .f32⟩
  | .hbm, ⟨29, _⟩ => ⟨S32x2x5632, .f32⟩
  | .hbm, ⟨30, _⟩ => ⟨S32x1x5632, .f32⟩
  | .hbm, ⟨31, _⟩ => ⟨S32x5632, .f32⟩
  | .hbm, ⟨32, _⟩ => ⟨S128x1024, .f32⟩
  | .hbm, ⟨33, _⟩ => ⟨S2x32x5632, .f32⟩
  | .hbm, ⟨34, _⟩ => ⟨S1024x1024, .bf16⟩
  | .local _ .vmem, ⟨0, _⟩ => ⟨S128x1024, .f32⟩
  | .local _ .vmem, ⟨1, _⟩ => ⟨S128x1024, .bf16⟩
  | .local _ .vmem, ⟨2, _⟩ => ⟨S1024x1024, .f32⟩
  | .local _ .vmem, ⟨3, _⟩ => ⟨S1x1024, .f32⟩
  | .local _ .vmem, ⟨4, _⟩ => ⟨S1024x5632, .bf16⟩
  | .local _ .vmem, ⟨5, _⟩ => ⟨S3x5632, .f32⟩
  | .local _ .vmem, ⟨6, _⟩ => ⟨S1x5632, .f32⟩
  | .local _ .vmem, ⟨7, _⟩ => ⟨S2816x1024, .bf16⟩
  | .local _ .vmem, ⟨8, _⟩ => ⟨S1x1024, .f32⟩
  | .local _ .vmem, ⟨9, _⟩ => ⟨S32x5632, .f32⟩
  | .local _ .vmem, ⟨10, _⟩ => ⟨S32x5632, .f32⟩
  | .local _ .vmem, ⟨11, _⟩ => ⟨S128x1024, .f32⟩
  | .local _ .vmem, ⟨12, _⟩ => ⟨S2x32x5632, .f32⟩
  | .local _ .vmem, ⟨13, _⟩ => ⟨S1024x1024, .bf16⟩
  | .local _ .vmem, ⟨14, _⟩ => ⟨S128x2816, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x32x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference6Ideal.lean ====
abbrev S32x4x1024 : Shape := ⟨3, ![32, 4, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1x32x2x5632 : Shape := ⟨4, ![1, 32, 2, 5632]⟩
abbrev S1024x1024 : Shape := ⟨2, ![1024, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S1024x5632 : Shape := ⟨2, ![1024, 5632]⟩
abbrev S32x4x5632 : Shape := ⟨3, ![32, 4, 5632]⟩
abbrev S32x2x5632 : Shape := ⟨3, ![32, 2, 5632]⟩
abbrev S3x5632 : Shape := ⟨2, ![3, 5632]⟩
abbrev S5632 : Shape := ⟨1, ![5632]⟩
abbrev S32x6x5632 : Shape := ⟨3, ![32, 6, 5632]⟩
abbrev S1x1x5632 : Shape := ⟨3, ![1, 1, 5632]⟩
abbrev S32x4x2816 : Shape := ⟨3, ![32, 4, 2816]⟩
abbrev S2816x1024 : Shape := ⟨2, ![2816, 1024]⟩
abbrev S4x32x1024 : Shape := ⟨3, ![4, 32, 1024]⟩
abbrev S128x1024 : Shape := ⟨2, ![128, 1024]⟩
abbrev S2x32x5632 : Shape := ⟨3, ![2, 32, 5632]⟩

abbrev nBuf : Space → Nat
  | .hbm => 94
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x4x1024, .f32⟩
  | .hbm, ⟨2, _⟩ => ⟨S1x1024x1024, .f32⟩
  | .hbm, ⟨3, _⟩ => ⟨S1x1024, .f32⟩
  | .hbm, ⟨4, _⟩ => ⟨S1x1024x5632, .f32⟩
  | .hbm, ⟨5, _⟩ => ⟨S1x3x5632, .f32⟩
  | .hbm, ⟨6, _⟩ => ⟨S1x5632, .f32⟩
  | .hbm, ⟨7, _⟩ => ⟨S1x2816x1024, .f32⟩
  | .hbm, ⟨8, _⟩ => ⟨S1024, .f32⟩
  | .hbm, ⟨9, _⟩ => ⟨S1x32x2x5632, .f32⟩
  | .hbm, ⟨10, _⟩ => ⟨S1024x1024, .f32⟩
  | .hbm, ⟨11, _⟩ => ⟨S32x4x1024, .f32⟩
  | .hbm, ⟨12, _⟩ => ⟨S32x4x1024, .f32⟩
  | .hbm, ⟨13, _⟩ => ⟨S1024, .f32⟩
  | .hbm, ⟨14, _⟩ => ⟨S32x4x1024, .f32⟩
  | .hbm, ⟨15, _⟩ => ⟨S_, .f32⟩
  | .hbm, ⟨16, _⟩ => ⟨S32x4, .f32⟩
  | .hbm, ⟨17, _⟩ => ⟨S32x4x1, .f32⟩
  | .hbm, ⟨18, _⟩ => ⟨S_, .f32⟩
  | .hbm, ⟨19, _⟩ => ⟨S32x4x1, .f32⟩
  | .hbm, ⟨20, _⟩ => ⟨S32x4x1, .f32⟩
  | .hbm, ⟨21, _⟩ => ⟨S_, .f32⟩
  | .hbm, ⟨22, _⟩ => ⟨S32x4x1, .f32⟩
  | .hbm, ⟨23, _⟩ => ⟨S32x4x1, .f32⟩
  | .hbm, ⟨24, _⟩ => ⟨S32x4x1, .f32⟩
  | .hbm, ⟨25, _⟩ => ⟨S32x4x1024, .f32⟩
  | .hbm, ⟨26, _⟩ => ⟨S32x4x1024, .f32⟩
  | .hbm, ⟨27, _⟩ => ⟨S1x1x1024, .f32⟩
  | .hbm, ⟨28, _⟩ => ⟨S32x4x1024, .f32⟩
  | .hbm, ⟨29, _⟩ => ⟨S32x4x1024, .f32⟩
  | .hbm, ⟨30, _⟩ => ⟨S1024x5632, .f32⟩
  | .hbm, ⟨31, _⟩ => ⟨S32x4x5632, .f32⟩
  | .hbm, ⟨32, _⟩ => ⟨S32x2x5632, .f32⟩
  | .hbm, ⟨33, _⟩ => ⟨S3x5632, .f32⟩
  | .hbm, ⟨34, _⟩ => ⟨S5632, .f32⟩
  | .hbm, ⟨35, _⟩ => ⟨S32x6x5632, .f32⟩
  | .hbm, ⟨36, _⟩ => ⟨S1x5632, .f32⟩
  | .hbm, ⟨37, _⟩ => ⟨S5632, .f32⟩
  | .hbm, ⟨38, _⟩ => ⟨S32x4x5632, .f32⟩
  | .hbm, ⟨39, _⟩ => ⟨S1x1x5632, .f32⟩
  | .hbm, ⟨40, _⟩ => ⟨S32x4x5632, .f32⟩
  | .hbm, ⟨41, _⟩ => ⟨S32x4x5632, .f32⟩
  | .hbm, ⟨42, _⟩ => ⟨S1x1x5632, .f32⟩
  | .hbm, ⟨43, _⟩ => ⟨S32x4x5632, .f32⟩
  | .hbm, ⟨44, _⟩ => ⟨S32x4x5632, .f32⟩
  | .hbm, ⟨45, _⟩ => ⟨S1x5632, .f32⟩
  | .hbm, ⟨46, _⟩ => ⟨S5632, .f32⟩
  | .hbm, ⟨47, _⟩ => ⟨S32x4x5632, .f32⟩
  | .hbm, ⟨48, _⟩ => ⟨S1x1x5632, .f32⟩
  | .hbm, ⟨49, _⟩ => ⟨S32x4x5632, .f32⟩
  | .hbm, ⟨50, _⟩ => ⟨S32x4x5632, .f32⟩
  | .hbm, ⟨51, _⟩ => ⟨S32x4x5632, .f32⟩
  | .hbm, ⟨52, _⟩ => ⟨S1x5632, .f32⟩
  | .hbm, ⟨53, _⟩ => ⟨S5632, .f32⟩
  | .hbm, ⟨54, _⟩ => ⟨S32x4x5632, .f32⟩
  | .hbm, ⟨55, _⟩ => ⟨S1x1x5632, .f32⟩
  | .hbm, ⟨56, _⟩ => ⟨S32x4x5632, .f32⟩
  | .hbm, ⟨57, _⟩ => ⟨S32x4x5632, .f32⟩
  | .hbm, ⟨58, _⟩ => ⟨S32x4x5632, .f32⟩
  | .hbm, ⟨59, _⟩ => ⟨S32x2x5632, .f32⟩
  | .hbm, ⟨60, _⟩ => ⟨S32x4x2816, .f32⟩
  | .hbm, ⟨61, _⟩ => ⟨S32x4x2816, .f32⟩
  | .hbm, ⟨62, _⟩ => ⟨S32x4x2816, .f32⟩
  | .hbm, ⟨63, _⟩ => ⟨S32x4x2816, .f32⟩
  | .hbm, ⟨64, _⟩ => ⟨S_, .f32⟩
  | .hbm, ⟨65, _⟩ => ⟨S32x4x2816, .f32⟩
  | .hbm, ⟨66, _⟩ => ⟨S32x4x2816, .f32⟩
  | .hbm, ⟨67, _⟩ => ⟨S_, .f32⟩
  | .hbm, ⟨68, _⟩ => ⟨S32x4x2816, .f32⟩
  | .hbm, ⟨69, _⟩ => ⟨S32x4x2816, .f32⟩
  | .hbm, ⟨70, _⟩ => ⟨S32x4x2816, .f32⟩
  | .hbm, ⟨71, _⟩ => ⟨S32x4x2816, .f32⟩
  | .hbm, ⟨72, _⟩ => ⟨S2816x1024, .f32⟩
  | .hbm, ⟨73, _⟩ => ⟨S32x4x1024, .f32⟩
  | .hbm, ⟨74, _⟩ => ⟨S32x4x1024, .f32⟩
  | .hbm, ⟨75, _⟩ => ⟨S32x4x1024, .f32⟩
  | .hbm, ⟨76, _⟩ => ⟨S_, .f32⟩
  | .hbm, ⟨77, _⟩ => ⟨S32x4, .f32⟩
  | .hbm, ⟨78, _⟩ => ⟨S32x4x1, .f32⟩
  | .hbm, ⟨79, _⟩ => ⟨S_, .f32⟩
  | .hbm, ⟨80, _⟩ => ⟨S32x4x1, .f32⟩
  | .hbm, ⟨81, _⟩ => ⟨S32x4x1, .f32⟩
  | .hbm, ⟨82, _⟩ => ⟨S_, .f32⟩
  | .hbm, ⟨83, _⟩ => ⟨S32x4x1, .f32⟩
  | .hbm, ⟨84, _⟩ => ⟨S32x4x1, .f32⟩
  | .hbm, ⟨85, _⟩ => ⟨S32x4x1, .f32⟩
  | .hbm, ⟨86, _⟩ => ⟨S32x4x1024, .f32⟩
  | .hbm, ⟨87, _⟩ => ⟨S32x4x1024, .f32⟩
  | .hbm, ⟨88, _⟩ => ⟨S1x1x1024, .f32⟩
  | .hbm, ⟨89, _⟩ => ⟨S32x4x1024, .f32⟩
  | .hbm, ⟨90, _⟩ => ⟨S32x4x1024, .f32⟩
  | .hbm, ⟨91, _⟩ => ⟨S4x32x1024, .f32⟩
  | .hbm, ⟨92, _⟩ => ⟨S128x1024, .f32⟩
  | .hbm, ⟨93, _⟩ => ⟨S2x32x5632, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_2 : Ref sig .tc := ⟨.hbm, 76, rfl⟩
abbrev main_v55 : Ref sig .tc := ⟨.hbm, 77, rfl⟩
abbrev main_v56 : Ref sig .tc := ⟨.hbm, 78, rfl⟩
abbrev main_cst_3 : Ref sig .tc := ⟨.hbm, 79, rfl⟩
abbrev main_v57 : Ref sig .tc := ⟨.hbm, 80, rfl⟩
abbrev main_v58 : Ref sig .tc := ⟨.hbm, 81, rfl⟩
abbrev main_cst_4 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== Proof.FfnRow.lean ====
/- The layer's feed-forward part at one row of its input, in plain extended-real arithmetic: what both the kernel's
   tiles and the reference's arrays come to, index by index. -/
module

public import Idealize.ShloMosaic.Lib.Pointwise

@[expose] public section

noncomputable section

namespace Cert.FfnRow

open Idealize.ShloMosaic

/-- A row of 1024 entries over its root mean square, entry `k`, times the weight of that entry. -/
def unit (X w : Fin 1024 → EReal) (k : Fin 1024) : EReal :=
  X k * Ideal.rsqrt (Ideal.div (∑ x, X x * X x) (Ideal.ofBits FTy.f32 1149239296#32) + Ideal.ofBits FTy.f32 897988541#32) * w k

/-- The first product of the row: the normed row times column `n` of the widening matrix. -/
def up (X w : Fin 1024 → EReal) (W : Fin 1024 → Fin 5632 → EReal) (n : Fin 5632) : EReal :=
  ∑ k, unit X w k * W k n

/-- The three-tap convolution over rows at one column: bias, then the taps on the row two back, one back, itself. -/
def conv (b c0 c1 c2 p2 p1 p0 : EReal) : EReal := b + c0 * p2 + c1 * p1 + c2 * p0

/-- The gate times its logistic, times the value beside it. -/
def gate (g u : EReal) : EReal := g * Ideal.div 1 (1 + Ideal.exp (0 - g)) * u

/-- A column of the convolution, from the three rows of first products it reads. -/
def convRow (cb : Fin 5632 → EReal) (cw : Fin 3 → Fin 5632 → EReal) (p2 p1 p0 : Fin 5632 → EReal) (n : Fin 5632) : EReal :=
  conv (cb n) (cw 0 n) (cw 1 n) (cw 2 n) (p2 n) (p1 n) (p0 n)

/-- A hidden entry: column `n` of the left half of the convolution gates column `n` of the right half. -/
def hidRow (C : Fin 5632 → EReal) (n : Fin 2816) : EReal :=
  gate (C ⟨n.val, by omega⟩) (C ⟨2816 + n.val, by omega⟩)

/-- The row plus the second product of its hidden entries. -/
def resRow (X : Fin 1024 → EReal) (H : Fin 2816 → EReal) (D : Fin 2816 → Fin 1024 → EReal) (k : Fin 1024) : EReal :=
  X k + ∑ n, H n * D n k

/-- The row the layer's end makes of a row: the residual sum over its root mean square. `p2`, `p1`, `p0` are the
    first products of the row two back, the row one back and the row itself. -/
def outRow (X : Fin 1024 → EReal) (cb : Fin 5632 → EReal) (cw : Fin 3 → Fin 5632 → EReal)
    (D : Fin 2816 → Fin 1024 → EReal) (fw : Fin 1024 → EReal) (p2 p1 p0 : Fin 5632 → EReal) (k : Fin 1024) : EReal :=
  unit (resRow X (hidRow (convRow cb cw p2 p1 p0)) D) fw k

/-- The first products of one batch behind two rows of zeros: padded row `s` is the batch's row `s - 2`. -/
def padRow (x : Fin 4096 → Fin 1024 → EReal) (w : Fin 1024 → EReal) (W : Fin 1024 → Fin 5632 → EReal) (s : Fin 4098) (n : Fin 5632) : EReal :=
  if h : s.val < 2 then 0 else up (x ⟨s.val - 2, by omega⟩) w W n

/-- The first result at row `s` of one batch. -/
def ffn (x : Fin 4096 → Fin 1024 → EReal) (w : Fin 1024 → EReal) (W : Fin 1024 → Fin 5632 → EReal)
    (cw : Fin 3 → Fin 5632 → EReal) (cb : Fin 5632 → EReal) (D : Fin 2816 → Fin 1024 → EReal) (fw : Fin 1024 → EReal)
    (s : Fin 4096) (k : Fin 1024) : EReal :=
  outRow (x s) cb cw D fw (padRow x w W ⟨s.val, by omega⟩) (padRow x w W ⟨1 + s.val, by omega⟩) (padRow x w W ⟨2 + s.val, by omega⟩) k

/-- The second result: the last two rows of first products of one batch. -/
def tailRow (x : Fin 4096 → Fin 1024 → EReal) (w : Fin 1024 → EReal) (W : Fin 1024 → Fin 5632 → EReal) (a : Fin 2) (n : Fin 5632) : EReal :=
  up (x ⟨4094 + a.val, by omega⟩) w W n

end Cert.FfnRow

end
-- ==== Proof.FfnRef.lean ====
/- The reference's two results, index by index, are the row arithmetic of FfnRow. -/
module

public import proofs.«01_k».proof.Proof.FfnRow
public import proofs.«01_k».proof.Proof.Gen.ReferenceIdeal.Run

@[expose] public section

noncomputable section

namespace Cert.ReferenceIdeal.Ffn

open Cert.ReferenceIdeal Cert.ReferenceIdeal.Gen Idealize.ShloMosaic Idealize.ShloMosaic.TcCoe Cert.FfnRow

/-- The norm over the last axis, as the reference spells it. -/
def rms (x : FVec Ideal S4x4096x1024 .f32) (w : FVec Ideal S1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 w))

/-- The first product. -/
def upA (x : FVec Ideal S4x4096x1024 .f32) (w : FVec Ideal S1x1024 .f32) (W : FVec Ideal S1x1024x5632 .f32) : FVec Ideal S4x4096x5632 .f32 :=
  Host.dotGeneral dot_S4x4096x1024_S1024x5632_S4x4096x5632_2_0_01_1_n_n none (rms x (shapeCast _ w shapeCasts_S1x1024_S1024)) (shapeCast _ W shapeCasts_S1x1024x5632_S1024x5632)

/-- The first product with two rows of zeros before each batch. -/
def cat (u : FVec Ideal S4x4096x5632 .f32) : FVec Ideal S4x4098x5632 .f32 :=
  concatenate S4x4098x5632 1 [⟨S4x2x5632, (broadcastInDim S4x2x5632 ![] bcast_S_S4x2x5632 (constant S_ .f32 0x00000000#32))⟩, ⟨S4x4096x5632, u⟩] concatenates_S4x2x5632_S4x4096x5632_S4x4098x5632_d1

/-- The convolution over rows. -/
def convA (u : FVec Ideal S4x4098x5632 .f32) (cw : FVec Ideal S1x3x5632 .f32) (cb : FVec Ideal S1x5632 .f32) : FVec Ideal S4x4096x5632 .f32 :=
  addf (addf (addf (broadcastInDim S4x4096x5632 ![0, 1, 2] bcast_S1x1x5632_S4x4096x5632_0_1_2 (broadcastInDim S1x1x5632 ![2] bcast_S5632_S1x1x5632_2 (shapeCast _ cb shapeCasts_S1x5632_S5632))) (mulf (broadcastInDim S4x4096x5632 ![0, 1, 2] bcast_S1x1x5632_S4x4096x5632_0_1_2 (broadcastInDim S1x1x5632 ![2] bcast_S5632_S1x1x5632_2 (shapeCast _ (extractStridedSlice S1x5632 ![0, 0] (shapeCast _ cw shapeCasts_S1x3x5632_S3x5632) slices_S3x5632_S1x5632_0_0) shapeCasts_S1x5632_S5632))) (extractStridedSlice S4x4096x5632 ![0, 0, 0] u slices_S4x4098x5632_S4x4096x5632_0_0_0))) (mulf (broadcastInDim S4x4096x5632 ![0, 1, 2] bcast_S1x1x5632_S4x4096x5632_0_1_2 (broadcastInDim S1x1x5632 ![2] bcast_S5632_S1x1x5632_2 (shapeCast _ (extractStridedSlice S1x5632 ![1, 0] (shapeCast _ cw shapeCasts_S1x3x5632_S3x5632) slices_S3x5632_S1x5632_1_0) shapeCasts_S1x5632_S5632))) (extractStridedSlice S4x4096x5632 ![0, 1, 0] u slices_S4x4098x5632_S4x4096x5632_0_1_0))) (mulf (broadcastInDim S4x4096x5632 ![0, 1, 2] bcast_S1x1x5632_S4x4096x5632_0_1_2 (broadcastInDim S1x1x5632 ![2] bcast_S5632_S1x1x5632_2 (shapeCast _ (extractStridedSlice S1x5632 ![2, 0] (shapeCast _ cw shapeCasts_S1x3x5632_S3x5632) slices_S3x5632_S1x5632_2_0) shapeCasts_S1x5632_S5632))) (extractStridedSlice S4x4096x5632 ![0, 2, 0] u slices_S4x4098x5632_S4x4096x5632_0_2_0))

/-- The hidden entries. -/
def hidA (C : FVec Ideal S4x4096x5632 .f32) : FVec Ideal S4x4096x2816 .f32 :=
  mulf (mulf (extractStridedSlice S4x4096x2816 ![0, 0, 0] C slices_S4x4096x5632_S4x4096x2816_0_0_0) (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf (extractStridedSlice S4x4096x2816 ![0, 0, 0] C slices_S4x4096x5632_S4x4096x2816_0_0_0)))))) (extractStridedSlice S4x4096x2816 ![0, 0, 2816] C slices_S4x4096x5632_S4x4096x2816_0_0_2816)

/-- The residual sum. -/
def resA (x : FVec Ideal S4x4096x1024 .f32) (H : FVec Ideal S4x4096x2816 .f32) (D : FVec Ideal S1x2816x1024 .f32) : FVec Ideal S4x4096x1024 .f32 :=
  addf x (Host.dotGeneral dot_S4x4096x2816_S2816x1024_S4x4096x1024_2_0_01_1_n_n none H (shapeCast _ D shapeCasts_S1x2816x1024_S2816x1024))

/-- The last two rows of the first product. -/
def tailA (x : FVec Ideal S4x4096x1024 .f32) (w : FVec Ideal S1x1024 .f32) (W : FVec Ideal S1x1024x5632 .f32) : FVec Ideal S4x2x5632 .f32 :=
  extractStridedSlice S4x2x5632 ![0, 4096, 0] (cat (upA x w W)) slices_S4x4098x5632_S4x2x5632_0_4096_0

/-- The whole first result. -/
def outA (x : FVec Ideal S4x4096x1024 .f32) (w : FVec Ideal S1x1024 .f32) (W : FVec Ideal S1x1024x5632 .f32) (cw : FVec Ideal S1x3x5632 .f32) (cb : FVec Ideal S1x5632 .f32) (D : FVec Ideal S1x2816x1024 .f32) (fw : FVec Ideal S1024 .f32) : FVec Ideal S16384x1024 .f32 :=
  shapeCast _ (rms (resA x (hidA (convA (cat (upA x w W)) cw cb)) D) fw) shapeCasts_S4x4096x1024_S16384x1024

/-- The run's first result is `outA` of the arguments. -/
theorem res_eq (m : (ℓ : Loc nD τ sig) → Buf (Elt Ideal) ℓ) (c : Dev nD) :
    Cert.ReferenceIdeal.Value.res_main_v64 m c = outA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

/-- The norm at one entry. -/
theorem rms_apply (x w i j k) : rms x w (ix3 i j k) = unit (fun k => x (ix3 i j k)) (fun k => w (ix1 k)) k := by
  pointwise [rms]
  rfl

/-- The first product at one entry. -/
theorem upA_apply (x w W i j n) : upA x w W (ix3 i j n)
    = up (fun k => x (ix3 i j k)) (fun k => w (ix2 0 k)) (fun k n => W (ix3 0 k n)) n := by
  pointwise [upA]
  simp only [rms_apply]
  unfold up
  refine Finset.sum_congr rfl fun k _ => ?_
  congr 2
  funext k
  pointwise []

/-- The padded first product at one entry. -/
theorem cat_apply (x w W) (i : Fin 4) (j : Fin 4098) (n : Fin 5632) : cat (upA x w W) (ix3 i j n)
    = padRow (fun s k => x (ix3 i s k)) (fun k => w (ix2 0 k)) (fun k n => W (ix3 0 k n)) j n := by
  pointwise [cat]
  unfold padRow
  simp only [upA_apply]

/-- The convolution at one entry. -/
theorem convA_apply (u w b) (i : Fin 4) (j : Fin 4096) (n : Fin 5632) : convA u w b (ix3 i j n)
    = convRow (fun n => b (ix2 0 n)) (fun a n => w (ix3 0 a n)) (fun n => u (ix3 i ⟨j.val, by omega⟩ n))
        (fun n => u (ix3 i ⟨1 + j.val, by omega⟩ n)) (fun n => u (ix3 i ⟨2 + j.val, by omega⟩ n)) n := by
  pointwise [convA]
  rfl

/-- The hidden entry. -/
theorem hidA_apply (u) (i : Fin 4) (j : Fin 4096) (n : Fin 2816) : hidA u (ix3 i j n) = hidRow (fun n => u (ix3 i j n)) n := by
  pointwise [hidA]
  unfold hidRow gate
  simp only [zero_sub]

/-- The residual sum at one entry. -/
theorem resA_apply (u h w) (i : Fin 4) (j : Fin 4096) (k : Fin 1024) : resA u h w (ix3 i j k)
    = resRow (fun k => u (ix3 i j k)) (fun n => h (ix3 i j n)) (fun n k => w (ix3 0 n k)) k := by
  pointwise [resA]
  rfl

/-- THE FIRST RESULT at row `q`, entry `k`: the row arithmetic of batch `q / 4096` at its row `q % 4096`. -/
theorem outA_apply (x w W cw cb D fw) (q : Fin 16384) (k : Fin 1024) : outA x w W cw cb D fw (ix2 q k)
    = ffn (fun s k => x (ix3 (⟨q.val / 4096, by omega⟩ : Fin 4) s k)) (fun k => w (ix2 0 k)) (fun k n => W (ix3 0 k n))
        (fun a n => cw (ix3 0 a n)) (fun n => cb (ix2 0 n)) (fun n k => D (ix3 0 n k)) (fun k => fw (ix1 k))
        ⟨q.val % 4096, by omega⟩ k := by
  pointwise [outA]
  simp only [rms_apply, resA_apply, hidA_apply, convA_apply, cat_apply]
  rfl

/-- THE SECOND RESULT at batch `i`, row `a`, column `n`. -/
theorem tailA_apply (x w W) (i : Fin 4) (a : Fin 2) (n : Fin 5632) : tailA x w W (ix3 i a n)
    = tailRow (fun s k => x (ix3 i s k)) (fun k => w (ix2 0 k)) (fun k n => W (ix3 0 k n)) a n := by
  pointwise [tailA]
  rw [cat_apply]
  unfold padRow tailRow
  rw [dif_neg (by dsimp only; omega)]
  congr 2
  ext
  dsimp only
  omega

end Cert.ReferenceIdeal.Ffn

end
-- ==== Proof.FfnTile.lean ====
/- What one tile of the kernel's body leaves, entry by entry, as the row arithmetic of FfnRow: the rows' payloads, and
   the reads that cross from the carried rows into the tile's own. -/
module

public import proofs.«01_k».proof.Proof.FfnRow
public import proofs.«01_k».proof.Proof.Gen.KernelIdeal.Frame
public import Idealize.ShloMosaic.Lib.Pipeline.ValueKit.Tiles

@[expose] public section

noncomputable section

namespace Cert.KernelIdeal.Ffn

open Cert.KernelIdeal Cert.KernelIdeal.Gen Idealize.ShloMosaic Idealize.ShloMosaic.TcCoe Cert.FfnRow

/-- The first product of a tile's row `r`. -/
def tileUp (x0 : Vec Ideal S512x1024 .f32) (x1 : Vec Ideal S1x1024 .f32) (x2 : Vec Ideal S1024x5632 .bf16) (r : Fin 512) (n : Fin 5632) : EReal :=
  up (fun k => x0 (ix2 r k)) (fun k => x1 (ix2 0 k)) (fun k n => x2 (ix2 k n)) n

/-- The scratch's row `q`: a carried row for `q` under 8, else the tile's own first product. -/
def prevRow (xs : Fin 8 → Fin 5632 → EReal) (U : Fin 512 → Fin 5632 → EReal) (q : Fin 520) (n : Fin 5632) : EReal :=
  if h : q.val < 8 then xs ⟨q.val, h⟩ n else U ⟨q.val - 8, by omega⟩ n

/-- A load of 512 rows of the scratch from row `o` reads the newest two pieces: carried rows, then the tile's. -/
theorem cross (v : View sig .tc .vmem S520x2816 .f32) (o : ℕ) (ho : o ≤ 8) (P : Vec Ideal S512x2816 .f32) (Q : Vec Ideal S8x2816 .f32)
    (L : List (View.Piece (Elt Ideal) S520x2816 .f32)) (i1 i2 i3) (r : Fin 512) (n : Fin 2816) :
    v.readCov ((⟨Rect.unit ![8, 0] ![512, 2816] i1, P⟩ : View.Piece (Elt Ideal) S520x2816 .f32) :: ⟨Rect.unit ![0, 0] ![8, 2816] i2, Q⟩ :: L)
      (Rect.unit (s := S520x2816) ![o, 0] ![512, 2816] i3).toLoadRect (ix2 r n)
    = if h : o + r.val < 8 then Q (ix2 ⟨o + r.val, h⟩ n) else P (ix2 ⟨o + r.val - 8, by omega⟩ n) := by
  rw [View.readCov_eq_canon']
  dsimp only
  split
  · rename_i h
    have e : (Rect.unit (s := S520x2816) ![o, 0] ![512, 2816] i3).toLoadRect.idx (ix2 r n)
        = (Rect.unit (s := S520x2816) ![0, 0] ![8, 2816] i2).emb (ix2 ⟨o + r.val, h⟩ n) := by
      funext a
      apply Fin.ext
      fin_cases a
      · show o + 1 * r.val = 0 + 1 * (o + r.val); omega
      · show 0 + 1 * n.val = 0 + 1 * n.val; rfl
    rw [View.canon_cons_of_not_mem]
    · rw [e, View.canon_cons_emb]
    · rw [Rect.mem_set_unit]
      intro h'
      have : 8 ≤ o + 1 * r.val := (h' 0).1
      omega
  · rename_i h
    have e : (Rect.unit (s := S520x2816) ![o, 0] ![512, 2816] i3).toLoadRect.idx (ix2 r n)
        = (Rect.unit (s := S520x2816) ![8, 0] ![512, 2816] i1).emb (ix2 ⟨o + r.val - 8, by omega⟩ n) := by
      funext a
      apply Fin.ext
      fin_cases a
      · show o + 1 * r.val = 8 + 1 * (o + r.val - 8); omega
      · show 0 + 1 * n.val = 0 + 1 * n.val; rfl
    rw [e, View.canon_cons_emb]

theorem pay4_apply (x0 : Vec Ideal S512x1024 .f32) (x1 : Vec Ideal S1x1024 .f32) (r : Fin 512) (k : Fin 1024) :
    k0_pay4 x0 x1 (ix2 r k) = unit (fun k => x0 (ix2 r k)) (fun k => x1 (ix2 0 k)) k := by
  pointwise [k0_pay4, k0_pay3]
  rfl

theorem pay6_apply (x0 : Vec Ideal S512x1024 .f32) (x1 : Vec Ideal S1x1024 .f32) (W : Vec Ideal S1024x2816 .bf16) (r : Fin 512) (n : Fin 2816) :
    k0_pay6 x0 x1 W (ix2 r n) = ∑ k, unit (fun k => x0 (ix2 r k)) (fun k => x1 (ix2 0 k)) k * W (ix2 k n) := by
  pointwise [k0_pay6]
  simp only [pay4_apply]

theorem pay8_apply (x0 : Vec Ideal S512x1024 .f32) (x1 : Vec Ideal S1x1024 .f32) (W : Vec Ideal S1024x2816 .bf16) (r : Fin 512) (n : Fin 2816) :
    k0_pay8 x0 x1 W (ix2 r n) = ∑ k, unit (fun k => x0 (ix2 r k)) (fun k => x1 (ix2 0 k)) k * W (ix2 k n) := by
  pointwise [k0_pay8]
  simp only [pay6_apply]

theorem pay13_apply (x0 : Vec Ideal S512x1024 .f32) (x1 : Vec Ideal S1x1024 .f32) (W : Vec Ideal S1024x2816 .bf16) (r : Fin 512) (n : Fin 2816) :
    k0_pay13 (k0_pay4 x0 x1) W (ix2 r n) = ∑ k, unit (fun k => x0 (ix2 r k)) (fun k => x1 (ix2 0 k)) k * W (ix2 k n) := by
  pointwise [k0_pay13]
  simp only [pay4_apply]

theorem pay15_apply (x0 : Vec Ideal S512x1024 .f32) (x1 : Vec Ideal S1x1024 .f32) (W : Vec Ideal S1024x2816 .bf16) (r : Fin 512) (n : Fin 2816) :
    k0_pay15 (k0_pay4 x0 x1) W (ix2 r n) = ∑ k, unit (fun k => x0 (ix2 r k)) (fun k => x1 (ix2 0 k)) k * W (ix2 k n) := by
  pointwise [k0_pay15]
  simp only [pay13_apply]

theorem pay19_apply (a b e f g u w1 b1 f1 g1) (r : Fin 512) (n : Fin 2816) :
    k0_pay19 (F := Ideal) (k0_pay10 a b e f g) u w1 b1 f1 g1 (ix2 r n)
      = gate (conv (e (ix2 0 n)) (b (ix2 0 n)) (b (ix2 1 n)) (b (ix2 2 n)) (f (ix2 r n)) (g (ix2 r n)) (a (ix2 r n)))
          (conv (b1 (ix2 0 n)) (w1 (ix2 0 n)) (w1 (ix2 1 n)) (w1 (ix2 2 n)) (f1 (ix2 r n)) (g1 (ix2 r n)) (u (ix2 r n))) := by
  pointwise [k0_pay19, k0_pay10]
  rfl

theorem pay2_apply (a b e f) (r : Fin 256) (k : Fin 1024) :
    k0_pay2 (F := Ideal) (k0_pay3 a) b e f (ix2 r k)
      = unit (resRow (fun k => a (ix2 ⟨256 + r.val, by omega⟩ k)) (fun n => b (ix2 ⟨256 + r.val, by omega⟩ n)) (fun n k => e (ix2 n k))) (fun k => f (ix2 0 k)) k := by
  pointwise [k0_pay2, k0_pay3]
  rfl

theorem pay1_apply (a b c d e f g h fw) (r : Fin 256) (k : Fin 1024) :
    k0_pay1 (F := Ideal) (k0_pay20 (k0_pay3 a) b c d e f g h) fw (ix2 r k)
      = unit (resRow (fun k => a (ix2 ⟨r.val, by omega⟩ k)) (fun n => k0_pay19 b c d e f g (ix2 ⟨r.val, by omega⟩ n)) (fun n k => h (ix2 n k))) (fun k => fw (ix2 0 k)) k := by
  pointwise [k0_pay1, k0_pay20, k0_pay3]
  rfl

theorem pay9_apply (a : _) (r : Fin 3) (k : Fin 2816) : k0_pay9 (F := Ideal) a (ix2 r k) = a (ix2 r k) := by
  pointwise [k0_pay9]

theorem pay16_apply (a : _) (r : Fin 3) (k : Fin 2816) : k0_pay16 (F := Ideal) a (ix2 r k) = a (ix2 r k) := by
  pointwise [k0_pay16]

theorem pay7_apply (a : _) (r : Fin 8) (k : Fin 2816) : k0_pay7 (F := Ideal) a (ix2 r k) = a (ix2 r k) := by
  pointwise [k0_pay7]

theorem pay14_apply (a : _) (r : Fin 8) (k : Fin 2816) : k0_pay14 (F := Ideal) a (ix2 r k) = a (ix2 r k) := by
  pointwise [k0_pay14]

theorem pay5_apply (r : Fin 8) (k : Fin 5632) : k0_pay5 (F := Ideal) (ix2 r k) = 0 := by
  pointwise [k0_pay5]

/-- The two pieces of the scratch while the left half of the columns is worked on: the newest first. -/
abbrev half (P : Vec Ideal S512x2816 .f32) (Q : Vec Ideal S8x2816 .f32) (L : List (View.Piece (Elt Ideal) S520x2816 .f32)) :
    List (View.Piece (Elt Ideal) S520x2816 .f32) :=
  (⟨Rect.unit ![8, 0] ![512, 2816] inb_S520x2816_S512x2816_8_0, P⟩ : View.Piece (Elt Ideal) S520x2816 .f32) ::
    ⟨Rect.unit ![0, 0] ![8, 2816] inb_S520x2816_S8x2816_0_0, Q⟩ :: L

/-- THE HIDDEN ENTRY of a tile's row `r`, whatever array `xs` the two carried pieces are halves of. -/
theorem hid_apply (v : View sig .tc .vmem S520x2816 .f32) (x0 : Vec Ideal S512x1024 .f32) (x1 : Vec Ideal S1x1024 .f32)
    (x2 : Vec Ideal S1024x5632 .bf16) (x3 : Vec Ideal S3x5632 .f32) (x4 : Vec Ideal S1x5632 .f32)
    (xs : Fin 8 → Fin 5632 → EReal) (Q Q' : Vec Ideal S8x2816 .f32) (L L')
    (hQ : ∀ (a : Fin 8) (n : Fin 2816), Q (ix2 a n) = xs a ⟨n.val, by omega⟩)
    (hQ' : ∀ (a : Fin 8) (n : Fin 2816), Q' (ix2 a n) = xs a ⟨2816 + n.val, by omega⟩) (r : Fin 512) (n : Fin 2816) :
    k0_pay19 (k0_pay10 (k0_pay6 x0 x1 (View.ld x2 (Rect.unit ![0, 0] ![1024, 2816] inb_S1024x5632_S1024x2816_0_0)))
          (k0_pay9 (View.ld x3 (Rect.unit ![0, 0] ![3, 2816] inb_S3x5632_S3x2816_0_0)))
          (View.ld x4 (Rect.unit ![0, 0] ![1, 2816] inb_S1x5632_S1x2816_0_0))
          (v.readCov (half (k0_pay8 x0 x1 (View.ld x2 (Rect.unit ![0, 0] ![1024, 2816] inb_S1024x5632_S1024x2816_0_0))) (k0_pay7 Q) L)
            (Rect.unit (s := S520x2816) ![6, 0] ![512, 2816] inb_S520x2816_S512x2816_6_0).toLoadRect)
          (v.readCov (half (k0_pay8 x0 x1 (View.ld x2 (Rect.unit ![0, 0] ![1024, 2816] inb_S1024x5632_S1024x2816_0_0))) (k0_pay7 Q) L)
            (Rect.unit (s := S520x2816) ![7, 0] ![512, 2816] inb_S520x2816_S512x2816_7_0).toLoadRect))
        (k0_pay13 (k0_pay4 x0 x1) (View.ld x2 (Rect.unit ![0, 2816] ![1024, 2816] inb_S1024x5632_S1024x2816_0_2816)))
        (k0_pay16 (View.ld x3 (Rect.unit ![0, 2816] ![3, 2816] inb_S3x5632_S3x2816_0_2816)))
        (View.ld x4 (Rect.unit ![0, 2816] ![1, 2816] inb_S1x5632_S1x2816_0_2816))
        (v.readCov (half (k0_pay15 (k0_pay4 x0 x1) (View.ld x2 (Rect.unit ![0, 2816] ![1024, 2816] inb_S1024x5632_S1024x2816_0_2816))) (k0_pay14 Q') L')
          (Rect.unit (s := S520x2816) ![6, 0] ![512, 2816] inb_S520x2816_S512x2816_6_0).toLoadRect)
        (v.readCov (half (k0_pay15 (k0_pay4 x0 x1) (View.ld x2 (Rect.unit ![0, 2816] ![1024, 2816] inb_S1024x5632_S1024x2816_0_2816))) (k0_pay14 Q') L')
          (Rect.unit (s := S520x2816) ![7, 0] ![512, 2816] inb_S520x2816_S512x2816_7_0).toLoadRect) (ix2 r n)
      = hidRow (convRow (fun n => x4 (ix2 0 n)) (fun a n => x3 (ix2 a n)) (prevRow xs (tileUp x0 x1 x2) ⟨6 + r.val, by omega⟩)
          (prevRow xs (tileUp x0 x1 x2) ⟨7 + r.val, by omega⟩) (tileUp x0 x1 x2 r)) n := by
  rw [pay19_apply]
  simp only [cross _ 6 (by decide), cross _ 7 (by decide), pay6_apply, pay8_apply, pay13_apply, pay15_apply, pay9_apply, pay16_apply, pay7_apply, pay14_apply, hQ, hQ']
  unfold hidRow convRow prevRow tileUp up
  pointwise []

end Cert.KernelIdeal.Ffn

end
-- ==== Proof.FfnCase.lean ====
/- What the kernel's body leaves at one grid point, in both of its cases: the output tile, the state rows and the carried
   rows, entry by entry, as the row arithmetic of FfnRow. -/
module

public import proofs.«01_k».proof.Proof.FfnTile

@[expose] public section

noncomputable section

namespace Cert.KernelIdeal.Ffn

open Cert.KernelIdeal Cert.KernelIdeal.Gen Idealize.ShloMosaic Idealize.ShloMosaic.TcCoe Cert.FfnRow

/-- Two stores of 256 rows each, read at one entry. -/
theorem two_rows (P Q : Vec Ideal S256x1024 .f32) (i1 i2) (r : Fin 512) (k : Fin 1024) :
    View.canon [(⟨Rect.unit ![256, 0] ![256, 1024] i1, P⟩ : View.Piece (Elt Ideal) S512x1024 .f32), ⟨Rect.unit ![0, 0] ![256, 1024] i2, Q⟩] (ix2 r k)
      = if h : r.val < 256 then Q (ix2 ⟨r.val, h⟩ k) else P (ix2 ⟨r.val - 256, by omega⟩ k) := by
  split
  · rename_i h
    have e : (ix2 r k : S512x1024.Idx) = (Rect.unit (s := S512x1024) ![0, 0] ![256, 1024] i2).emb (ix2 ⟨r.val, h⟩ k) := by
      funext a
      apply Fin.ext
      fin_cases a
      · show r.val = 0 + 1 * r.val; omega
      · show k.val = 0 + 1 * k.val; omega
    rw [View.canon_cons_of_not_mem]
    · rw [e, View.canon_cons_emb]
    · rw [Rect.mem_set_unit]
      intro h'
      have : 256 ≤ r.val := (h' 0).1
      omega
  · rename_i h
    have e : (ix2 r k : S512x1024.Idx) = (Rect.unit (s := S512x1024) ![256, 0] ![256, 1024] i1).emb (ix2 ⟨r.val - 256, by omega⟩ k) := by
      funext a
      apply Fin.ext
      fin_cases a
      · show r.val = 256 + 1 * (r.val - 256); omega
      · show k.val = 0 + 1 * k.val; omega
    rw [e, View.canon_cons_emb]

/-- Two stores of half the columns each, read at one entry. -/
theorem two_cols (P Q : Vec Ideal S8x2816 .f32) (L i1 i2) (a : Fin 8) (n : Fin 5632) :
    View.canon ((⟨Rect.unit ![0, 2816] ![8, 2816] i1, P⟩ : View.Piece (Elt Ideal) S8x5632 .f32) :: ⟨Rect.unit ![0, 0] ![8, 2816] i2, Q⟩ :: L) (ix2 a n)
      = if h : n.val < 2816 then Q (ix2 a ⟨n.val, h⟩) else P (ix2 a ⟨n.val - 2816, by omega⟩) := by
  split
  · rename_i h
    have e : (ix2 a n : S8x5632.Idx) = (Rect.unit (s := S8x5632) ![0, 0] ![8, 2816] i2).emb (ix2 a ⟨n.val, h⟩) := by
      funext b
      apply Fin.ext
      fin_cases b
      · show a.val = 0 + 1 * a.val; omega
      · show n.val = 0 + 1 * n.val; omega
    rw [View.canon_cons_of_not_mem]
    · rw [e, View.canon_cons_emb]
    · rw [Rect.mem_set_unit]
      intro h'
      have : 2816 ≤ n.val := (h' 1).1
      omega
  · rename_i h
    have e : (ix2 a n : S8x5632.Idx) = (Rect.unit (s := S8x5632) ![0, 2816] ![8, 2816] i1).emb (ix2 a ⟨n.val - 2816, by omega⟩) := by
      funext b
      apply Fin.ext
      fin_cases b
      · show a.val = 0 + 1 * a.val; omega
      · show n.val = 2816 + 1 * (n.val - 2816); omega
    rw [e, View.canon_cons_emb]

/-- The same for the two state rows. -/
theorem two_cols3 (P Q : Vec Ideal S1x2x2816 .f32) (i1 i2) (a : Fin 2) (n : Fin 5632) :
    View.canon [(⟨Rect.unit ![0, 0, 2816] ![1, 2, 2816] i1, P⟩ : View.Piece (Elt Ideal) S1x2x5632 .f32), ⟨Rect.unit ![0, 0, 0] ![1, 2, 2816] i2, Q⟩] (ix3 0 a n)
      = if h : n.val < 2816 then Q (ix3 0 a ⟨n.val, h⟩) else P (ix3 0 a ⟨n.val - 2816, by omega⟩) := by
  split
  · rename_i h
    have e : (ix3 0 a n : S1x2x5632.Idx) = (Rect.unit (s := S1x2x5632) ![0, 0, 0] ![1, 2, 2816] i2).emb (ix3 0 a ⟨n.val, h⟩) := by
      funext b
      apply Fin.ext
      fin_cases b
      · rfl
      · show a.val = 0 + 1 * a.val; omega
      · show n.val = 0 + 1 * n.val; omega
    rw [View.canon_cons_of_not_mem]
    · rw [e, View.canon_cons_emb]
    · rw [Rect.mem_set_unit]
      intro h'
      have : 2816 ≤ n.val := (h' 2).1
      omega
  · rename_i h
    have e : (ix3 0 a n : S1x2x5632.Idx) = (Rect.unit (s := S1x2x5632) ![0, 0, 2816] ![1, 2, 2816] i1).emb (ix3 0 a ⟨n.val - 2816, by omega⟩) := by
      funext b
      apply Fin.ext
      fin_cases b
      · rfl
      · show a.val = 0 + 1 * a.val; omega
      · show n.val = 2816 + 1 * (n.val - 2816); omega
    rw [e, View.canon_cons_emb]

theorem hz : (![0, 0] : Fin 2 → Nat) = fun _ => 0 := funext fun a => by fin_cases a <;> rfl

/-- The last rows of a tile's first product, left half of the columns. -/
theorem pay11_apply (x0 : Vec Ideal S512x1024 .f32) (x1 : Vec Ideal S1x1024 .f32) (W) (a : Fin 8) (n : Fin 2816) :
    k0_pay11 (k0_pay6 x0 x1 W) (ix2 a n) = ∑ k, unit (fun k => x0 (ix2 ⟨504 + a.val, by omega⟩ k)) (fun k => x1 (ix2 0 k)) k * W (ix2 k n) := by
  pointwise [k0_pay11]
  rw [pay6_apply]

/-- … right half. -/
theorem pay17_apply (x0 : Vec Ideal S512x1024 .f32) (x1 : Vec Ideal S1x1024 .f32) (W) (a : Fin 8) (n : Fin 2816) :
    k0_pay17 (k0_pay13 (k0_pay4 x0 x1) W) (ix2 a n) = ∑ k, unit (fun k => x0 (ix2 ⟨504 + a.val, by omega⟩ k)) (fun k => x1 (ix2 0 k)) k * W (ix2 k n) := by
  pointwise [k0_pay17]
  rw [pay13_apply]

/-- The last two rows, left half. -/
theorem pay12_apply (x0 : Vec Ideal S512x1024 .f32) (x1 : Vec Ideal S1x1024 .f32) (W) (a : Fin 2) (n : Fin 2816) :
    k0_pay12 (k0_pay6 x0 x1 W) (ix3 0 a n) = ∑ k, unit (fun k => x0 (ix2 ⟨510 + a.val, by omega⟩ k)) (fun k => x1 (ix2 0 k)) k * W (ix2 k n) := by
  pointwise [k0_pay12]
  rw [pay6_apply]

/-- The last two rows, right half. -/
theorem pay18_apply (x0 : Vec Ideal S512x1024 .f32) (x1 : Vec Ideal S1x1024 .f32) (W) (a : Fin 2) (n : Fin 2816) :
    k0_pay18 (k0_pay13 (k0_pay4 x0 x1) W) (ix3 0 a n) = ∑ k, unit (fun k => x0 (ix2 ⟨510 + a.val, by omega⟩ k)) (fun k => x1 (ix2 0 k)) k * W (ix2 k n) := by
  pointwise [k0_pay18]
  rw [pay13_apply]

/-- The right half of the zeroed carried rows, read after a store into the left half. -/
theorem zero_right (v : View sig .tc .vmem S8x5632 .f32) (P : Vec Ideal S8x2816 .f32) (a : Fin 8) (n : Fin 2816) :
    v.readCov [(⟨Rect.unit ![0, 0] ![8, 2816] inb_S8x5632_S8x2816_0_0, P⟩ : View.Piece (Elt Ideal) S8x5632 .f32), ⟨Rect.unit ![0, 0] ![8, 5632] inb_S8x5632_S8x5632_0_0, (k0_pay5 (F := Ideal))⟩]
      (Rect.unit (s := S8x5632) ![0, 2816] ![8, 2816] inb_S8x5632_S8x2816_0_2816).toLoadRect (ix2 a n) = 0 := by
  rw [View.readCov_eq_canon']
  dsimp only
  rw [View.canon_cons_of_not_mem]
  · rw [View.canon_unit_zero hz]
    pointwise [k0_pay5]
  · rw [Rect.mem_set_unit]
    intro h'
    have : 2816 + 1 * n.val < 0 + 2816 := (h' 1).2
    omega

/-- CASE A: the output tile at row `r`, entry `k`. -/
theorem out7_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x2x5632 .f32) (harg10 : arg10.IsWhole) (arg11 : Memref sig .tc .vmem S520x2816 .f32) (harg11 : arg11.IsWhole) (arg12 : Memref sig .tc .vmem S8x5632 .f32) (harg12 : arg12.IsWhole) (hc0 : cond0_0 i)
    (x0 : Vec Ideal S512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (r : Fin 512) (k : Fin 1024) :
    out0_A_7 c i arg2 harg2 arg3 harg3 arg4 harg4 arg5 harg5 arg6 harg6 arg7 harg7 arg8 harg8 arg9 harg9 arg10 harg10 arg11 harg11 arg12 harg12 hc0 x0 x1 x2 x3 x4 x5 x6 (ix2 r k)
      = outRow (fun k => x0 (ix2 r k)) (fun n => x4 (ix2 0 n)) (fun a n => x3 (ix2 a n)) (fun n k => x5 (ix2 n k)) (fun k => x6 (ix2 0 k))
          (prevRow (fun _ _ => 0) (tileUp x0 x1 x2) ⟨6 + r.val, by omega⟩) (prevRow (fun _ _ => 0) (tileUp x0 x1 x2) ⟨7 + r.val, by omega⟩)
          (tileUp x0 x1 x2 r) k := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, View.ld_unit_zero (S := S512x1024) hz, View.ld_unit_zero (S := S1x1024) hz, View.ld_unit_zero (S := S2816x1024) hz]
  rw [two_rows]
  split
  · rw [pay1_apply]
    unfold outRow
    congr 1
    congr 1
    funext n
    exact hid_apply arg11.view x0 x1 x2 x3 x4 (fun _ _ => 0) _ _ _ _ (fun a n => by rw [View.readCov_eq_canon']; dsimp only; rw [View.canon_unit_zero hz]; pointwise [k0_pay5]) (zero_right arg12.view _) r n
  · rename_i h
    rw [pay2_apply]
    have e : (⟨256 + (r.val - 256), by omega⟩ : Fin 512) = r := Fin.ext (by dsimp only; omega)
    simp only [e]
    unfold outRow
    congr 1
    congr 1
    funext n
    exact hid_apply arg11.view x0 x1 x2 x3 x4 (fun _ _ => 0) _ _ _ _ (fun a n => by rw [View.readCov_eq_canon']; dsimp only; rw [View.canon_unit_zero hz]; pointwise [k0_pay5]) (zero_right arg12.view _) r n

/-- CASE A: the state rows, row `a`, column `n`. -/
theorem out8_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x2x5632 .f32) (harg10 : arg10.IsWhole) (arg11 : Memref sig .tc .vmem S520x2816 .f32) (harg11 : arg11.IsWhole) (arg12 : Memref sig .tc .vmem S8x5632 .f32) (harg12 : arg12.IsWhole) (hc0 : cond0_0 i)
    (x0 : Vec Ideal S512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (a : Fin 2) (n : Fin 5632) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 (ix3 0 a n) = tileUp x0 x1 x2 ⟨510 + a.val, by omega⟩ n := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, View.ld_unit_zero (S := S512x1024) hz, View.ld_unit_zero (S := S1x1024) hz, View.ld_unit_zero (S := S2816x1024) hz]
  rw [two_cols3]
  unfold tileUp up
  split
  · rw [pay12_apply]
    pointwise []
  · rename_i h
    have e : (⟨2816 + (n.val - 2816), by omega⟩ : Fin 5632) = n := Fin.ext (by dsimp only; omega)
    rw [pay18_apply]
    pointwise []
    simp only [e]

/-- CASE A: the carried rows, row `a`, column `n`. -/
theorem sout1_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x2x5632 .f32) (harg10 : arg10.IsWhole) (arg11 : Memref sig .tc .vmem S520x2816 .f32) (harg11 : arg11.IsWhole) (arg12 : Memref sig .tc .vmem S8x5632 .f32) (harg12 : arg12.IsWhole) (hc0 : cond0_0 i)
    (x0 : Vec Ideal S512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (a : Fin 8) (n : Fin 5632) :
    sout0_A_1 c i arg2 harg2 arg3 harg3 arg4 harg4 arg5 harg5 arg6 harg6 arg7 harg7 arg8 harg8 arg9 harg9 arg10 harg10 arg11 harg11 arg12 harg12 hc0 x0 x1 x2 x3 x4 x5 x6 (ix2 a n) = tileUp x0 x1 x2 ⟨504 + a.val, by omega⟩ n := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, View.ld_unit_zero (S := S512x1024) hz, View.ld_unit_zero (S := S1x1024) hz, View.ld_unit_zero (S := S2816x1024) hz]
  rw [two_cols]
  unfold tileUp up
  split
  · rw [pay11_apply]
    pointwise []
  · rename_i h
    have e : (⟨2816 + (n.val - 2816), by omega⟩ : Fin 5632) = n := Fin.ext (by dsimp only; omega)
    rw [pay17_apply]
    pointwise []
    simp only [e]

/-- CASE B: the output tile at row `r`, entry `k`. -/
theorem out7_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x2x5632 .f32) (harg10 : arg10.IsWhole) (arg11 : Memref sig .tc .vmem S520x2816 .f32) (harg11 : arg11.IsWhole) (arg12 : Memref sig .tc .vmem S8x5632 .f32) (harg12 : arg12.IsWhole) (hc0 : ¬cond0_0 i)
    (x0 : Vec Ideal S512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (xs1 : Vec Ideal S8x5632 .f32) (r : Fin 512) (k : Fin 1024) :
    out0_B_7 c i arg2 harg2 arg3 harg3 arg4 harg4 arg5 harg5 arg6 harg6 arg7 harg7 arg8 harg8 arg9 harg9 arg10 harg10 arg11 harg11 arg12 harg12 hc0 x0 x1 x2 x3 x4 x5 x6 xs1 (ix2 r k)
      = outRow (fun k => x0 (ix2 r k)) (fun n => x4 (ix2 0 n)) (fun a n => x3 (ix2 a n)) (fun n k => x5 (ix2 n k)) (fun k => x6 (ix2 0 k))
          (prevRow (fun a n => xs1 (ix2 a n)) (tileUp x0 x1 x2) ⟨6 + r.val, by omega⟩) (prevRow (fun a n => xs1 (ix2 a n)) (tileUp x0 x1 x2) ⟨7 + r.val, by omega⟩)
          (tileUp x0 x1 x2 r) k := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 hc0 x0 x1 x2 x3 x4 x5 x6 xs1)]
  unfold kernelRun0_B
  dsimp only
  sl_unfold_words
  simp only [View.readAt_eq_ld, harg2.read_unread, harg3.read_unread, harg4.read_unread, harg5.read_unread, harg6.read_unread, harg7.read_unread, harg8.read_unread, harg12.read_unread, View.ld_unit_zero (S := S512x1024) hz, View.ld_unit_zero (S := S1x1024) hz, View.ld_unit_zero (S := S2816x1024) hz]
  rw [two_rows]
  split
  · rw [pay1_apply]
    unfold outRow
    congr 1
    congr 1
    funext n
    exact hid_apply arg11.view x0 x1 x2 x3 x4 (fun a n => xs1 (ix2 a n)) _ _ _ _ (fun a n => by pointwise []) (fun a n => by pointwise []) r n
  · rename_i h
    rw [pay2_apply]
    have e : (⟨256 + (r.val - 256), by omega⟩ : Fin 512) = r := Fin.ext (by dsimp only; omega)
    simp only [e]
    unfold outRow
    congr 1
    congr 1
    funext n
    exact hid_apply arg11.view x0 x1 x2 x3 x4 (fun a n => xs1 (ix2 a n)) _ _ _ _ (fun a n => by pointwise []) (fun a n => by pointwise []) r n

/-- CASE B: the state rows, row `a`, column `n`. -/
theorem out8_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x2x5632 .f32) (harg10 : arg10.IsWhole) (arg11 : Memref sig .tc .vmem S520x2816 .f32) (harg11 : arg11.IsWhole) (arg12 : Memref sig .tc .vmem S8x5632 .f32) (harg12 : arg12.IsWhole) (hc0 : ¬cond0_0 i)
    (x0 : Vec Ideal S512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (xs1 : Vec Ideal S8x5632 .f32) (a : Fin 2) (n : Fin 5632) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 xs1 (ix3 0 a n) = tileUp x0 x1 x2 ⟨510 + a.val, by omega⟩ n := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 xs1)]
  unfold kernelRun0_B
  dsimp only
  sl_unfold_words
  simp only [View.readAt_eq_ld, harg2.read_unread, harg3.read_unread, harg4.read_unread, harg5.read_unread, harg6.read_unread, harg7.read_unread, harg8.read_unread, harg12.read_unread, View.ld_unit_zero (S := S512x1024) hz, View.ld_unit_zero (S := S1x1024) hz, View.ld_unit_zero (S := S2816x1024) hz]
  rw [two_cols3]
  unfold tileUp up
  split
  · rw [pay12_apply]
    pointwise []
  · rename_i h
    have e : (⟨2816 + (n.val - 2816), by omega⟩ : Fin 5632) = n := Fin.ext (by dsimp only; omega)
    rw [pay18_apply]
    pointwise []
    simp only [e]

/-- CASE B: the carried rows, row `a`, column `n`. -/
theorem sout1_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x2x5632 .f32) (harg10 : arg10.IsWhole) (arg11 : Memref sig .tc .vmem S520x2816 .f32) (harg11 : arg11.IsWhole) (arg12 : Memref sig .tc .vmem S8x5632 .f32) (harg12 : arg12.IsWhole) (hc0 : ¬cond0_0 i)
    (x0 : Vec Ideal S512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (xs1 : Vec Ideal S8x5632 .f32) (a : Fin 8) (n : Fin 5632) :
    sout0_B_1 c i arg2 harg2 arg3 harg3 arg4 harg4 arg5 harg5 arg6 harg6 arg7 harg7 arg8 harg8 arg9 harg9 arg10 harg10 arg11 harg11 arg12 harg12 hc0 x0 x1 x2 x3 x4 x5 x6 xs1 (ix2 a n) = tileUp x0 x1 x2 ⟨504 + a.val, by omega⟩ n := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 x0 x1 x2 x3 x4 x5 x6 xs1)]
  unfold kernelRun0_B
  dsimp only
  sl_unfold_words
  simp only [View.readAt_eq_ld, harg2.read_unread, harg3.read_unread, harg4.read_unread, harg5.read_unread, harg6.read_unread, harg7.read_unread, harg8.read_unread, harg12.read_unread, View.ld_unit_zero (S := S512x1024) hz, View.ld_unit_zero (S := S1x1024) hz, View.ld_unit_zero (S := S2816x1024) hz]
  rw [two_cols]
  unfold tileUp up
  split
  · rw [pay11_apply]
    pointwise []
  · rename_i h
    have e : (⟨2816 + (n.val - 2816), by omega⟩ : Fin 5632) = n := Fin.ext (by dsimp only; omega)
    rw [pay17_apply]
    pointwise []
    simp only [e]

end Cert.KernelIdeal.Ffn

end
-- ==== Proof.FfnKernel.lean ====
/- The kernel's two result arrays, index by index, are the row arithmetic of FfnRow of the arguments. -/
module

public import proofs.«01_k».proof.Proof.FfnCase
public import proofs.«01_k».proof.Proof.Gen.KernelIdeal.Value
public import Idealize.ShloMosaic.Lib.Pipeline.ValueKit.Point

@[expose] public section

noncomputable section

namespace Cert.KernelIdeal.Ffn

open Cert.KernelIdeal Cert.KernelIdeal.Gen Cert.KernelIdeal.Value Idealize.ShloMosaic Idealize.ShloMosaic.TcCoe Cert.FfnRow

variable (m : (ℓ : Loc nD τ sig) → Buf (Elt Ideal) ℓ) (c : Dev nD)

/-- The block indices of the first input window, decided over the grid: the point's tile of 512 rows. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Input window 1 is at its whole array at every point. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Input window 2 is at its whole array at every point. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Input window 3 is at its whole array at every point. -/
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Input window 4 is at its whole array at every point. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Input window 5 is at its whole array at every point. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Input window 6 is at its whole array at every point. -/
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- A row of the point's tile is a row of the first argument. -/
theorem blk0 (t : Fin cfg0.N) (r : Fin 512) (k : Fin 1024) (b : Fin 4) (s : Fin 4096) (h : t.val * 512 + r.val = b.val * 4096 + s.val) :
    (iblk m c 0 t : Vec Ideal S512x1024 .f32) (ix2 r k) = m ((c : Thread nD τ).loc main_arg0) (ix3 b s k) := by
  have hi := idx0 t
  blk_ext! [iblk, V, hi]

/-- Input window 1's block is argument 1. -/
theorem blk1 (t : Fin cfg0.N) (k : Fin 1024) :
    (iblk m c 1 t : Vec Ideal S1x1024 .f32) (ix2 0 k) = m ((c : Thread nD τ).loc main_arg1) (ix2 0 k) := by
  have hi := idx1 t
  blk_ext! [iblk, V, hi]

/-- Input window 2's block is argument 2. -/
theorem blk2 (t : Fin cfg0.N) (k : Fin 1024) (n : Fin 5632) :
    (iblk m c 2 t : Vec Ideal S1024x5632 .bf16) (ix2 k n) = m ((c : Thread nD τ).loc main_arg2) (ix3 0 k n) := by
  have hi := idx2 t
  blk_ext! [iblk, V, hi]

/-- Input window 3's block is argument 3. -/
theorem blk3 (t : Fin cfg0.N) (k : Fin 3) (n : Fin 5632) :
    (iblk m c 3 t : Vec Ideal S3x5632 .f32) (ix2 k n) = m ((c : Thread nD τ).loc main_arg3) (ix3 0 k n) := by
  have hi := idx3 t
  blk_ext! [iblk, V, hi]

/-- Input window 4's block is argument 4. -/
theorem blk4 (t : Fin cfg0.N) (n : Fin 5632) :
    (iblk m c 4 t : Vec Ideal S1x5632 .f32) (ix2 0 n) = m ((c : Thread nD τ).loc main_arg4) (ix2 0 n) := by
  have hi := idx4 t
  blk_ext! [iblk, V, hi]

/-- Input window 5's block is argument 5. -/
theorem blk5 (t : Fin cfg0.N) (n : Fin 2816) (k : Fin 1024) :
    (iblk m c 5 t : Vec Ideal S2816x1024 .bf16) (ix2 n k) = m ((c : Thread nD τ).loc main_arg5) (ix3 0 n k) := by
  have hi := idx5 t
  blk_ext! [iblk, V, hi]

/-- Input window 6's block is argument 6. -/
theorem blk6 (t : Fin cfg0.N) (k : Fin 1024) :
    (iblk m c 6 t : Vec Ideal S1x1024 .f32) (ix2 0 k) = m ((c : Thread nD τ).loc main_arg6) (ix1 k) := by
  have hi := idx6 t
  blk_ext! [iblk, V, hi]

/-- The arguments, as the row arithmetic takes them. -/
abbrev aX (b : Fin 4) (s : Fin 4096) (k : Fin 1024) : EReal := m ((c : Thread nD τ).loc main_arg0) (ix3 b s k)
abbrev aN (k : Fin 1024) : EReal := m ((c : Thread nD τ).loc main_arg1) (ix2 0 k)
abbrev aW (k : Fin 1024) (n : Fin 5632) : EReal := m ((c : Thread nD τ).loc main_arg2) (ix3 0 k n)
abbrev aC (a : Fin 3) (n : Fin 5632) : EReal := m ((c : Thread nD τ).loc main_arg3) (ix3 0 a n)
abbrev aB (n : Fin 5632) : EReal := m ((c : Thread nD τ).loc main_arg4) (ix2 0 n)
abbrev aD (n : Fin 2816) (k : Fin 1024) : EReal := m ((c : Thread nD τ).loc main_arg5) (ix3 0 n k)
abbrev aF (k : Fin 1024) : EReal := m ((c : Thread nD τ).loc main_arg6) (ix1 k)

/-- The first product of row `r` of point `t`'s tile. -/
abbrev tU (t : Fin cfg0.N) : Fin 512 → Fin 5632 → EReal := tileUp (iblk m c 0 t) (iblk m c 1 t) (iblk m c 2 t)

/-- It is the first product of the row of the argument the tile's row is. -/
theorem tU_eq (t : Fin cfg0.N) (r : Fin 512) (b : Fin 4) (s : Fin 4096) (h : t.val * 512 + r.val = b.val * 4096 + s.val) :
    tU m c t r = up (aX m c b s) (aN m c) (aW m c) := by
  funext n
  unfold tU tileUp
  have e0 := fun k => blk0 m c t r k b s h
  have e1 := blk1 m c t
  have e2 := blk2 m c t
  simp only [e0, e1, e2]

/-- What the point leaves in the carried rows: the last eight of its tile's first products. -/
theorem carry (t : Fin cfg0.N) (a : Fin 8) (n : Fin 5632) :
    (outsAt0 m c t.val t.isLt).2.2 (ix2 a n) = tU m c t ⟨504 + a.val, by omega⟩ n := by
  by_cases h0 : t.val % 8 = 0
  · have hz : cond0_0 (grid0.coords t) := (hcond0_0 t).mpr h0
    rw [outsAt0_A m c t h0]
    dsimp only
    have e := sout1_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hz (iblk m c 0 t) (iblk m c 1 t) (iblk m c 2 t) (iblk m c 3 t) (iblk m c 4 t) (iblk m c 5 t) (iblk m c 6 t) a n
    unfold tU
    exact e
  · have hz : ¬cond0_0 (grid0.coords t) := fun h => h0 ((hcond0_0 t).mp h)
    rw [outsAt0_B m c t h0]
    dsimp only
    have e := sout1_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hz (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2 a n
    unfold tU
    exact e

/-- What it leaves in the state's rows: the last two. -/
theorem state (t : Fin cfg0.N) (a : Fin 2) (n : Fin 5632) :
    (outsAt0 m c t.val t.isLt).2.1 (ix3 0 a n) = tU m c t ⟨510 + a.val, by omega⟩ n := by
  by_cases h0 : t.val % 8 = 0
  · have hz : cond0_0 (grid0.coords t) := (hcond0_0 t).mpr h0
    rw [outsAt0_A m c t h0]
    dsimp only
    have e := out8_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hz (iblk m c 0 t) (iblk m c 1 t) (iblk m c 2 t) (iblk m c 3 t) (iblk m c 4 t) (iblk m c 5 t) (iblk m c 6 t) a n
    unfold tU
    exact e
  · have hz : ¬cond0_0 (grid0.coords t) := fun h => h0 ((hcond0_0 t).mp h)
    rw [outsAt0_B m c t h0]
    dsimp only
    have e := out8_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hz (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2 a n
    unfold tU
    exact e

/-- The scratch's row `q` at the first tile of a batch: padded row `q - 6` of the batch. -/
theorem prev_A (t : Fin cfg0.N) (h0 : t.val % 8 = 0) (b : Fin 4) (hb : t.val / 8 = b.val) (q : Fin 520) (p : Fin 4098) (hp : p.val + 6 = q.val) :
    prevRow (fun _ _ => 0) (tU m c t) q = padRow (aX m c b) (aN m c) (aW m c) p := by
  funext n
  unfold prevRow padRow
  by_cases h : q.val < 8
  · rw [dif_pos h, dif_pos (by omega)]
  · rw [dif_neg h, dif_neg (by omega), tU_eq m c t _ b ⟨p.val - 2, by omega⟩ (by dsimp only; omega)]

/-- … and at a later tile: the carried rows are the tile before's last. -/
theorem prev_B (t : Fin cfg0.N) (h0 : ¬t.val % 8 = 0) (b : Fin 4) (hb : t.val / 8 = b.val) (q : Fin 520) (p : Fin 4098)
    (h6 : 6 ≤ q.val) (hp : p.val + 6 = 512 * (t.val % 8) + q.val) :
    prevRow (fun a n => (outsAt0 m c (t.val - 1) (Nat.lt_of_le_of_lt (Nat.sub_le _ _) t.isLt)).2.2 (ix2 a n)) (tU m c t) q
      = padRow (aX m c b) (aN m c) (aW m c) p := by
  funext n
  unfold prevRow padRow
  rw [dif_neg (show ¬p.val < 2 by omega)]
  by_cases h : q.val < 8
  · rw [dif_pos h]
    refine (carry m c ⟨t.val - 1, Nat.lt_of_le_of_lt (Nat.sub_le _ _) t.isLt⟩ _ n).trans ?_
    rw [tU_eq m c _ _ b ⟨p.val - 2, by omega⟩ (by dsimp only; omega)]
  · rw [dif_neg h, tU_eq m c t _ b ⟨p.val - 2, by omega⟩ (by dsimp only; omega)]

/-- What the point leaves in the output tile, row `r`: the layer's row of its batch. -/
theorem tile (t : Fin cfg0.N) (r : Fin 512) (k : Fin 1024) (b : Fin 4) (hb : t.val / 8 = b.val) (s : Fin 4096) (hs : s.val = 512 * (t.val % 8) + r.val) :
    (outsAt0 m c t.val t.isLt).1 (ix2 r k) = ffn (aX m c b) (aN m c) (aW m c) (aC m c) (aB m c) (aD m c) (aF m c) s k := by
  have hU := tU_eq m c t r b s (by omega)
  have hP : tU m c t r = padRow (aX m c b) (aN m c) (aW m c) ⟨2 + s.val, by omega⟩ := by
    rw [hU]
    funext n
    unfold padRow
    rw [dif_neg (by dsimp only; omega)]
    congr 2
    ext
    dsimp only
    omega
  have e0 := fun k => blk0 m c t r k b s (by omega)
  have e3 := blk3 m c t
  have e4 := blk4 m c t
  have e5 := blk5 m c t
  have e6 := blk6 m c t
  by_cases h0 : t.val % 8 = 0
  · have hz : cond0_0 (grid0.coords t) := (hcond0_0 t).mpr h0
    rw [outsAt0_A m c t h0]
    dsimp only
    have e := out7_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hz (iblk m c 0 t) (iblk m c 1 t) (iblk m c 2 t) (iblk m c 3 t) (iblk m c 4 t) (iblk m c 5 t) (iblk m c 6 t) r k
    refine e.trans ?_
    clear e
    unfold ffn
    simp only [e0, e3, e4, e5, e6]
    have q6 := prev_A m c t h0 b hb ⟨6 + r.val, by omega⟩ ⟨s.val, by omega⟩ (by dsimp only; omega)
    have q7 := prev_A m c t h0 b hb ⟨7 + r.val, by omega⟩ ⟨1 + s.val, by omega⟩ (by dsimp only; omega)
    unfold tU at hP q6 q7
    rw [hP, q6, q7]
  · have hz : ¬cond0_0 (grid0.coords t) := fun h => h0 ((hcond0_0 t).mp h)
    rw [outsAt0_B m c t h0]
    dsimp only
    have e := out7_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hz (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2 r k
    refine e.trans ?_
    clear e
    unfold ffn
    simp only [e0, e3, e4, e5, e6]
    have q6 := prev_B m c t h0 b hb ⟨6 + r.val, by omega⟩ ⟨s.val, by omega⟩ (by dsimp only; omega) (by dsimp only; omega)
    have q7 := prev_B m c t h0 b hb ⟨7 + r.val, by omega⟩ ⟨1 + s.val, by omega⟩ (by dsimp only; omega) (by dsimp only; omega)
    unfold tU at hP q6 q7
    rw [hP, q6, q7]

/-- THE FIRST RESULT ARRAY at row `q`, entry `k`. -/
theorem G7_apply (q : Fin 16384) (k : Fin 1024) :
    (G7 m c : S16384x1024.Idx → EReal) (ix2 q k)
      = ffn (aX m c ⟨q.val / 4096, by omega⟩) (aN m c) (aW m c) (aC m c) (aB m c) (aD m c) (aF m c) ⟨q.val % 4096, by omega⟩ k := by
  have hN : cfg0.N = 32 := N_0
  have hp : pt7Of (ix2 q k) = q.val / 512 := by
    show 1 * (q.val / 512 - 0) + 1 * (k.val / 1024 - 0) = q.val / 512
    omega
  have hl : loc7Of (ix2 q k) = ix2 (⟨q.val % 512, Nat.mod_lt _ (by decide)⟩ : Fin 512) k := by
    funext a
    apply Fin.ext
    fin_cases a
    · rfl
    · show k.val % 1024 = k.val
      omega
  have ht : q.val / 512 < cfg0.N := by omega
  unfold G7
  rw [dif_pos (by rw [hp]; exact ht), ← outsAt0_sweep m c _ (by rw [hp]; exact ht), hl]
  simp only [hp]
  exact tile m c ⟨q.val / 512, ht⟩ _ k _ (by dsimp only; omega) _ (by dsimp only; omega)

/-- THE SECOND RESULT ARRAY at batch `b`, row `a`, column `n`. -/
theorem G8_apply (b : Fin 4) (a : Fin 2) (n : Fin 5632) :
    (G8 m c : S4x2x5632.Idx → EReal) (ix3 b a n) = tailRow (aX m c b) (aN m c) (aW m c) a n := by
  have hN : cfg0.N = 32 := N_0
  have hp : pt8Of (ix3 b a n) = 8 * b.val + 7 := by
    show 8 * (1 * (b.val / 1 - 0) + 1 * (a.val / 2 - 0) + 1 * (n.val / 5632 - 0)) + 7 = 8 * b.val + 7
    omega
  have hl : loc8Of (ix3 b a n) = ix3 (0 : Fin 1) a n := by
    funext x
    apply Fin.ext
    fin_cases x
    · show b.val % 1 = 0
      omega
    · show a.val % 2 = a.val
      omega
    · show n.val % 5632 = n.val
      omega
  have ht : 8 * b.val + 7 < cfg0.N := by omega
  unfold G8
  rw [dif_pos (by rw [hp]; exact ht), ← outsAt0_sweep m c _ (by rw [hp]; exact ht), hl]
  simp only [hp]
  refine (state m c ⟨8 * b.val + 7, ht⟩ a n).trans ?_
  unfold tailRow
  rw [tU_eq m c _ _ b ⟨4094 + a.val, by omega⟩ (by dsimp only; omega)]

end Cert.KernelIdeal.Ffn

end
-- ==== Proof.FfnEq.lean ====
/- The kernel's result arrays are the reference's: both are the row arithmetic of FfnRow at every index. -/
module

public import proofs.«01_k».proof.Proof.FfnRef
public import proofs.«01_k».proof.Proof.FfnKernel

@[expose] public section

noncomputable section

namespace Cert.FfnEq

open Cert Idealize.ShloMosaic Idealize.ShloMosaic.TcCoe Cert.FfnRow

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- At equal arguments, the reference's first result is the kernel's first output array. -/
theorem out (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    :
    ReferenceIdeal.Value.res_main_v64 m' c = KernelIdeal.Value.G7 m c := by
  rw [ReferenceIdeal.Ffn.res_eq m' c]
  refine funext fun (i : KernelIdeal.S16384x1024.Idx) => ?_
  have hi : i = ix2 (i 0) (i 1) := by
    funext a
    fin_cases a <;> rfl
  rw [hi]
  refine (ReferenceIdeal.Ffn.outA_apply _ _ _ _ _ _ _ (i 0) (i 1)).trans ?_
  rw [h0, h1, h2, h3, h4, h5, h6]
  exact (KernelIdeal.Ffn.G7_apply m c (i 0) (i 1)).symm

/-- At equal arguments, the reference's second result is the kernel's second output array. -/
theorem tail (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    :
    ReferenceIdeal.Ffn.tailA (m' ((c.tc : Thread ReferenceIdeal.nD ReferenceIdeal.τ).loc ReferenceIdeal.main_arg0)) (m' ((c.tc : Thread ReferenceIdeal.nD ReferenceIdeal.τ).loc ReferenceIdeal.main_arg1)) (m' ((c.tc : Thread ReferenceIdeal.nD ReferenceIdeal.τ).loc ReferenceIdeal.main_arg2)) = KernelIdeal.Value.G8 m c := by
  refine funext fun (i : KernelIdeal.S4x2x5632.Idx) => ?_
  have hi : i = ix3 (i 0) (i 1) (i 2) := by
    funext a
    fin_cases a <;> rfl
  rw [hi]
  refine (ReferenceIdeal.Ffn.tailA_apply _ _ _ (i 0) (i 1) (i 2)).trans ?_
  rw [h0, h1, h2]
  exact (KernelIdeal.Ffn.G8_apply m c (i 0) (i 1) (i 2)).symm

end Cert.FfnEq

end
-- ==== Proof.CrossRow.lean ====
/- The layer's cross-attention part at one row of its input, in plain extended-real arithmetic: what the kernel's tiles
   come to, what the reference's arrays come to, and that the two are one number where the scores are finite. -/
module

public import proofs.«01_k».proof.Proof.FfnRow

@[expose] public section

noncomputable section

namespace Cert.CrossRow

open Idealize.ShloMosaic Cert.FfnRow

/-- The word of one sixteenth, the scores' scale. -/
abbrev scale : EReal := Ideal.ofBits FTy.f32 1031798784#32

/-- The word of minus infinity, where a largest entry starts from. -/
abbrev low : EReal := Ideal.ofBits FTy.f32 4286578688#32

/-- The row after the mixers, in the kernel's order: the row, plus one half's product, plus the other half's. -/
def mixRow (X : Fin 1024 → EReal) (A B : Fin 512 → EReal) (W : Fin 1024 → Fin 1024 → EReal) (k : Fin 1024) : EReal :=
  (X k + ∑ j : Fin 512, A j * W ⟨j.val, by omega⟩ k) + ∑ j : Fin 512, B j * W ⟨512 + j.val, by omega⟩ k

/-- The row times a matrix. -/
def rowDot (X : Fin 1024 → EReal) (W : Fin 1024 → Fin 1024 → EReal) (n : Fin 1024) : EReal := ∑ k, X k * W k n

/-- The largest of a head's scores. -/
def peak (s : Fin 256 → EReal) : EReal := Finset.fold max low s Finset.univ

/-- A head's output as the kernel computes it: the weighted sum first, the division last. -/
def headK (s v : Fin 256 → EReal) : EReal :=
  Ideal.div (∑ j, Ideal.exp (s j - peak s) * v j) (∑ j, Ideal.exp (s j - peak s))

/-- A head's output as the reference computes it: the shares first. -/
def headR (s v : Fin 256 → EReal) : EReal :=
  ∑ j, v j * Ideal.div (Ideal.exp (s j - max low (peak s))) (∑ j, Ideal.exp (s j - max low (peak s)))

/-- The column where head `h` keeps its entry `d`. -/
abbrev col (h : Fin 4) (d : Fin 256) : Fin 1024 := ⟨h.val * 256 + d.val, by omega⟩

/-- The head of a column. -/
abbrev hd (n : Fin 1024) : Fin 4 := ⟨n.val / 256, by omega⟩

/-- A head's scores as the kernel computes them: the query is scaled. -/
def scoreK (q : Fin 1024 → EReal) (K : Fin 256 → Fin 1024 → EReal) (h : Fin 4) (j : Fin 256) : EReal :=
  ∑ d, (q (col h d) * scale) * K j (col h d)

/-- A head's scores as the reference computes them: the product is scaled. -/
def scoreR (q : Fin 1024 → EReal) (K : Fin 256 → Fin 1024 → EReal) (h : Fin 4) (j : Fin 256) : EReal :=
  (∑ d, q (col h d) * K j (col h d)) * scale

/-- The row of queries. -/
def query (X : Fin 1024 → EReal) (w : Fin 1024 → EReal) (Q : Fin 1024 → Fin 1024 → EReal) (n : Fin 1024) : EReal :=
  rowDot (unit X w) Q n

/-- The kernel's result at one row, from the row after the mixers. -/
def outK (X w : Fin 1024 → EReal) (Q : Fin 1024 → Fin 1024 → EReal) (K V : Fin 256 → Fin 1024 → EReal) (C : Fin 1024 → Fin 1024 → EReal)
    (k : Fin 1024) : EReal :=
  X k + rowDot (fun n => headK (scoreK (query X w Q) K (hd n)) (fun j => V j n)) C k

/-- The reference's result at one row, from the row after the mixers. -/
def outR (X w : Fin 1024 → EReal) (Q : Fin 1024 → Fin 1024 → EReal) (K V : Fin 256 → Fin 1024 → EReal) (C : Fin 1024 → Fin 1024 → EReal)
    (k : Fin 1024) : EReal :=
  X k + rowDot (fun n => headR (scoreR (query X w Q) K (hd n)) (fun j => V j n)) C k

/-- A finite extended real. -/
def Num (a : EReal) : Prop := ∃ r : ℝ, a = (r : EReal)

theorem Num.add {a b : EReal} (ha : Num a) (hb : Num b) : Num (a + b) := by
  obtain ⟨r, rfl⟩ := ha; obtain ⟨s, rfl⟩ := hb; exact ⟨r + s, (EReal.coe_add r s).symm⟩

theorem Num.mul {a b : EReal} (ha : Num a) (hb : Num b) : Num (a * b) := by
  obtain ⟨r, rfl⟩ := ha; obtain ⟨s, rfl⟩ := hb; exact ⟨r * s, (EReal.coe_mul r s).symm⟩

theorem Num.sum {ι : Type*} {f : ι → EReal} (s : Finset ι) (h : ∀ i, Num (f i)) : Num (∑ i ∈ s, f i) := by
  classical
  induction s using Finset.induction_on with
  | empty => exact ⟨0, by simp⟩
  | insert a s ha ih => rw [Finset.sum_insert ha]; exact (h a).add ih

/-- A sum times a finite number that is at least zero is the sum of the products. -/
theorem sum_mul_real {ι : Type*} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

theorem scale_eq : scale = ((1 / 16 : ℝ) : EReal) := by
  simp [Ideal.ofBits, Ideal.ieee, -EReal.coe_mul]
  norm_num

theorem low_eq : low = ⊥ := by
  simp [Ideal.ofBits, Ideal.ieee]

theorem scoreK_eq (q K h) : scoreK q K h = scoreR q K h := by
  funext j
  unfold scoreK scoreR
  rw [scale_eq, sum_mul_real _ _ _ (by norm_num)]
  refine Finset.sum_congr rfl fun d _ => ?_
  rw [mul_assoc, mul_comm _ (K j _), ← mul_assoc]

theorem width_eq : Ideal.ofBits FTy.f32 1149239296#32 = ((1024 : ℝ) : EReal) := by
  simp [Ideal.ofBits, Ideal.ieee, -EReal.coe_mul]
  norm_num

theorem eps_pos : ∃ e : ℝ, 0 < e ∧ Ideal.ofBits FTy.f32 897988541#32 = (e : EReal) := by
  refine ⟨_, ?_, by simp [Ideal.ofBits, Ideal.ieee, -EReal.coe_mul]; rfl⟩
  norm_num

theorem Num.coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite row over its root mean square, times finite weights, is finite: what is under the root is positive. -/
theorem unit_num_of_num (X w : Fin 1024 → EReal) (hX : ∀ k, Num (X k)) (hw : ∀ k, Num (w k)) (k : Fin 1024) : Num (unit X w k) := by
  unfold unit
  refine ((hX k).mul ?_).mul (hw k)
  choose x hx using hX
  obtain ⟨e, he, heq⟩ := eps_pos
  have h1 : (∑ i, X i * X i) = ((∑ i, x i * x i : ℝ) : EReal) := by
    rw [← Num.coe_sum]
    refine Finset.sum_congr rfl fun i _ => ?_
    rw [hx i, EReal.coe_mul]
  have h2 : (0 : ℝ) ≤ ∑ i, x i * x i := Finset.sum_nonneg fun i _ => mul_self_nonneg _
  have h3 : Ideal.div (((∑ i, x i * x i : ℝ)) : EReal) ((1024 : ℝ) : EReal) = (((∑ i, x i * x i) * (1024 : ℝ)⁻¹ : ℝ) : EReal) := by
    unfold Ideal.div
    rw [if_neg (by norm_num), ← EReal.coe_inv, ← EReal.coe_mul]
  rw [h1, width_eq, h3, heq, ← EReal.coe_add, Ideal.rsqrt_coe]
  have h4 : 0 < (∑ i, x i * x i) * (1024 : ℝ)⁻¹ + e := by positivity
  rw [if_neg (not_lt.2 h4.le), if_neg h4.ne']
  exact ⟨_, rfl⟩

/-- An infinite entry's square is infinite. -/
theorem sq_top (a : EReal) (h : ¬Num a) : a * a = ⊤ := by
  induction a using EReal.rec with
  | bot => exact EReal.bot_mul_bot
  | coe r => exact absurd ⟨r, rfl⟩ h
  | top => exact EReal.top_mul_top

/-- A square is not negative. -/
theorem sq_nonneg (a : EReal) : 0 ≤ a * a := by
  induction a using EReal.rec with
  | bot => rw [EReal.bot_mul_bot]; exact le_top
  | coe r => rw [← EReal.coe_mul]; exact_mod_cast mul_self_nonneg r
  | top => rw [EReal.top_mul_top]; exact le_top

/-- A row over its root mean square, times finite weights, is finite whatever the row: over an infinite entry the
    root's inverse is zero. -/
theorem unit_num (X w : Fin 1024 → EReal) (hw : ∀ k, Num (w k)) (k : Fin 1024) : Num (unit X w k) := by
  by_cases hX : ∀ k, Num (X k)
  · exact unit_num_of_num X w hX hw k
  · obtain ⟨i, hi⟩ := not_forall.1 hX
    have h1 : (∑ i, X i * X i) = ⊤ := by
      refine top_le_iff.1 ?_
      rw [← sq_top (X i) hi]
      exact Finset.single_le_sum (f := fun i => X i * X i) (fun j _ => sq_nonneg (X j)) (Finset.mem_univ i)
    obtain ⟨e, he, heq⟩ := eps_pos
    have h2 : Ideal.div ⊤ ((1024 : ℝ) : EReal) = ⊤ := by
      unfold Ideal.div
      rw [if_neg (by norm_num), ← EReal.coe_inv]
      exact EReal.top_mul_coe_of_pos (by norm_num)
    unfold unit
    rw [h1, width_eq, h2, heq, EReal.top_add_coe, Ideal.rsqrt_top, mul_zero, zero_mul]
    exact ⟨0, rfl⟩

theorem query_num (X w Q) (hw : ∀ k, Num (w k)) (hQ : ∀ k n, Num (Q k n)) (n : Fin 1024) : Num (query X w Q n) := by
  unfold query rowDot
  exact Num.sum _ fun k => (unit_num X w hw k).mul (hQ k n)

theorem scoreR_num (q K) (hq : ∀ n, Num (q n)) (hK : ∀ j n, Num (K j n)) (h : Fin 4) (j : Fin 256) : Num (scoreR q K h j) :=
  (Num.sum _ fun _ => (hq _).mul (hK _ _)).mul ⟨_, scale_eq⟩

/-- The largest of finite scores is finite. -/
theorem peak_num (s : Fin 256 → EReal) (hs : ∀ j, Num (s j)) : Num (peak s) := by
  have key : ∀ S : Finset (Fin 256), Finset.fold max low s S = ⊥ ∨ Num (Finset.fold max low s S) := by
    intro S
    induction S using Finset.induction_on with
    | empty => left; rw [Finset.fold_empty]; exact low_eq
    | insert a S ha ih =>
      right
      rw [Finset.fold_insert ha]
      rcases ih with h | h
      · rw [h, max_bot_right]; exact hs a
      · rcases max_choice (s a) (Finset.fold max low s S) with e | e <;> rw [e]
        · exact hs a
        · exact h
  unfold peak
  rw [← Finset.insert_erase (Finset.mem_univ (0 : Fin 256)), Finset.fold_insert (Finset.notMem_erase _ _)]
  rcases key (Finset.univ.erase 0) with h | h
  · rw [h, max_bot_right]; exact hs 0
  · rcases max_choice (s 0) (Finset.fold max low s (Finset.univ.erase 0)) with e | e <;> rw [e]
    · exact hs 0
    · exact h

/-- Over finite scores, the division may come first or last, whatever the values are. -/
theorem head_eq (s v : Fin 256 → EReal) (hs : ∀ j, Num (s j)) : headK s v = headR s v := by
  obtain ⟨M, hM⟩ := peak_num s hs
  choose r hr using hs
  unfold headK headR
  have hp : ∀ j, Ideal.exp (s j - peak s) = ((Real.exp (r j - M) : ℝ) : EReal) := by
    intro j
    rw [hr j, hM, ← EReal.coe_sub, Ideal.exp_coe]
  have hm : max low (peak s) = peak s := by rw [low_eq]; exact max_bot_left _
  rw [hm]
  simp only [hp]
  rw [Num.coe_sum]
  have hl : (0 : ℝ) < ∑ j, Real.exp (r j - M) := Finset.sum_pos (fun _ _ => Real.exp_pos _) ⟨0, Finset.mem_univ _⟩
  have hd : ∀ x : EReal, Ideal.div x ((∑ j, Real.exp (r j - M) : ℝ) : EReal) = x * (((∑ j, Real.exp (r j - M))⁻¹ : ℝ) : EReal) := by
    intro x
    unfold Ideal.div
    rw [if_neg (by exact_mod_cast hl.ne'), EReal.coe_inv]
  rw [hd, sum_mul_real _ _ _ (inv_nonneg.2 hl.le)]
  refine Finset.sum_congr rfl fun j _ => ?_
  rw [hd, mul_comm ((Real.exp (r j - M) : ℝ) : EReal) (v j), mul_assoc]

/-- The two results of a row agree where what the scores are made of is finite. -/
theorem out_eq (X w Q K V C) (hw : ∀ k, Num (w k)) (hQ : ∀ k n, Num (Q k n)) (hK : ∀ j n, Num (K j n)) :
    outK X w Q K V C = outR X w Q K V C := by
  funext k
  unfold outK outR
  have e : (fun n => headK (scoreK (query X w Q) K (hd n)) (fun j => V j n)) = fun n => headR (scoreR (query X w Q) K (hd n)) (fun j => V j n) := by
    funext n
    rw [scoreK_eq]
    exact head_eq _ _ fun j => scoreR_num _ _ (query_num X w Q hw hQ) hK _ j
  rw [e]

end Cert.CrossRow

end
-- ==== Proof.CrossRef.lean ====
/- The reference's result, stage by stage and then index by index, is the row arithmetic of CrossRow of its arguments. -/
module

public import proofs.«01_k».proof.Proof.CrossRow
public import proofs.«01_k».proof.Proof.Gen.Reference2Ideal.Run

@[expose] public section

noncomputable section

namespace Cert.Reference2Ideal.Cross

open Cert.Reference2Ideal Cert.Reference2Ideal.Gen Idealize.ShloMosaic Idealize.ShloMosaic.TcCoe Cert.FfnRow Cert.CrossRow

/-- The norm over the last axis, as the reference spells it. -/
def rms (x : FVec Ideal S4x4096x1024 .f32) (w : FVec Ideal S1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 w))

/-- A product of rows with a weight that has a leading axis of length one. -/
def dotA (x : FVec Ideal S4x4096x1024 .f32) (W : FVec Ideal S1x1024x1024 .f32) : FVec Ideal S4x4096x1024 .f32 :=
  Host.dotGeneral dot_S4x4096x1024_S1024x1024_S4x4096x1024_2_0_01_1_n_n none x (shapeCast _ W shapeCasts_S1x1024x1024_S1024x1024)

/-- The rows after the mixers. -/
def mixA (x : FVec Ideal S4x4096x1024 .f32) (a b : FVec Ideal S4x4096x512 .f32) (W : FVec Ideal S1x1024x1024 .f32) : FVec Ideal S4x4096x1024 .f32 :=
  addf x (dotA (concatenate S4x4096x1024 2 [⟨S4x4096x512, a⟩, ⟨S4x4096x512, b⟩] concatenates_S4x4096x512_S4x4096x512_S4x4096x1024_d2) W)

/-- The scores of every head. -/
def scoreA (q : FVec Ideal S4x4096x1024 .f32) (mk : FVec Ideal S4x256x4x256 .f32) : FVec Ideal S4x4x4096x256 .f32 :=
  mulf (Host.dotGeneral dot_S4x4096x4x256_S4x256x4x256_S4x4x4096x256_3_3_1_1_02_02 none (shapeCast _ q shapeCasts_S4x4096x1024_S4x4096x4x256) mk) (broadcastInDim S4x4x4096x256 ![] bcast_S_S4x4x4096x256 (constant S_ .f32 0x3D800000#32))

/-- The largest score of every row. -/
def peakA (s : FVec Ideal S4x4x4096x256 .f32) : FVec Ideal S4x4x4096 .f32 :=
  Host.reduce FloatOps.maximumf s (constant S_ .f32 0xFF800000#32) reducesTo_S4x4x4096x256_S4x4x4096_d3 h_S_

/-- The scores' exponentials, over the largest. -/
def expA (s : FVec Ideal S4x4x4096x256 .f32) (p : FVec Ideal S4x4x4096 .f32) : FVec Ideal S4x4x4096x256 .f32 :=
  Host.exp (subf s (broadcastInDim S4x4x4096x256 ![0, 1, 2, 3] bcast_S4x4x4096x1_S4x4x4096x256_0_1_2_3 (broadcastInDim S4x4x4096x1 ![0, 1, 2] bcast_S4x4x4096_S4x4x4096x1_0_1_2 (maximumf (broadcastInDim S4x4x4096 ![] bcast_S_S4x4x4096 (constant S_ .f32 0xFF800000#32)) p))))

/-- The shares: the exponentials over their sum. -/
def shareA (p : FVec Ideal S4x4x4096x256 .f32) : FVec Ideal S4x4x4096x256 .f32 :=
  Host.divf p (broadcastInDim S4x4x4096x256 ![0, 1, 2, 3] bcast_S4x4x4096x1_S4x4x4096x256_0_1_2_3 (broadcastInDim S4x4x4096x1 ![0, 1, 2] bcast_S4x4x4096_S4x4x4096x1_0_1_2 (Host.reduceAdd p (constant S_ .f32 0x00000000#32) reducesTo_S4x4x4096x256_S4x4x4096_d3 h_S_)))

/-- The heads' outputs, beside each other. -/
def headA (p : FVec Ideal S4x4x4096x256 .f32) (mv : FVec Ideal S4x256x4x256 .f32) : FVec Ideal S4x4096x1024 .f32 :=
  shapeCast _ (transpose S4x4096x4x256 [0, 3, 1, 2] (Host.dotGeneral dot_S4x256x4x256_S4x4x4096x256_S4x4x256x4096_1_3_3_2_02_01 none mv p) transposes_S4x4x256x4096_S4x4096x4x256_0_3_1_2) shapeCasts_S4x4096x4x256_S4x4096x1024

/-- The heads' outputs from the scores. -/
def attA (s : FVec Ideal S4x4x4096x256 .f32) (mv : FVec Ideal S4x256x4x256 .f32) : FVec Ideal S4x4096x1024 .f32 :=
  headA (shareA (expA s (peakA s))) mv

/-- The scores from the rows after the mixers. -/
def scoresA (y : FVec Ideal S4x4096x1024 .f32) (w : FVec Ideal S1x1024 .f32) (Wq : FVec Ideal S1x1024x1024 .f32) (mk : FVec Ideal S4x256x4x256 .f32) : FVec Ideal S4x4x4096x256 .f32 :=
  scoreA (dotA (rms y (shapeCast _ w shapeCasts_S1x1024_S1024)) Wq) mk

/-- The result from the rows after the mixers. -/
def sumA (y : FVec Ideal S4x4096x1024 .f32) (w : FVec Ideal S1x1024 .f32) (Wq : FVec Ideal S1x1024x1024 .f32) (mk mv : FVec Ideal S4x256x4x256 .f32) (Wc : FVec Ideal S1x1024x1024 .f32) : FVec Ideal S4x4096x1024 .f32 :=
  addf y (dotA (attA (scoresA y w Wq mk) mv) Wc)

/-- The whole result. -/
def outA (x : FVec Ideal S4x4096x1024 .f32) (a b : FVec Ideal S4x4096x512 .f32) (Wo : FVec Ideal S1x1024x1024 .f32) (w : FVec Ideal S1x1024 .f32) (Wq : FVec Ideal S1x1024x1024 .f32) (mk mv : FVec Ideal S4x256x4x256 .f32) (Wc : FVec Ideal S1x1024x1024 .f32) : FVec Ideal S16384x1024 .f32 :=
  shapeCast _ (sumA (mixA x a b Wo) w Wq mk mv Wc) shapeCasts_S4x4096x1024_S16384x1024

/-- The run's result is `outA` of the arguments. -/
theorem res_eq (m : (ℓ : Loc nD τ sig) → Buf (Elt Ideal) ℓ) (c : Dev nD) :
    Cert.Reference2Ideal.Value.res_main_v41 m c = outA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := rfl

/-- The norm at one entry. -/
theorem rms_apply (x w i j k) : rms x w (ix3 i j k) = unit (fun k => x (ix3 i j k)) (fun k => w (ix1 k)) k := by
  pointwise [rms]
  rfl

/-- The product at one entry. -/
theorem dotA_apply (x W) (i : Fin 4) (s : Fin 4096) (n : Fin 1024) :
    dotA x W (ix3 i s n) = rowDot (fun k => x (ix3 i s k)) (fun k n => W (ix3 0 k n)) n := by
  pointwise [dotA]
  rfl

/-- The row after the mixers at one entry. -/
theorem mixA_apply (x a b W) (i : Fin 4) (s : Fin 4096) (k : Fin 1024) : mixA x a b W (ix3 i s k)
    = mixRow (fun k => x (ix3 i s k)) (fun k => a (ix3 i s k)) (fun k => b (ix3 i s k)) (fun k n => W (ix3 0 k n)) k := by
  pointwise [mixA]
  simp only [dotA_apply]
  unfold rowDot
  pointwise []
  exact (add_assoc _ _ _).symm

/-- A score at one entry. -/
theorem scoreA_apply (q mk) (i : Fin 4) (h : Fin 4) (s : Fin 4096) (j : Fin 256) : scoreA q mk (ix4 i h s j)
    = scoreR (fun n => q (ix3 i s n)) (fun j n => mk (ix4 i j ⟨n.val / 256, by omega⟩ ⟨n.val % 256, by omega⟩)) h j := by
  pointwise [scoreA]
  unfold scoreR
  congr 1
  refine Finset.sum_congr rfl fun d _ => ?_
  congr 2
  congr 1 <;> apply Fin.ext <;> dsimp only <;> omega

/-- The largest score at one entry. -/
theorem peakA_apply (q) (i : Fin 4) (h : Fin 4) (s : Fin 4096) : peakA q (ix3 i h s) = peak (fun j => q (ix4 i h s j)) := by
  unfold peak
  pointwise [peakA]

/-- An exponential at one entry. -/
theorem expA_apply (q p) (i : Fin 4) (h : Fin 4) (s : Fin 4096) (j : Fin 256) : expA q p (ix4 i h s j)
    = Ideal.exp (q (ix4 i h s j) - max low (p (ix3 i h s))) := by
  pointwise [expA]

/-- A share at one entry. -/
theorem shareA_apply (q) (i : Fin 4) (h : Fin 4) (s : Fin 4096) (j : Fin 256) : shareA q (ix4 i h s j)
    = Ideal.div (q (ix4 i h s j)) (∑ j, q (ix4 i h s j)) := by
  pointwise [shareA]

/-- A head's output at one entry. -/
theorem headA_apply (p mv) (i : Fin 4) (s : Fin 4096) (n : Fin 1024) : headA p mv (ix3 i s n)
    = ∑ j, mv (ix4 i j ⟨n.val / 256, by omega⟩ ⟨n.val % 256, by omega⟩) * p (ix4 i (hd n) s j) := by
  pointwise [headA]

/-- A head's output from the scores at one entry. -/
theorem attA_apply (S mv) (i : Fin 4) (s : Fin 4096) (n : Fin 1024) : attA S mv (ix3 i s n)
    = headR (fun j => S (ix4 i (hd n) s j)) (fun j => mv (ix4 i j ⟨n.val / 256, by omega⟩ ⟨n.val % 256, by omega⟩)) := by
  unfold attA headR
  simp only [headA_apply, shareA_apply, expA_apply, peakA_apply]

/-- A score from the rows after the mixers, at one entry. -/
theorem scoresA_apply (y w Wq mk) (i : Fin 4) (h : Fin 4) (s : Fin 4096) (j : Fin 256) : scoresA y w Wq mk (ix4 i h s j)
    = scoreR (query (fun k => y (ix3 i s k)) (fun k => w (ix2 0 k)) (fun k n => Wq (ix3 0 k n)))
        (fun j n => mk (ix4 i j ⟨n.val / 256, by omega⟩ ⟨n.val % 256, by omega⟩)) h j := by
  unfold scoresA
  rw [scoreA_apply]
  congr 1
  funext n
  unfold query
  rw [dotA_apply]
  congr 1
  funext k
  rw [rms_apply]
  congr 1
  funext k
  pointwise []

/-- The result from the rows after the mixers, at one entry. -/
theorem sumA_apply (y w Wq mk mv Wc) (i : Fin 4) (s : Fin 4096) (k : Fin 1024) : sumA y w Wq mk mv Wc (ix3 i s k)
    = outR (fun k => y (ix3 i s k)) (fun k => w (ix2 0 k)) (fun k n => Wq (ix3 0 k n))
        (fun j n => mk (ix4 i j ⟨n.val / 256, by omega⟩ ⟨n.val % 256, by omega⟩))
        (fun j n => mv (ix4 i j ⟨n.val / 256, by omega⟩ ⟨n.val % 256, by omega⟩)) (fun k n => Wc (ix3 0 k n)) k := by
  have e : sumA y w Wq mk mv Wc (ix3 i s k) = y (ix3 i s k) + dotA (attA (scoresA y w Wq mk) mv) Wc (ix3 i s k) := by
    pointwise [sumA]
  rw [e, dotA_apply]
  unfold outR
  congr 2
  funext n
  rw [attA_apply]
  congr 1
  funext j
  rw [scoresA_apply]

/-- The whole result at one entry. -/
theorem outA_apply (x a b Wo w Wq mk mv Wc) (i : Fin 4) (s : Fin 4096) (q : Fin 16384) (hq : q.val = i.val * 4096 + s.val) (k : Fin 1024) :
    outA x a b Wo w Wq mk mv Wc (ix2 q k)
    = outR (mixRow (fun k => x (ix3 i s k)) (fun k => a (ix3 i s k)) (fun k => b (ix3 i s k)) (fun k n => Wo (ix3 0 k n)))
        (fun k => w (ix2 0 k)) (fun k n => Wq (ix3 0 k n))
        (fun j n => mk (ix4 i j ⟨n.val / 256, by omega⟩ ⟨n.val % 256, by omega⟩))
        (fun j n => mv (ix4 i j ⟨n.val / 256, by omega⟩ ⟨n.val % 256, by omega⟩)) (fun k n => Wc (ix3 0 k n)) k := by
  have e : outA x a b Wo w Wq mk mv Wc (ix2 q k) = sumA (mixA x a b Wo) w Wq mk mv Wc (ix3 ⟨q.val / 4096, by omega⟩ ⟨q.val % 4096, by omega⟩ k) := by
    pointwise [outA]
  have hi : (⟨q.val / 4096, by omega⟩ : Fin 4) = i := by apply Fin.ext; dsimp only; omega
  have hs : (⟨q.val % 4096, by omega⟩ : Fin 4096) = s := by apply Fin.ext; dsimp only; omega
  rw [e, hi, hs, sumA_apply]
  congr 1
  funext k
  rw [mixA_apply]

end Cert.Reference2Ideal.Cross

end
-- ==== Proof.CrossTile.lean ====
/- What the kernel's body leaves at one grid point, entry by entry, as the row arithmetic of CrossRow. -/
module

public import proofs.«01_k».proof.Proof.CrossRow
public import proofs.«01_k».proof.Proof.Gen.Kernel2Ideal.Frame
public import Idealize.ShloMosaic.Lib.Pipeline.ValueKit.Tiles

@[expose] public section

noncomputable section

namespace Cert.Kernel2Ideal.Cross

open Cert.Kernel2Ideal Cert.Kernel2Ideal.Gen Idealize.ShloMosaic Idealize.ShloMosaic.TcCoe Cert.FfnRow Cert.CrossRow

/-- The offset of a whole rectangle is zero on both axes. -/
theorem hz : (![0, 0] : Fin 2 → Nat) = fun _ => 0 := funext fun a => by fin_cases a <;> rfl

/-- The row after the mixers at one entry. -/
theorem pay3_apply (v0 : Vec Ideal S1024x1024 .f32) (v2 : Vec Ideal S1024x512 .bf16) (v4 : Vec Ideal S512x1024 .bf16) (v8 : Vec Ideal S1024x512 .bf16) (v10 : Vec Ideal S512x1024 .bf16) (r : Fin 1024) (k : Fin 1024) :
    k0_pay3 v0 v2 v4 v8 v10 (ix2 r k) = (v0 (ix2 r k) + ∑ j : Fin 512, v2 (ix2 r j) * v4 (ix2 j k)) + ∑ j : Fin 512, v8 (ix2 r j) * v10 (ix2 j k) := by
  pointwise [k0_pay3]

/-- A scaled query at one entry. -/
theorem pay4_apply (v0 : Vec Ideal S1024x1024 .f32) (v2 : Vec Ideal S1024x512 .bf16) (v4 : Vec Ideal S512x1024 .bf16) (v8 : Vec Ideal S1024x512 .bf16) (v10 : Vec Ideal S512x1024 .bf16) (v14 : Vec Ideal S1x1024 .f32) (v29 : Vec Ideal S1024x1024 .bf16) (r : Fin 1024) (n : Fin 1024) :
    k0_pay4 v0 v2 v4 v8 v10 v14 v29 (ix2 r n)
      = query (fun k => k0_pay3 v0 v2 v4 v8 v10 (ix2 r k)) (fun k => v14 (ix2 0 k)) (fun k n => v29 (ix2 k n)) n * scale := by
  unfold query rowDot unit
  pointwise [k0_pay4]

/-- The first head's queries. -/
theorem pay5_apply (v0 : Vec Ideal S1024x1024 .f32) (v2 : Vec Ideal S1024x512 .bf16) (v4 : Vec Ideal S512x1024 .bf16) (v8 : Vec Ideal S1024x512 .bf16) (v10 : Vec Ideal S512x1024 .bf16) (v14 : Vec Ideal S1x1024 .f32) (v29 : Vec Ideal S1024x1024 .bf16) (r : Fin 1024) (d : Fin 256) :
    k0_pay5 v0 v2 v4 v8 v10 v14 v29 (ix2 r d) = k0_pay4 v0 v2 v4 v8 v10 v14 v29 (ix2 r ⟨d.val, by omega⟩) := by
  pointwise [k0_pay5]

/-- Head 0 at one entry. -/
theorem pay6_apply (q : FVec Ideal S1024x256 .bf16) (a b : Vec Ideal S256x256 .bf16) (r : Fin 1024) (d : Fin 256) :
    k0_pay6 q a b (ix2 r d) = headK (fun j => ∑ e : Fin 256, q (ix2 r e) * a (ix2 j e)) (fun j => b (ix2 j d)) := by
  unfold headK peak
  pointwise [k0_pay6]

/-- Head 1 at one entry. -/
theorem pay7_apply (q : FVec Ideal S1024x1024 .bf16) (a b : Vec Ideal S256x256 .bf16) (r : Fin 1024) (d : Fin 256) :
    k0_pay7 q a b (ix2 r d) = headK (fun j => ∑ e : Fin 256, q (ix2 r ⟨256 + e.val, by omega⟩) * a (ix2 j e)) (fun j => b (ix2 j d)) := by
  unfold headK peak
  pointwise [k0_pay7]

/-- Head 2 at one entry. -/
theorem pay9_apply (q : FVec Ideal S1024x1024 .bf16) (a b : Vec Ideal S256x256 .bf16) (r : Fin 1024) (d : Fin 256) :
    k0_pay9 q a b (ix2 r d) = headK (fun j => ∑ e : Fin 256, q (ix2 r ⟨512 + e.val, by omega⟩) * a (ix2 j e)) (fun j => b (ix2 j d)) := by
  unfold headK peak
  pointwise [k0_pay9]

/-- Head 3 at one entry. -/
theorem pay10_apply (q : FVec Ideal S1024x1024 .bf16) (a b : Vec Ideal S256x256 .bf16) (r : Fin 1024) (d : Fin 256) :
    k0_pay10 q a b (ix2 r d) = headK (fun j => ∑ e : Fin 256, q (ix2 r ⟨768 + e.val, by omega⟩) * a (ix2 j e)) (fun j => b (ix2 j d)) := by
  unfold headK peak
  pointwise [k0_pay10]

theorem pay8_apply (q : FVec Ideal S1024x256 .bf16) (r : Fin 1024) (d : Fin 256) : k0_pay8 q (ix2 r d) = q (ix2 r d) := by
  pointwise [k0_pay8]

theorem pay1_apply (q : FVec Ideal S1024x256 .bf16) (r : Fin 1024) (d : Fin 256) : k0_pay1 q (ix2 r d) = q (ix2 r d) := by
  pointwise [k0_pay1]

/-- The result at one entry. -/
theorem pay2_apply (x : FVec Ideal S1024x1024 .f32) (o w : Vec Ideal S1024x1024 .bf16) (r : Fin 1024) (k : Fin 1024) :
    k0_pay2 x o w (ix2 r k) = x (ix2 r k) + ∑ n : Fin 1024, o (ix2 r n) * w (ix2 n k) := by
  pointwise [k0_pay2]

/-- The scratch read whole after the four heads' stores: column `n` is its head's entry. -/
theorem four_cols (v : View sig .tc .vmem S1024x1024 .bf16) (P0 P1 P2 P3 : Vec Ideal S1024x256 .bf16) (i0 i1 i2 i3 ii) (f : Fin 1024 → EReal) (r : Fin 1024)
    (h0 : ∀ d, P0 (ix2 r d) = f (col 0 d)) (h1 : ∀ d, P1 (ix2 r d) = f (col 1 d)) (h2 : ∀ d, P2 (ix2 r d) = f (col 2 d)) (h3 : ∀ d, P3 (ix2 r d) = f (col 3 d)) (n : Fin 1024) :
    v.readCov [(⟨Rect.unit ![0, 768] ![1024, 256] i3, P3⟩ : View.Piece (Elt Ideal) S1024x1024 .bf16), ⟨Rect.unit ![0, 512] ![1024, 256] i2, P2⟩, ⟨Rect.unit ![0, 256] ![1024, 256] i1, P1⟩, ⟨Rect.unit ![0, 0] ![1024, 256] i0, P0⟩]
      (Rect.unit (s := S1024x1024) ![0, 0] ![1024, 1024] ii).toLoadRect (ix2 r n) = f n := by
  rw [View.readCov_eq_canon']
  dsimp only
  have e : (Rect.unit (s := S1024x1024) ![0, 0] ![1024, 1024] ii).toLoadRect.idx (ix2 r n) = (ix2 r n : S1024x1024.Idx) := by
    funext a
    apply Fin.ext
    fin_cases a
    · show 0 + 1 * r.val = r.val; omega
    · show 0 + 1 * n.val = n.val; omega
  rw [e]
  by_cases c3 : 768 ≤ n.val
  · have e' : (ix2 r n : S1024x1024.Idx) = (Rect.unit (s := S1024x1024) ![0, 768] ![1024, 256] i3).emb (ix2 r ⟨n.val - 768, by omega⟩) := by
      funext a
      apply Fin.ext
      fin_cases a
      · show r.val = 0 + 1 * r.val; omega
      · show n.val = 768 + 1 * (n.val - 768); omega
    rw [e', View.canon_cons_emb, h3]
    congr 1
    apply Fin.ext
    show 3 * 256 + (n.val - 768) = n.val
    omega
  rw [View.canon_cons_of_not_mem]
  swap
  · rw [Rect.mem_set_unit]
    intro h'
    have : 768 ≤ n.val := (h' 1).1
    omega
  by_cases c2 : 512 ≤ n.val
  · have e' : (ix2 r n : S1024x1024.Idx) = (Rect.unit (s := S1024x1024) ![0, 512] ![1024, 256] i2).emb (ix2 r ⟨n.val - 512, by omega⟩) := by
      funext a
      apply Fin.ext
      fin_cases a
      · show r.val = 0 + 1 * r.val; omega
      · show n.val = 512 + 1 * (n.val - 512); omega
    rw [e', View.canon_cons_emb, h2]
    congr 1
    apply Fin.ext
    show 2 * 256 + (n.val - 512) = n.val
    omega
  rw [View.canon_cons_of_not_mem]
  swap
  · rw [Rect.mem_set_unit]
    intro h'
    have : 512 ≤ n.val := (h' 1).1
    omega
  by_cases c1 : 256 ≤ n.val
  · have e' : (ix2 r n : S1024x1024.Idx) = (Rect.unit (s := S1024x1024) ![0, 256] ![1024, 256] i1).emb (ix2 r ⟨n.val - 256, by omega⟩) := by
      funext a
      apply Fin.ext
      fin_cases a
      · show r.val = 0 + 1 * r.val; omega
      · show n.val = 256 + 1 * (n.val - 256); omega
    rw [e', View.canon_cons_emb, h1]
    congr 1
    apply Fin.ext
    show 1 * 256 + (n.val - 256) = n.val
    omega
  rw [View.canon_cons_of_not_mem]
  swap
  · rw [Rect.mem_set_unit]
    intro h'
    have : 256 ≤ n.val := (h' 1).1
    omega
  have e' : (ix2 r n : S1024x1024.Idx) = (Rect.unit (s := S1024x1024) ![0, 0] ![1024, 256] i0).emb (ix2 r ⟨n.val - 0, by omega⟩) := by
    funext a
    apply Fin.ext
    fin_cases a
    · show r.val = 0 + 1 * r.val; omega
    · show n.val = 0 + 1 * (n.val - 0); omega
  rw [e', View.canon_cons_emb, h0]
  congr 1
  apply Fin.ext
  show 0 * 256 + (n.val - 0) = n.val
  omega

/-- The tile's row after the mixers. -/
def tileMix (x0 : Vec Ideal S1024x1024 .f32) (x1 x2 : Vec Ideal S1024x512 .bf16) (x3 : Vec Ideal S1024x1024 .bf16) (r : Fin 1024) : Fin 1024 → EReal :=
  mixRow (fun k => x0 (ix2 r k)) (fun k => x1 (ix2 r k)) (fun k => x2 (ix2 r k)) (fun k n => x3 (ix2 k n))

/-- The tile's row after the mixers, as the body computes it from the two halves of the matrix. -/
theorem mix_apply (x0 : Vec Ideal S1024x1024 .f32) (x1 x2 : Vec Ideal S1024x512 .bf16) (x3 : Vec Ideal S1024x1024 .bf16) (i1 i2) (r k : Fin 1024) :
    k0_pay3 x0 x1 (View.ld x3 (Rect.unit (s := S1024x1024) ![0, 0] ![512, 1024] i1)) x2 (View.ld x3 (Rect.unit (s := S1024x1024) ![512, 0] ![512, 1024] i2)) (ix2 r k) = tileMix x0 x1 x2 x3 r k := by
  rw [pay3_apply]
  unfold tileMix mixRow
  pointwise []

/-- The tile's queries. -/
def tileQ (x0 : Vec Ideal S1024x1024 .f32) (x1 x2 : Vec Ideal S1024x512 .bf16) (x3 : Vec Ideal S1024x1024 .bf16) (x4 : Vec Ideal S1x1024 .f32) (x5 : Vec Ideal S1024x1024 .bf16) (r : Fin 1024) : Fin 1024 → EReal :=
  query (tileMix x0 x1 x2 x3 r) (fun k => x4 (ix2 0 k)) (fun k n => x5 (ix2 k n))

/-- The tile's scaled queries. -/
theorem query_apply (x0 : Vec Ideal S1024x1024 .f32) (x1 x2 : Vec Ideal S1024x512 .bf16) (x3 : Vec Ideal S1024x1024 .bf16) (x4 : Vec Ideal S1x1024 .f32) (x5 : Vec Ideal S1024x1024 .bf16) (i1 i2) (r n : Fin 1024) :
    k0_pay4 x0 x1 (View.ld x3 (Rect.unit (s := S1024x1024) ![0, 0] ![512, 1024] i1)) x2 (View.ld x3 (Rect.unit (s := S1024x1024) ![512, 0] ![512, 1024] i2)) x4 x5 (ix2 r n) = tileQ x0 x1 x2 x3 x4 x5 r n * scale := by
  rw [pay4_apply]
  unfold tileQ
  congr 2
  funext k
  exact mix_apply x0 x1 x2 x3 i1 i2 r k

/-- The first head's columns are the first. -/
theorem col0 (d : Fin 256) : col 0 d = ⟨d.val, by omega⟩ := by
  apply Fin.ext
  show 0 * 256 + d.val = d.val
  omega

/-- A head of the tile, from a block of 256 columns of the keys and of the values. -/
theorem head_of (x0 : Vec Ideal S1024x1024 .f32) (x1 x2 : Vec Ideal S1024x512 .bf16) (x3 : Vec Ideal S1024x1024 .bf16) (x4 : Vec Ideal S1x1024 .f32) (x5 : Vec Ideal S1024x1024 .bf16) (x6 x7 : Vec Ideal S256x1024 .bf16) (r : Fin 1024) (h : Fin 4) (d : Fin 256)
    (q : Fin 256 → EReal) (a : Fin 256 → Fin 256 → EReal) (b : Fin 256 → EReal)
    (hq : ∀ e, q e = tileQ x0 x1 x2 x3 x4 x5 r (col h e) * scale) (ha : ∀ j e, a j e = x6 (ix2 j (col h e))) (hb : ∀ j, b j = x7 (ix2 j (col h d))) :
    headK (fun j => ∑ e, q e * a j e) b
      = headK (scoreK (tileQ x0 x1 x2 x3 x4 x5 r) (fun j n => x6 (ix2 j n)) (hd (col h d))) (fun j => x7 (ix2 j (col h d))) := by
  have e : hd (col h d) = h := by
    apply Fin.ext
    show (h.val * 256 + d.val) / 256 = h.val
    omega
  rw [e]
  unfold scoreK
  congr 1
  · funext j
    exact Finset.sum_congr rfl fun e _ => by rw [hq, ha]
  · funext j
    exact hb j

/-- The output tile at row `r`, entry `k`. -/
theorem out9 (c : Dev nD) (i : grid0.Coords) (arg2 : Memref sig .tc .vmem S1024x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S1024x1024 .bf16) (harg12 : arg12.IsWhole)
    (x0 : Vec Ideal S1024x1024 .f32) (x1 : Vec Ideal S1024x512 .bf16) (x2 : Vec Ideal S1024x512 .bf16) (x3 : Vec Ideal S1024x1024 .bf16) (x4 : Vec Ideal S1x1024 .f32) (x5 : Vec Ideal S1024x1024 .bf16) (x6 : Vec Ideal S256x1024 .bf16) (x7 : Vec Ideal S256x1024 .bf16) (x8 : Vec Ideal S1024x1024 .bf16) (r k : Fin 1024) :
    out0_A_9 c i arg2 harg2 arg3 harg3 arg4 harg4 arg5 harg5 arg6 harg6 arg7 harg7 arg8 harg8 arg9 harg9 arg10 harg10 arg11 harg11 arg12 harg12 x0 x1 x2 x3 x4 x5 x6 x7 x8 (ix2 r k)
      = outK (tileMix x0 x1 x2 x3 r) (fun k => x4 (ix2 0 k)) (fun k n => x5 (ix2 k n)) (fun j n => x6 (ix2 j n)) (fun j n => x7 (ix2 j n)) (fun n k => x8 (ix2 n k)) k := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, View.ld_unit_zero (S := S1024x1024) hz, View.ld_unit_zero (S := S1024x512) hz, View.ld_unit_zero (S := S1x1024) hz]
  rw [View.canon_unit_zero hz, pay2_apply]
  rw [mix_apply]
  unfold outK rowDot
  congr 1
  refine Finset.sum_congr rfl fun n _ => ?_
  congr 1
  refine four_cols arg12.view _ _ _ _ _ _ _ _ _ (fun n => headK (scoreK (tileQ x0 x1 x2 x3 x4 x5 r) (fun j n => x6 (ix2 j n)) (hd n)) (fun j => x7 (ix2 j n))) r ?_ ?_ ?_ ?_ n
  · intro d
    rw [pay6_apply]
    exact head_of x0 x1 x2 x3 x4 x5 x6 x7 r 0 d _ _ _ (fun e => by rw [pay5_apply, query_apply]; congr 2; apply Fin.ext; show e.val = 0 * 256 + e.val; omega) (fun j e => by pointwise []; rw [col0]) (fun j => by pointwise []; rw [col0])
  · intro d
    rw [pay8_apply, pay7_apply]
    exact head_of x0 x1 x2 x3 x4 x5 x6 x7 r 1 d _ _ _ (fun e => query_apply x0 x1 x2 x3 x4 x5 _ _ r _) (fun j e => by pointwise []; rfl) (fun j => by pointwise []; rfl)
  · intro d
    rw [pay9_apply]
    exact head_of x0 x1 x2 x3 x4 x5 x6 x7 r 2 d _ _ _ (fun e => query_apply x0 x1 x2 x3 x4 x5 _ _ r _) (fun j e => by pointwise []; rfl) (fun j => by pointwise []; rfl)
  · intro d
    rw [pay1_apply, pay10_apply]
    exact head_of x0 x1 x2 x3 x4 x5 x6 x7 r 3 d _ _ _ (fun e => query_apply x0 x1 x2 x3 x4 x5 _ _ r _) (fun j e => by pointwise []; rfl) (fun j => by pointwise []; rfl)

end Cert.Kernel2Ideal.Cross

end
-- ==== Proof.CrossKernel.lean ====
/- The kernel's result array, index by index, is the row arithmetic of CrossRow of the arguments. -/
module

public import proofs.«01_k».proof.Proof.CrossTile
public import proofs.«01_k».proof.Proof.Gen.Kernel2Ideal.Value
public import Idealize.ShloMosaic.Lib.Pipeline.ValueKit.Point

@[expose] public section

noncomputable section

namespace Cert.Kernel2Ideal.Cross

open Cert.Kernel2Ideal Cert.Kernel2Ideal.Gen Cert.Kernel2Ideal.Value Idealize.ShloMosaic Idealize.ShloMosaic.TcCoe Cert.FfnRow Cert.CrossRow

variable (m : (ℓ : Loc nD τ sig) → Buf (Elt Ideal) ℓ) (c : Dev nD)

/-- Window 0 is at the point's tile of 1024 rows, decided over the grid. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Window 1 is at the point's tile of 1024 rows, decided over the grid. -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Window 2 is at the point's tile of 1024 rows, decided over the grid. -/
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Window 3 is at its whole array, decided over the grid. -/
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Window 4 is at its whole array, decided over the grid. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 5 is at its whole array, decided over the grid. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 6 is at the point's batch, decided over the grid. -/
theorem idx6 : ∀ t : Fin cfg0.N, win0_6.index t (0 : Fin 2) = t.val / 4 ∧ win0_6.index t (1 : Fin 2) = 0 :=
  (by decide +kernel : ∀ t : Fin grid0.N, win0_6.index t (0 : Fin 2) = t.val / 4 ∧ win0_6.index t (1 : Fin 2) = 0)

/-- Window 7 is at the point's batch, decided over the grid. -/
theorem idx7 : ∀ t : Fin cfg0.N, win0_7.index t (0 : Fin 2) = t.val / 4 ∧ win0_7.index t (1 : Fin 2) = 0 :=
  (by decide +kernel : ∀ t : Fin grid0.N, win0_7.index t (0 : Fin 2) = t.val / 4 ∧ win0_7.index t (1 : Fin 2) = 0)

/-- Window 8 is at its whole array, decided over the grid. -/
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Window 9 is at the point's tile of 1024 rows, decided over the grid. -/
theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-- A row of window 0's block is a row of argument 0. -/
theorem blk0 (t : Fin cfg0.N) (r : Fin 1024) (k : Fin 1024) (b : Fin 4) (s : Fin 4096) (h : t.val * 1024 + r.val = b.val * 4096 + s.val) :
    (iblk m c 0 t : Vec Ideal S1024x1024 .f32) (ix2 r k) = m ((c : Thread nD τ).loc main_arg0) (ix3 b s k) := by
  have hi := idx0 t
  blk_ext! [iblk, V, hi]

/-- A row of window 1's block is a row of argument 1. -/
theorem blk1 (t : Fin cfg0.N) (r : Fin 1024) (k : Fin 512) (b : Fin 4) (s : Fin 4096) (h : t.val * 1024 + r.val = b.val * 4096 + s.val) :
    (iblk m c 1 t : Vec Ideal S1024x512 .bf16) (ix2 r k) = m ((c : Thread nD τ).loc main_arg1) (ix3 b s k) := by
  have hi := idx1 t
  blk_ext! [iblk, V, hi]

/-- A row of window 2's block is a row of argument 2. -/
theorem blk2 (t : Fin cfg0.N) (r : Fin 1024) (k : Fin 512) (b : Fin 4) (s : Fin 4096) (h : t.val * 1024 + r.val = b.val * 4096 + s.val) :
    (iblk m c 2 t : Vec Ideal S1024x512 .bf16) (ix2 r k) = m ((c : Thread nD τ).loc main_arg2) (ix3 b s k) := by
  have hi := idx2 t
  blk_ext! [iblk, V, hi]

/-- Window 3's block is argument 3. -/
theorem blk3 (t : Fin cfg0.N) (k n : Fin 1024) :
    (iblk m c 3 t : Vec Ideal S1024x1024 .bf16) (ix2 k n) = m ((c : Thread nD τ).loc main_arg3) (ix3 0 k n) := by
  have hi := idx3 t
  blk_ext! [iblk, V, hi]

/-- Window 5's block is argument 5. -/
theorem blk5 (t : Fin cfg0.N) (k n : Fin 1024) :
    (iblk m c 5 t : Vec Ideal S1024x1024 .bf16) (ix2 k n) = m ((c : Thread nD τ).loc main_arg5) (ix3 0 k n) := by
  have hi := idx5 t
  blk_ext! [iblk, V, hi]

/-- Window 8's block is argument 8. -/
theorem blk8 (t : Fin cfg0.N) (k n : Fin 1024) :
    (iblk m c 8 t : Vec Ideal S1024x1024 .bf16) (ix2 k n) = m ((c : Thread nD τ).loc main_arg8) (ix3 0 k n) := by
  have hi := idx8 t
  blk_ext! [iblk, V, hi]

/-- Window 4's block is argument 4. -/
theorem blk4 (t : Fin cfg0.N) (k : Fin 1024) :
    (iblk m c 4 t : Vec Ideal S1x1024 .f32) (ix2 0 k) = m ((c : Thread nD τ).loc main_arg4) (ix2 0 k) := by
  have hi := idx4 t
  blk_ext! [iblk, V, hi]

/-- Window 6's block is the batch's part of argument 6, its heads beside each other. -/
theorem blk6 (t : Fin cfg0.N) (b : Fin 4) (hb : t.val / 4 = b.val) (j : Fin 256) (n : Fin 1024) :
    (iblk m c 6 t : Vec Ideal S256x1024 .bf16) (ix2 j n) = m ((c : Thread nD τ).loc main_arg6) (ix4 b j ⟨n.val / 256, by omega⟩ ⟨n.val % 256, by omega⟩) := by
  have hi := idx6 t
  blk_ext! [iblk, V, hi]

/-- Window 7's block is the batch's part of argument 7, its heads beside each other. -/
theorem blk7 (t : Fin cfg0.N) (b : Fin 4) (hb : t.val / 4 = b.val) (j : Fin 256) (n : Fin 1024) :
    (iblk m c 7 t : Vec Ideal S256x1024 .bf16) (ix2 j n) = m ((c : Thread nD τ).loc main_arg7) (ix4 b j ⟨n.val / 256, by omega⟩ ⟨n.val % 256, by omega⟩) := by
  have hi := idx7 t
  blk_ext! [iblk, V, hi]

/-- The arguments, as the row arithmetic takes them. -/
abbrev aX (b : Fin 4) (s : Fin 4096) (k : Fin 1024) : EReal := m ((c : Thread nD τ).loc main_arg0) (ix3 b s k)
abbrev aA (b : Fin 4) (s : Fin 4096) (k : Fin 512) : EReal := m ((c : Thread nD τ).loc main_arg1) (ix3 b s k)
abbrev aB (b : Fin 4) (s : Fin 4096) (k : Fin 512) : EReal := m ((c : Thread nD τ).loc main_arg2) (ix3 b s k)
abbrev aW (k n : Fin 1024) : EReal := m ((c : Thread nD τ).loc main_arg3) (ix3 0 k n)
abbrev aN (k : Fin 1024) : EReal := m ((c : Thread nD τ).loc main_arg4) (ix2 0 k)
abbrev aQ (k n : Fin 1024) : EReal := m ((c : Thread nD τ).loc main_arg5) (ix3 0 k n)
abbrev aK (b : Fin 4) (j : Fin 256) (n : Fin 1024) : EReal := m ((c : Thread nD τ).loc main_arg6) (ix4 b j ⟨n.val / 256, by omega⟩ ⟨n.val % 256, by omega⟩)
abbrev aV (b : Fin 4) (j : Fin 256) (n : Fin 1024) : EReal := m ((c : Thread nD τ).loc main_arg7) (ix4 b j ⟨n.val / 256, by omega⟩ ⟨n.val % 256, by omega⟩)
abbrev aC (k n : Fin 1024) : EReal := m ((c : Thread nD τ).loc main_arg8) (ix3 0 k n)

/-- What the point leaves in the output tile, row `r`: the layer's row of its batch. -/
theorem tile (t : Fin cfg0.N) (r k : Fin 1024) (b : Fin 4) (hb : t.val / 4 = b.val) (s : Fin 4096) (hs : s.val = 1024 * (t.val % 4) + r.val) :
    outsAt0 m c t (ix2 r k)
      = outK (mixRow (aX m c b s) (aA m c b s) (aB m c b s) (aW m c)) (aN m c) (aQ m c) (aK m c b) (aV m c b) (aC m c) k := by
  have h : t.val * 1024 + r.val = b.val * 4096 + s.val := by omega
  have e0 := fun k => blk0 m c t r k b s h
  have e1 := fun k => blk1 m c t r k b s h
  have e2 := fun k => blk2 m c t r k b s h
  have e3 := blk3 m c t
  have e4 := blk4 m c t
  have e5 := blk5 m c t
  have e6 := blk6 m c t b hb
  have e7 := blk7 m c t b hb
  have e8 := blk8 m c t
  unfold outsAt0
  have e := out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) r k
  refine e.trans ?_
  clear e
  unfold tileMix
  simp only [e0, e1, e2, e3, e4, e5, e6, e7, e8]

/-- THE RESULT ARRAY at row `q`, entry `k`. -/
theorem out_apply (q : Fin 16384) (k : Fin 1024) (b : Fin 4) (s : Fin 4096) (hq : q.val = b.val * 4096 + s.val) :
    ((dats m 0 c).arrAt 9 cfg0.N : S16384x1024.Idx → EReal) (ix2 q k)
      = outK (mixRow (aX m c b s) (aA m c b s) (aB m c b s) (aW m c)) (aN m c) (aQ m c) (aK m c b) (aV m c b) (aC m c) k := by
  have hN : cfg0.N = 16 := N_0
  have ht : q.val / 1024 < cfg0.N := by omega
  have hf : (cfg0.win 9).flush ⟨q.val / 1024, ht⟩ = true := by
    exact (by decide +kernel : ∀ t : Fin grid0.N, win0_9.flush t = true) ⟨q.val / 1024, ht⟩
  have hB := congrFun (blocks9 m c ⟨q.val / 1024, ht⟩ hf) (ix2 (⟨q.val % 1024, by omega⟩ : Fin 1024) k)
  rw [flushed9] at hB
  have hi := idx9 ⟨q.val / 1024, ht⟩
  refine Eq.trans ?_ (hB.trans ?_)
  · show (dats m 0 c).arrAt 9 cfg0.N (ix2 q k) = (dats m 0 c).arrAt 9 cfg0.N (((cfg0.win 9).blk ⟨q.val / 1024, ht⟩).view.emb (ix2 (⟨q.val % 1024, by omega⟩ : Fin 1024) k))
    congr 1
    funext a
    apply Fin.ext
    fin_cases a
    · show q.val = win0_9.index ⟨q.val / 1024, ht⟩ (0 : Fin 2) * 1024 + 1 * (q.val % 1024)
      rw [hi.1]
      dsimp only
      omega
    · show k.val = win0_9.index ⟨q.val / 1024, ht⟩ (1 : Fin 2) * 1024 + 1 * k.val
      rw [hi.2]
      omega
  · exact tile m c ⟨q.val / 1024, ht⟩ _ k b (by dsimp only; omega) s (by dsimp only; omega)

end Cert.Kernel2Ideal.Cross

end
-- ==== Proof.CrossEq.lean ====
/- The cross call's result array is the reference's, where what the scores are made of is finite. -/
module

public import proofs.«01_k».proof.Proof.CrossRef
public import proofs.«01_k».proof.Proof.CrossKernel
public import proofs.«01_k».proof.Defs

@[expose] public section

noncomputable section

namespace Cert.CrossEq

open Cert Idealize.ShloMosaic Idealize.ShloMosaic.TcCoe Cert.FfnRow Cert.CrossRow

/-- The word of infinity. -/
theorem top_eq : Ideal.ofBits FTy.f32 0x7F800000#32 = ⊤ := by
  simp [Ideal.ofBits, Ideal.ieee]

/-- A number under infinity in size is finite. -/
theorem num_of (a : EReal) (h : Ideal.cmp CmpFPredicate.olt (max a (-a)) (Ideal.ofBits FTy.f32 0x7F800000#32) = 1#1) : Num a := by
  rw [top_eq] at h
  induction a using EReal.rec with
  | bot => simp [Ideal.cmp] at h
  | coe r => exact ⟨r, rfl⟩
  | top => simp [Ideal.cmp] at h

variable (m : (ℓ : Loc Kernel2Ideal.nD Kernel2Ideal.τ Kernel2Ideal.sig) → Buf (Elt Ideal) ℓ)
  (m' : (ℓ : Loc Reference2Ideal.nD Reference2Ideal.τ Reference2Ideal.sig) → Buf (Elt Ideal) ℓ) (c : Dev Kernel2Ideal.nD)

/-- Under the precondition the kernel's and the reference's row arithmetic agree on the arguments. -/
theorem row [hPre_finite2 : Cert.Pre_finite2.Facts] (h : Pre_Kernel2Ideal_finite2 m) (b : Fin 4) (s : Fin 4096) :
    outK (mixRow (Kernel2Ideal.Cross.aX m c b s) (Kernel2Ideal.Cross.aA m c b s) (Kernel2Ideal.Cross.aB m c b s) (Kernel2Ideal.Cross.aW m c)) (Kernel2Ideal.Cross.aN m c) (Kernel2Ideal.Cross.aQ m c) (Kernel2Ideal.Cross.aK m c b) (Kernel2Ideal.Cross.aV m c b) (Kernel2Ideal.Cross.aC m c)
      = outR (mixRow (Kernel2Ideal.Cross.aX m c b s) (Kernel2Ideal.Cross.aA m c b s) (Kernel2Ideal.Cross.aB m c b s) (Kernel2Ideal.Cross.aW m c)) (Kernel2Ideal.Cross.aN m c) (Kernel2Ideal.Cross.aQ m c) (Kernel2Ideal.Cross.aK m c b) (Kernel2Ideal.Cross.aV m c b) (Kernel2Ideal.Cross.aC m c) := by
  obtain ⟨p4, p5, p6⟩ := h c
  exact out_eq _ _ _ _ _ _ (fun k => num_of _ (congrFun p4 (ix2 0 k))) (fun k n => num_of _ (congrFun p5 (ix3 0 k n))) (fun j n => num_of _ (congrFun p6 (ix4 b j _ _)))

/-- At equal arguments that meet the precondition, the reference's result is the kernel's output array. -/
theorem out [hPre_finite2 : Cert.Pre_finite2.Facts] (h : Pre_Kernel2Ideal_finite2 m)
    (h0 : m' ((c.tc : Thread Reference2Ideal.nD Reference2Ideal.τ).loc Reference2Ideal.main_arg0) = m ((c.tc : Thread Kernel2Ideal.nD Kernel2Ideal.τ).loc Kernel2Ideal.main_arg0))
    (h1 : m' ((c.tc : Thread Reference2Ideal.nD Reference2Ideal.τ).loc Reference2Ideal.main_arg1) = m ((c.tc : Thread Kernel2Ideal.nD Kernel2Ideal.τ).loc Kernel2Ideal.main_arg1))
    (h2 : m' ((c.tc : Thread Reference2Ideal.nD Reference2Ideal.τ).loc Reference2Ideal.main_arg2) = m ((c.tc : Thread Kernel2Ideal.nD Kernel2Ideal.τ).loc Kernel2Ideal.main_arg2))
    (h3 : m' ((c.tc : Thread Reference2Ideal.nD Reference2Ideal.τ).loc Reference2Ideal.main_arg3) = m ((c.tc : Thread Kernel2Ideal.nD Kernel2Ideal.τ).loc Kernel2Ideal.main_arg3))
    (h4 : m' ((c.tc : Thread Reference2Ideal.nD Reference2Ideal.τ).loc Reference2Ideal.main_arg4) = m ((c.tc : Thread Kernel2Ideal.nD Kernel2Ideal.τ).loc Kernel2Ideal.main_arg4))
    (h5 : m' ((c.tc : Thread Reference2Ideal.nD Reference2Ideal.τ).loc Reference2Ideal.main_arg5) = m ((c.tc : Thread Kernel2Ideal.nD Kernel2Ideal.τ).loc Kernel2Ideal.main_arg5))
    (h6 : m' ((c.tc : Thread Reference2Ideal.nD Reference2Ideal.τ).loc Reference2Ideal.main_arg6) = m ((c.tc : Thread Kernel2Ideal.nD Kernel2Ideal.τ).loc Kernel2Ideal.main_arg6))
    (h7 : m' ((c.tc : Thread Reference2Ideal.nD Reference2Ideal.τ).loc Reference2Ideal.main_arg7) = m ((c.tc : Thread Kernel2Ideal.nD Kernel2Ideal.τ).loc Kernel2Ideal.main_arg7))
    (h8 : m' ((c.tc : Thread Reference2Ideal.nD Reference2Ideal.τ).loc Reference2Ideal.main_arg8) = m ((c.tc : Thread Kernel2Ideal.nD Kernel2Ideal.τ).loc Kernel2Ideal.main_arg8)) :
    Reference2Ideal.Value.res_main_v41 m' c = (Kernel2Ideal.Gen.dats m 0 c).arrAt 9 Kernel2Ideal.cfg0.N := by
  rw [Reference2Ideal.Cross.res_eq m' c]
  refine funext fun (i : Kernel2Ideal.S16384x1024.Idx) => ?_
  obtain ⟨q, k, hi⟩ : ∃ (q : Fin 16384) (k : Fin 1024), i = ix2 q k := ⟨i 0, i 1, by
    funext a
    fin_cases a <;> rfl⟩
  have hq : q.val = (⟨q.val / 4096, by omega⟩ : Fin 4).val * 4096 + (⟨q.val % 4096, by omega⟩ : Fin 4096).val := by
    dsimp only
    omega
  rw [hi]
  refine (Reference2Ideal.Cross.outA_apply _ _ _ _ _ _ _ _ _ ⟨q.val / 4096, by omega⟩ ⟨q.val % 4096, by omega⟩ q hq k).trans ?_
  rw [h0, h1, h2, h3, h4, h5, h6, h7, h8]
  exact (congrFun (row m c h _ _) k).symm.trans (Kernel2Ideal.Cross.out_apply m c q k _ _ hq).symm

end Cert.CrossEq

end
-- ==== Proof.MixRow.lean ====
/- The convolution mixer's part of the layer at one row of its input, in plain extended-real arithmetic: what both the
   kernel's tiles and the reference's arrays come to, index by index. -/
module

public import proofs.«01_k».proof.Proof.FfnRow

@[expose] public section

noncomputable section

namespace Cert.MixRow

open Idealize.ShloMosaic Cert.FfnRow

/-- The projection of the row: the normed row times column `n` of the matrix. -/
def proj (X w : Fin 1024 → EReal) (W : Fin 1024 → Fin 3072 → EReal) (n : Fin 3072) : EReal :=
  ∑ k, unit X w k * W k n

/-- What the convolution reads: the second column of the projection times the third. -/
def pre (X w : Fin 1024 → EReal) (W : Fin 1024 → Fin 3072 → EReal) (n : Fin 512) : EReal :=
  proj X w W ⟨512 + n.val, by omega⟩ * proj X w W ⟨1024 + n.val, by omega⟩

/-- A row of the keys. -/
def key (X w : Fin 1024 → EReal) (W : Fin 1024 → Fin 3072 → EReal) (n : Fin 512) : EReal :=
  proj X w W ⟨2048 + n.val, by omega⟩

/-- A row of the values. -/
def value (X w : Fin 1024 → EReal) (W : Fin 1024 → Fin 3072 → EReal) (n : Fin 512) : EReal :=
  proj X w W ⟨2560 + n.val, by omega⟩

/-- The mixer's row: the first column of the projection times the convolution of the three rows it reads. -/
def mixRow (X w : Fin 1024 → EReal) (W : Fin 1024 → Fin 3072 → EReal) (cb : Fin 512 → EReal) (cw : Fin 3 → Fin 512 → EReal)
    (p2 p1 p0 : Fin 512 → EReal) (n : Fin 512) : EReal :=
  proj X w W ⟨n.val, by omega⟩ * conv (cb n) (cw 0 n) (cw 1 n) (cw 2 n) (p2 n) (p1 n) (p0 n)

/-- What the convolution of one batch reads, behind two rows of zeros: padded row `s` is the batch's row `s - 2`. -/
def padPre (x : Fin 4096 → Fin 1024 → EReal) (w : Fin 1024 → EReal) (W : Fin 1024 → Fin 3072 → EReal) (s : Fin 4098) (n : Fin 512) : EReal :=
  if h : s.val < 2 then 0 else pre (x ⟨s.val - 2, by omega⟩) w W n

/-- The mixer's result at row `s` of one batch. -/
def mix (x : Fin 4096 → Fin 1024 → EReal) (w : Fin 1024 → EReal) (W : Fin 1024 → Fin 3072 → EReal)
    (cw : Fin 3 → Fin 512 → EReal) (cb : Fin 512 → EReal) (s : Fin 4096) (n : Fin 512) : EReal :=
  mixRow (x s) w W cb cw (padPre x w W ⟨s.val, by omega⟩) (padPre x w W ⟨1 + s.val, by omega⟩) (padPre x w W ⟨2 + s.val, by omega⟩) n

/-- The state: the last two rows of what the convolution reads. -/
def lastPre (x : Fin 4096 → Fin 1024 → EReal) (w : Fin 1024 → EReal) (W : Fin 1024 → Fin 3072 → EReal) (a : Fin 2) (n : Fin 512) : EReal :=
  pre (x ⟨4094 + a.val, by omega⟩) w W n

end Cert.MixRow

end
-- ==== Proof.MixRef.lean ====
/- The reference's four results of the convolution mixer's call, index by index, are the row arithmetic of MixRow. -/
module

public import proofs.«01_k».proof.Proof.MixRow
public import proofs.«01_k».proof.Proof.Gen.Reference3Ideal.Run

@[expose] public section

noncomputable section

namespace Cert.Reference3Ideal.Mix

open Cert.Reference3Ideal Cert.Reference3Ideal.Gen Idealize.ShloMosaic Idealize.ShloMosaic.TcCoe Cert.FfnRow Cert.MixRow

/-- The norm over the last axis, as the reference spells it. -/
def rms (x : FVec Ideal S4x4096x1024 .f32) (w : FVec Ideal S1x1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ w shapeCasts_S1x1024_S1024)))

/-- The projection. -/
def projA (x : FVec Ideal S4x4096x1024 .f32) (w : FVec Ideal S1x1024 .f32) (W : FVec Ideal S1x1024x3072 .f32) : FVec Ideal S4x4096x3072 .f32 :=
  Host.dotGeneral dot_S4x4096x1024_S1024x3072_S4x4096x3072_2_0_01_1_n_n none (rms x w) (shapeCast _ W shapeCasts_S1x1024x3072_S1024x3072)

/-- What the convolution reads, with two rows of zeros before each batch. -/
def catA (z : FVec Ideal S4x4096x3072 .f32) : FVec Ideal S4x4098x512 .f32 :=
  concatenate S4x4098x512 1 [⟨S4x2x512, (broadcastInDim S4x2x512 ![] bcast_S_S4x2x512 (constant S_ .f32 0x00000000#32))⟩, ⟨S4x4096x512, (mulf (extractStridedSlice S4x4096x512 ![0, 0, 512] z slices_S4x4096x3072_S4x4096x512_0_0_512) (extractStridedSlice S4x4096x512 ![0, 0, 1024] z slices_S4x4096x3072_S4x4096x512_0_0_1024))⟩] concatenates_S4x2x512_S4x4096x512_S4x4098x512_d1

/-- The convolution over rows. -/
def convA (u : FVec Ideal S4x4098x512 .f32) (cw : FVec Ideal S1x3x512 .f32) (cb : FVec Ideal S1x512 .f32) : FVec Ideal S4x4096x512 .f32 :=
  addf (addf (addf (broadcastInDim S4x4096x512 ![0, 1, 2] bcast_S1x1x512_S4x4096x512_0_1_2 (broadcastInDim S1x1x512 ![2] bcast_S512_S1x1x512_2 (shapeCast _ cb shapeCasts_S1x512_S512))) (mulf (broadcastInDim S4x4096x512 ![0, 1, 2] bcast_S1x1x512_S4x4096x512_0_1_2 (broadcastInDim S1x1x512 ![2] bcast_S512_S1x1x512_2 (shapeCast _ (extractStridedSlice S1x512 ![0, 0] (shapeCast _ cw shapeCasts_S1x3x512_S3x512) slices_S3x512_S1x512_0_0) shapeCasts_S1x512_S512))) (extractStridedSlice S4x4096x512 ![0, 0, 0] u slices_S4x4098x512_S4x4096x512_0_0_0))) (mulf (broadcastInDim S4x4096x512 ![0, 1, 2] bcast_S1x1x512_S4x4096x512_0_1_2 (broadcastInDim S1x1x512 ![2] bcast_S512_S1x1x512_2 (shapeCast _ (extractStridedSlice S1x512 ![1, 0] (shapeCast _ cw shapeCasts_S1x3x512_S3x512) slices_S3x512_S1x512_1_0) shapeCasts_S1x512_S512))) (extractStridedSlice S4x4096x512 ![0, 1, 0] u slices_S4x4098x512_S4x4096x512_0_1_0))) (mulf (broadcastInDim S4x4096x512 ![0, 1, 2] bcast_S1x1x512_S4x4096x512_0_1_2 (broadcastInDim S1x1x512 ![2] bcast_S512_S1x1x512_2 (shapeCast _ (extractStridedSlice S1x512 ![2, 0] (shapeCast _ cw shapeCasts_S1x3x512_S3x512) slices_S3x512_S1x512_2_0) shapeCasts_S1x512_S512))) (extractStridedSlice S4x4096x512 ![0, 2, 0] u slices_S4x4098x512_S4x4096x512_0_2_0))

/-- The first result: the mixer's rows. -/
def mixA (z : FVec Ideal S4x4096x3072 .f32) (cw : FVec Ideal S1x3x512 .f32) (cb : FVec Ideal S1x512 .f32) : FVec Ideal S16384x512 .bf16 :=
  truncf .bf16 (shapeCast _ (mulf (extractStridedSlice S4x4096x512 ![0, 0, 0] z slices_S4x4096x3072_S4x4096x512_0_0_0) (convA (catA z) cw cb)) shapeCasts_S4x4096x512_S16384x512) bitsLt_bf16_f32

/-- The second result: the keys. -/
def keyA (z : FVec Ideal S4x4096x3072 .f32) : FVec Ideal S65536x128 .f32 :=
  shapeCast _ (extractStridedSlice S4x4096x512 ![0, 0, 2048] z slices_S4x4096x3072_S4x4096x512_0_0_2048) shapeCasts_S4x4096x512_S65536x128

/-- The third result: the values. -/
def valueA (z : FVec Ideal S4x4096x3072 .f32) : FVec Ideal S65536x128 .f32 :=
  shapeCast _ (extractStridedSlice S4x4096x512 ![0, 0, 2560] z slices_S4x4096x3072_S4x4096x512_0_0_2560) shapeCasts_S4x4096x512_S65536x128

/-- The fourth result: the state. -/
def stateA (z : FVec Ideal S4x4096x3072 .f32) : FVec Ideal S4x2x512 .f32 :=
  extractStridedSlice S4x2x512 ![0, 4096, 0] (catA z) slices_S4x4098x512_S4x2x512_0_4096_0

/-- The projection of a memory's arguments. -/
abbrev projOf (m : (ℓ : Loc nD τ sig) → Buf (Elt Ideal) ℓ) (c : Dev nD) : FVec Ideal S4x4096x3072 .f32 :=
  projA (m ((c.tc : Thread nD τ).loc main_arg0)) (m ((c.tc : Thread nD τ).loc main_arg1)) (m ((c.tc : Thread nD τ).loc main_arg2))

/-- The run with its four results by these names. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53) = mixA (projOf m c) (m ((c.tc : Thread nD τ).loc main_arg3)) (m ((c.tc : Thread nD τ).loc main_arg4))
      ∧ r.2.mem ((c.tc : Thread nD τ).loc main_v54) = keyA (projOf m c)
      ∧ r.2.mem ((c.tc : Thread nD τ).loc main_v55) = valueA (projOf m c)
      ∧ r.2.mem ((c.tc : Thread nD τ).loc main_v50) = stateA (projOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.Reference3Ideal.Value.run m ρ

/-- The norm at one entry. -/
theorem rms_apply (x w i j k) : rms x w (ix3 i j k) = unit (fun k => x (ix3 i j k)) (fun k => w (ix2 0 k)) k := by
  pointwise [rms]
  rfl

/-- The projection at one entry. -/
theorem projA_apply (x w W i j n) : projA x w W (ix3 i j n)
    = proj (fun k => x (ix3 i j k)) (fun k => w (ix2 0 k)) (fun k n => W (ix3 0 k n)) n := by
  pointwise [projA]
  simp only [rms_apply]
  rfl

/-- The padded argument of the convolution at one entry. -/
theorem catA_apply (x w W) (i : Fin 4) (j : Fin 4098) (n : Fin 512) : catA (projA x w W) (ix3 i j n)
    = padPre (fun s k => x (ix3 i s k)) (fun k => w (ix2 0 k)) (fun k n => W (ix3 0 k n)) j n := by
  pointwise [catA]
  unfold padPre pre
  simp only [projA_apply]

/-- The convolution at one entry. -/
theorem convA_apply (u w b) (i : Fin 4) (j : Fin 4096) (n : Fin 512) : convA u w b (ix3 i j n)
    = conv (b (ix2 0 n)) (w (ix3 0 0 n)) (w (ix3 0 1 n)) (w (ix3 0 2 n)) (u (ix3 i ⟨j.val, by omega⟩ n))
        (u (ix3 i ⟨1 + j.val, by omega⟩ n)) (u (ix3 i ⟨2 + j.val, by omega⟩ n)) := by
  pointwise [convA]
  rfl

/-- THE FIRST RESULT at row `q`, entry `n`. -/
theorem mixA_apply (x w W cw cb) (q : Fin 16384) (n : Fin 512) : mixA (projA x w W) cw cb (ix2 q n)
    = mix (fun s k => x (ix3 (⟨q.val / 4096, by omega⟩ : Fin 4) s k)) (fun k => w (ix2 0 k)) (fun k n => W (ix3 0 k n))
        (fun a n => cw (ix3 0 a n)) (fun n => cb (ix2 0 n)) ⟨q.val % 4096, by omega⟩ n := by
  pointwise [mixA]
  simp only [convA_apply, projA_apply, catA_apply]
  rfl

/-- THE SECOND RESULT: four rows for each row of the input, one for each head. -/
theorem keyA_apply (x w W) (q : Fin 65536) (l : Fin 128) : keyA (projA x w W) (ix2 q l)
    = key (fun k => x (ix3 (⟨q.val / 16384, by omega⟩ : Fin 4) (⟨q.val / 4 % 4096, by omega⟩ : Fin 4096) k)) (fun k => w (ix2 0 k)) (fun k n => W (ix3 0 k n))
        ⟨q.val % 4 * 128 + l.val, by omega⟩ := by
  pointwise [keyA]
  rw [projA_apply]
  rfl

/-- THE THIRD RESULT, likewise. -/
theorem valueA_apply (x w W) (q : Fin 65536) (l : Fin 128) : valueA (projA x w W) (ix2 q l)
    = value (fun k => x (ix3 (⟨q.val / 16384, by omega⟩ : Fin 4) (⟨q.val / 4 % 4096, by omega⟩ : Fin 4096) k)) (fun k => w (ix2 0 k)) (fun k n => W (ix3 0 k n))
        ⟨q.val % 4 * 128 + l.val, by omega⟩ := by
  pointwise [valueA]
  rw [projA_apply]
  rfl

/-- THE FOURTH RESULT at batch `i`, row `a`, entry `n`. -/
theorem stateA_apply (x w W) (i : Fin 4) (a : Fin 2) (n : Fin 512) : stateA (projA x w W) (ix3 i a n)
    = lastPre (fun s k => x (ix3 i s k)) (fun k => w (ix2 0 k)) (fun k n => W (ix3 0 k n)) a n := by
  pointwise [stateA]
  rw [catA_apply]
  unfold padPre lastPre
  rw [dif_neg (by dsimp only; omega)]
  congr 2
  ext
  dsimp only
  omega

end Cert.Reference3Ideal.Mix

end
-- ==== Proof.MixBody.lean ====
/- The convolution mixer's call: the body at one grid point, run at the first tile of a batch and at a later one, on any whole
   staging memrefs. The stores into the key and value windows go through strided rectangles, every fourth row. -/
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Mix

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch: this is the first tile of its batch. -/
abbrev first (i : grid0.Coords) : Prop := (Scalar.cmpi .ne (Scalar.extui (Scalar.cmpi .eq (BitVec.ofNat 32 (i 1).val) 0#32)) 0#32) = 1#1

/-- The tiles that begin a batch are the points divisible by eight. -/
theorem first_iff : ∀ t : Fin cfg0.N, first (grid0.coords t) ↔ t.val % 8 = 0 :=
  (fun t => by
    have ht : t.val < 32 := Nat.lt_of_lt_of_eq t.isLt N_0
    have e1 : (grid0.coords t 1).val = t.val / 1 % 8 := Pipeline.Grid.coords_val t 1 (by decide) rfl
    simp only [first, e1]
    word_cmp
   : ∀ t : Fin grid0.N, first (grid0.coords t) ↔ t.val % 8 = 0)

variable (c : Dev nD) (i : grid0.Coords)
  (arg2 : Memref sig .tc .vmem S512x1024 .f32) (harg2 : arg2.IsWhole)
  (arg3 : Memref sig .tc .vmem S1x1024 .f32) (harg3 : arg3.IsWhole)
  (arg4 : Memref sig .tc .vmem S1024x3072 .bf16) (harg4 : arg4.IsWhole)
  (arg5 : Memref sig .tc .vmem S3x512 .f32) (harg5 : arg5.IsWhole)
  (arg6 : Memref sig .tc .vmem S1x512 .f32) (harg6 : arg6.IsWhole)
  (arg7 : Memref sig .tc .vmem S512x512 .bf16) (harg7 : arg7.IsWhole)
  (arg8 : Memref sig .tc .vmem S1x4x1x128x512 .bf16) (harg8 : arg8.IsWhole)
  (arg9 : Memref sig .tc .vmem S2048x128 .f32) (harg9 : arg9.IsWhole)
  (arg10 : Memref sig .tc .vmem S2048x128 .f32) (harg10 : arg10.IsWhole)
  (arg11 : Memref sig .tc .vmem S1x4x512x128 .bf16) (harg11 : arg11.IsWhole)
  (arg12 : Memref sig .tc .vmem S1x4x1x144x512 .bf16) (harg12 : arg12.IsWhole)
  (arg13 : Memref sig .tc .vmem S1x2x512 .f32) (harg13 : arg13.IsWhole)
  (arg14 : Memref sig .tc .vmem S520x512 .f32) (harg14 : arg14.IsWhole)
  (x0 : Vec F S512x1024 .f32) (x1 : Vec F S1x1024 .f32) (x2 : Vec F S1024x3072 .bf16) (x3 : Vec F S3x512 .f32) (x4 : Vec F S1x512 .f32)

set_option maxHeartbeats 4000000 in
/-- The body at the first tile of a batch, where the scratch rows before the tile are set to zero first: it takes the
    inputs and gives them back, and leaves in each output and in the scratch the pieces that running it finds. -/
noncomputable def runA (hc : first i) :
    Σ' (L5 : List (View.Piece (Elt F) S512x512 .bf16)), Σ' (L6 : List (View.Piece (Elt F) S1x4x1x128x512 .bf16)), Σ' (L7 : List (View.Piece (Elt F) S2048x128 .f32)), Σ' (L8 : List (View.Piece (Elt F) S2048x128 .f32)), Σ' (L9 : List (View.Piece (Elt F) S1x4x512x128 .bf16)), Σ' (L10 : List (View.Piece (Elt F) S1x4x1x144x512 .bf16)), Σ' (L11 : List (View.Piece (Elt F) S1x2x512 .f32)), { LS : List (View.Piece (Elt F) S520x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
              ∗ (∃ f, arg7.view.loc (c : Thread nD τ) ↦[arg7.view.set]{fullShare} arg7.view.writes (Elt F) f L5)
              ∗ (∃ f, arg8.view.loc (c : Thread nD τ) ↦[arg8.view.set]{fullShare} arg8.view.writes (Elt F) f L6)
              ∗ (∃ f, arg9.view.loc (c : Thread nD τ) ↦[arg9.view.set]{fullShare} arg9.view.writes (Elt F) f L7)
              ∗ (∃ f, arg10.view.loc (c : Thread nD τ) ↦[arg10.view.set]{fullShare} arg10.view.writes (Elt F) f L8)
              ∗ (∃ f, arg11.view.loc (c : Thread nD τ) ↦[arg11.view.set]{fullShare} arg11.view.writes (Elt F) f L9)
              ∗ (∃ f, arg12.view.loc (c : Thread nD τ) ↦[arg12.view.set]{fullShare} arg12.view.writes (Elt F) f L10)
              ∗ (∃ f, arg13.view.loc (c : Thread nD τ) ↦[arg13.view.set]{fullShare} arg13.view.writes (Elt F) f L11)
              ∗ (∃ f, arg14.view.loc (c : Thread nD τ) ↦[arg14.view.set]{fullShare} arg14.view.writes (Elt F) f LS)) -∗ K ⟨⟩))
          ⊢ wp frame (wpE (defs₀ (F := F)) Variants.none c none) E (cc0__mix_in_prompt_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, fun E K => ?run⟩
  case run =>
    simp only [cc0__mix_in_prompt_kernel_eq_skeleton]; unfold cc0__mix_in_prompt_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact HS

set_option maxHeartbeats 4000000 in
/-- The body at a later tile, where the scratch holds what the tile before left: it takes the
    inputs and gives them back, and leaves in each output and in the scratch the pieces that running it finds. -/
noncomputable def runB (hc : ¬first i) (xs : Vec F S520x512 .f32) :
    Σ' (L5 : List (View.Piece (Elt F) S512x512 .bf16)), Σ' (L6 : List (View.Piece (Elt F) S1x4x1x128x512 .bf16)), Σ' (L7 : List (View.Piece (Elt F) S2048x128 .f32)), Σ' (L8 : List (View.Piece (Elt F) S2048x128 .f32)), Σ' (L9 : List (View.Piece (Elt F) S1x4x512x128 .bf16)), Σ' (L10 : List (View.Piece (Elt F) S1x4x1x144x512 .bf16)), Σ' (L11 : List (View.Piece (Elt F) S1x2x512 .f32)), { LS : List (View.Piece (Elt F) S520x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ owns (c : Thread nD τ) arg14 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
              ∗ (∃ f, arg7.view.loc (c : Thread nD τ) ↦[arg7.view.set]{fullShare} arg7.view.writes (Elt F) f L5)
              ∗ (∃ f, arg8.view.loc (c : Thread nD τ) ↦[arg8.view.set]{fullShare} arg8.view.writes (Elt F) f L6)
              ∗ (∃ f, arg9.view.loc (c : Thread nD τ) ↦[arg9.view.set]{fullShare} arg9.view.writes (Elt F) f L7)
              ∗ (∃ f, arg10.view.loc (c : Thread nD τ) ↦[arg10.view.set]{fullShare} arg10.view.writes (Elt F) f L8)
              ∗ (∃ f, arg11.view.loc (c : Thread nD τ) ↦[arg11.view.set]{fullShare} arg11.view.writes (Elt F) f L9)
              ∗ (∃ f, arg12.view.loc (c : Thread nD τ) ↦[arg12.view.set]{fullShare} arg12.view.writes (Elt F) f L10)
              ∗ (∃ f, arg13.view.loc (c : Thread nD τ) ↦[arg13.view.set]{fullShare} arg13.view.writes (Elt F) f L11)
              ∗ (∃ f, arg14.view.loc (c : Thread nD τ) ↦[arg14.view.set]{fullShare} arg14.view.writes (Elt F) f LS)) -∗ K ⟨⟩))
          ⊢ wp frame (wpE (defs₀ (F := F)) Variants.none c none) E (cc0__mix_in_prompt_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, fun E K => ?run⟩
  case run =>
    simp only [cc0__mix_in_prompt_kernel_eq_skeleton]; unfold cc0__mix_in_prompt_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg14.eq_unread hfs
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact HS

end Cert.Kernel3Ideal.Mix

end
-- ==== Proof.MixFrame.lean ====
/- The convolution mixer's call: what its staging buffers hold after each grid point, and its frame. -/
module

public import proofs.«01_k».proof.Proof.MixBody
public import Idealize.ShloMosaic.Lib.Claim

@[expose] public section

set_option maxRecDepth 16384

noncomputable section

namespace Cert.Kernel3Ideal.Mix

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A row of the buffer is in the rectangle of every fourth row that begins at its remainder. -/
theorem mem_fourth (k : ℕ) (inb) (sp) (y : S2048x128.Idx) (h : (y 0).val % 4 = k) :
    y ∈ (⟨(⟨![k, 0], S512x128.size, ![4, 1], inb⟩ : LoadRect S2048x128), sp⟩ : Rect S2048x128).set := by
  have h0 : (y 0).val < 2048 := (y 0).isLt
  have h1 : (y 1).val < 128 := (y 1).isLt
  refine (LoadRect.mem_set _).mpr fun a => ?_
  fin_cases a
  · exact ⟨(y 0).val / 4, by show (y 0).val / 4 < 512; omega, by show (y 0).val = k + 4 * ((y 0).val / 4); omega⟩
  · exact ⟨(y 1).val, h1, by show (y 1).val = 0 + 1 * (y 1).val; omega⟩

/-- Four stores, of the rows of each remainder by four, reach every row. -/
theorem cover_fourth (P0 P1 P2 P3 : Vec F S512x128 .f32) (i0 i1 i2 i3) (sp) (y : S2048x128.Idx) :
    ∃ pc ∈ ([⟨⟨(⟨![3, 0], S512x128.size, ![4, 1], i3⟩ : LoadRect S2048x128), sp⟩, P3⟩, ⟨⟨(⟨![2, 0], S512x128.size, ![4, 1], i2⟩ : LoadRect S2048x128), sp⟩, P2⟩,
      ⟨⟨(⟨![1, 0], S512x128.size, ![4, 1], i1⟩ : LoadRect S2048x128), sp⟩, P1⟩, ⟨⟨(⟨![0, 0], S512x128.size, ![4, 1], i0⟩ : LoadRect S2048x128), sp⟩, P0⟩] : List (View.Piece (Elt F) S2048x128 .f32)),
      y ∈ pc.1.set := by
  have h : (y 0).val % 4 = 0 ∨ (y 0).val % 4 = 1 ∨ (y 0).val % 4 = 2 ∨ (y 0).val % 4 = 3 := by omega
  rcases h with h | h | h | h
  · exact ⟨_, .tail _ (.tail _ (.tail _ (.head _))), mem_fourth 0 _ _ y h⟩
  · exact ⟨_, .tail _ (.tail _ (.head _)), mem_fourth 1 _ _ y h⟩
  · exact ⟨_, .tail _ (.head _), mem_fourth 2 _ _ y h⟩
  · exact ⟨_, .head _, mem_fourth 3 _ _ y h⟩

/-- A row of the first 128 of a head is in the first store of that head. -/
theorem mem_head (k : ℕ) (inb) (y : S1x4x1x144x512.Idx) (h : (y 1).val = k) (h' : (y 3).val < 128) :
    y ∈ (Rect.unit (s := S1x4x1x144x512) ![0, k, 0, 0, 0] S1x1x1x128x512.size inb).set := by
  have h0 : (y 0).val < 1 := (y 0).isLt
  have h2 : (y 2).val < 1 := (y 2).isLt
  have h4 : (y 4).val < 512 := (y 4).isLt
  rw [Rect.mem_set_unit]
  intro a
  fin_cases a
  · show 0 ≤ (y 0).val ∧ (y 0).val < 0 + 1; omega
  · show k ≤ (y 1).val ∧ (y 1).val < k + 1; omega
  · show 0 ≤ (y 2).val ∧ (y 2).val < 0 + 1; omega
  · show 0 ≤ (y 3).val ∧ (y 3).val < 0 + 128; omega
  · show 0 ≤ (y 4).val ∧ (y 4).val < 0 + 512; omega

/-- A row of the last 16 of a head is in the second store of that head. -/
theorem mem_ones (k : ℕ) (inb) (y : S1x4x1x144x512.Idx) (h : (y 1).val = k) (h' : 128 ≤ (y 3).val) :
    y ∈ (Rect.unit (s := S1x4x1x144x512) ![0, k, 0, 128, 0] S1x1x1x16x512.size inb).set := by
  have h0 : (y 0).val < 1 := (y 0).isLt
  have h2 : (y 2).val < 1 := (y 2).isLt
  have h3 : (y 3).val < 144 := (y 3).isLt
  have h4 : (y 4).val < 512 := (y 4).isLt
  rw [Rect.mem_set_unit]
  intro a
  fin_cases a
  · show 0 ≤ (y 0).val ∧ (y 0).val < 0 + 1; omega
  · show k ≤ (y 1).val ∧ (y 1).val < k + 1; omega
  · show 0 ≤ (y 2).val ∧ (y 2).val < 0 + 1; omega
  · show 128 ≤ (y 3).val ∧ (y 3).val < 128 + 16; omega
  · show 0 ≤ (y 4).val ∧ (y 4).val < 0 + 512; omega

/-- Two stores for each of four heads reach the whole buffer. -/
theorem cover_heads (P0 P1 P2 P3 : Vec F S1x1x1x128x512 .bf16) (Q0 Q1 Q2 Q3 : Vec F S1x1x1x16x512 .bf16) (i0 i1 i2 i3 j0 j1 j2 j3)
    (y : S1x4x1x144x512.Idx) :
    ∃ pc ∈ ([⟨Rect.unit (s := S1x4x1x144x512) ![0, 3, 0, 128, 0] S1x1x1x16x512.size j3, Q3⟩, ⟨Rect.unit (s := S1x4x1x144x512) ![0, 3, 0, 0, 0] S1x1x1x128x512.size i3, P3⟩,
      ⟨Rect.unit (s := S1x4x1x144x512) ![0, 2, 0, 128, 0] S1x1x1x16x512.size j2, Q2⟩, ⟨Rect.unit (s := S1x4x1x144x512) ![0, 2, 0, 0, 0] S1x1x1x128x512.size i2, P2⟩,
      ⟨Rect.unit (s := S1x4x1x144x512) ![0, 1, 0, 128, 0] S1x1x1x16x512.size j1, Q1⟩, ⟨Rect.unit (s := S1x4x1x144x512) ![0, 1, 0, 0, 0] S1x1x1x128x512.size i1, P1⟩,
      ⟨Rect.unit (s := S1x4x1x144x512) ![0, 0, 0, 128, 0] S1x1x1x16x512.size j0, Q0⟩, ⟨Rect.unit (s := S1x4x1x144x512) ![0, 0, 0, 0, 0] S1x1x1x128x512.size i0, P0⟩] :
      List (View.Piece (Elt F) S1x4x1x144x512 .bf16)), y ∈ pc.1.set := by
  have h1 : (y 1).val < 4 := (y 1).isLt
  have h : (y 1).val = 0 ∨ (y 1).val = 1 ∨ (y 1).val = 2 ∨ (y 1).val = 3 := by omega
  rcases Nat.lt_or_ge (y 3).val 128 with h' | h' <;> rcases h with h | h | h | h
  · exact ⟨_, .tail _ (.tail _ (.tail _ (.tail _ (.tail _ (.tail _ (.tail _ (.head _))))))), mem_head 0 i0 y h h'⟩
  · exact ⟨_, .tail _ (.tail _ (.tail _ (.tail _ (.tail _ (.head _))))), mem_head 1 i1 y h h'⟩
  · exact ⟨_, .tail _ (.tail _ (.tail _ (.head _))), mem_head 2 i2 y h h'⟩
  · exact ⟨_, .tail _ (.head _), mem_head 3 i3 y h h'⟩
  · exact ⟨_, .tail _ (.tail _ (.tail _ (.tail _ (.tail _ (.tail _ (.head _)))))), mem_ones 0 j0 y h h'⟩
  · exact ⟨_, .tail _ (.tail _ (.tail _ (.tail _ (.head _)))), mem_ones 1 j1 y h h'⟩
  · exact ⟨_, .tail _ (.tail _ (.head _)), mem_ones 2 j2 y h h'⟩
  · exact ⟨_, .head _, mem_ones 3 j3 y h h'⟩

/-- The rows before the tile and the tile make up the scratch. -/
theorem cover_scr (P : Vec F S8x512 .f32) (Q : Vec F S512x512 .f32) (i j) (L : List (View.Piece (Elt F) S520x512 .f32)) (y : S520x512.Idx) :
    ∃ pc ∈ (⟨Rect.unit (s := S520x512) ![0, 0] S8x512.size i, P⟩ :: ⟨Rect.unit (s := S520x512) ![8, 0] S512x512.size j, Q⟩ :: L :
      List (View.Piece (Elt F) S520x512 .f32)), y ∈ pc.1.set := by
  have h0 : (y 0).val < 520 := (y 0).isLt
  have h1 : (y 1).val < 512 := (y 1).isLt
  rcases Nat.lt_or_ge (y 0).val 8 with h | h
  · refine ⟨_, .head _, ?_⟩
    rw [Rect.mem_set_unit]
    intro a
    fin_cases a
    · show 0 ≤ (y 0).val ∧ (y 0).val < 0 + 8; omega
    · show 0 ≤ (y 1).val ∧ (y 1).val < 0 + 512; omega
  · refine ⟨_, .tail _ (.head _), ?_⟩
    rw [Rect.mem_set_unit]
    intro a
    fin_cases a
    · show 8 ≤ (y 0).val ∧ (y 0).val < 8 + 512; omega
    · show 0 ≤ (y 1).val ∧ (y 1).val < 0 + 512; omega

section covers

variable (c : Dev nD) (i : grid0.Coords)
  (arg2 : Memref sig .tc .vmem S512x1024 .f32) (harg2 : arg2.IsWhole)
  (arg3 : Memref sig .tc .vmem S1x1024 .f32) (harg3 : arg3.IsWhole)
  (arg4 : Memref sig .tc .vmem S1024x3072 .bf16) (harg4 : arg4.IsWhole)
  (arg5 : Memref sig .tc .vmem S3x512 .f32) (harg5 : arg5.IsWhole)
  (arg6 : Memref sig .tc .vmem S1x512 .f32) (harg6 : arg6.IsWhole)
  (arg7 : Memref sig .tc .vmem S512x512 .bf16) (harg7 : arg7.IsWhole)
  (arg8 : Memref sig .tc .vmem S1x4x1x128x512 .bf16) (harg8 : arg8.IsWhole)
  (arg9 : Memref sig .tc .vmem S2048x128 .f32) (harg9 : arg9.IsWhole)
  (arg10 : Memref sig .tc .vmem S2048x128 .f32) (harg10 : arg10.IsWhole)
  (arg11 : Memref sig .tc .vmem S1x4x512x128 .bf16) (harg11 : arg11.IsWhole)
  (arg12 : Memref sig .tc .vmem S1x4x1x144x512 .bf16) (harg12 : arg12.IsWhole)
  (arg13 : Memref sig .tc .vmem S1x2x512 .f32) (harg13 : arg13.IsWhole)
  (arg14 : Memref sig .tc .vmem S520x512 .f32) (harg14 : arg14.IsWhole)
  (x0 : Vec F S512x1024 .f32) (x1 : Vec F S1x1024 .f32) (x2 : Vec F S1024x3072 .bf16) (x3 : Vec F S3x512 .f32) (x4 : Vec F S1x512 .f32)

/-- The pieces stored at the first tile of a batch cover output 5's block. -/
theorem coverA_5 (hc : first i) (y : S512x512.Idx) :
    ∃ pc ∈ (runA c i arg2 harg2 arg3 harg3 arg4 harg4 arg5 harg5 arg6 harg6 arg7 harg7 arg8 harg8 arg9 harg9 arg10 harg10 arg11 harg11 arg12 harg12 arg13 harg13 arg14 harg14 x0 x1 x2 x3 x4 hc).1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 arg14 harg14 x0 x1 x2 x3 x4 hc).1 S512x512.size (by sl_kernel_rfl) y

/-- The pieces stored at the first tile of a batch cover output 6's block. -/
theorem coverA_6 (hc : first i) (y : S1x4x1x128x512.Idx) :
    ∃ pc ∈ (runA c i arg2 harg2 arg3 harg3 arg4 harg4 arg5 harg5 arg6 harg6 arg7 harg7 arg8 harg8 arg9 harg9 arg10 harg10 arg11 harg11 arg12 harg12 arg13 harg13 arg14 harg14 x0 x1 x2 x3 x4 hc).2.1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 arg14 harg14 x0 x1 x2 x3 x4 hc).2.1 S1x1x1x128x512.size (by sl_kernel_rfl) y

/-- The pieces stored at the first tile of a batch cover output 7's block. -/
theorem coverA_7 (hc : first i) (y : S2048x128.Idx) :
    ∃ pc ∈ (runA c i arg2 harg2 arg3 harg3 arg4 harg4 arg5 harg5 arg6 harg6 arg7 harg7 arg8 harg8 arg9 harg9 arg10 harg10 arg11 harg11 arg12 harg12 arg13 harg13 arg14 harg14 x0 x1 x2 x3 x4 hc).2.2.1, y ∈ pc.1.set :=
  cover_fourth _ _ _ _ _ _ _ _ _ y

/-- The pieces stored at the first tile of a batch cover output 8's block. -/
theorem coverA_8 (hc : first i) (y : S2048x128.Idx) :
    ∃ pc ∈ (runA c i arg2 harg2 arg3 harg3 arg4 harg4 arg5 harg5 arg6 harg6 arg7 harg7 arg8 harg8 arg9 harg9 arg10 harg10 arg11 harg11 arg12 harg12 arg13 harg13 arg14 harg14 x0 x1 x2 x3 x4 hc).2.2.2.1, y ∈ pc.1.set :=
  cover_fourth _ _ _ _ _ _ _ _ _ y

/-- The pieces stored at the first tile of a batch cover output 9's block. -/
theorem coverA_9 (hc : first i) (y : S1x4x512x128.Idx) :
    ∃ pc ∈ (runA c i arg2 harg2 arg3 harg3 arg4 harg4 arg5 harg5 arg6 harg6 arg7 harg7 arg8 harg8 arg9 harg9 arg10 harg10 arg11 harg11 arg12 harg12 arg13 harg13 arg14 harg14 x0 x1 x2 x3 x4 hc).2.2.2.2.1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 arg14 harg14 x0 x1 x2 x3 x4 hc).2.2.2.2.1 S1x1x512x128.size (by sl_kernel_rfl) y

/-- The pieces stored at the first tile of a batch cover output 10's block. -/
theorem coverA_10 (hc : first i) (y : S1x4x1x144x512.Idx) :
    ∃ pc ∈ (runA c i arg2 harg2 arg3 harg3 arg4 harg4 arg5 harg5 arg6 harg6 arg7 harg7 arg8 harg8 arg9 harg9 arg10 harg10 arg11 harg11 arg12 harg12 arg13 harg13 arg14 harg14 x0 x1 x2 x3 x4 hc).2.2.2.2.2.1, y ∈ pc.1.set :=
  cover_heads _ _ _ _ _ _ _ _ _ _ _ _ _ _ _ _ y

/-- The pieces stored at the first tile of a batch cover output 11's block. -/
theorem coverA_11 (hc : first i) (y : S1x2x512.Idx) :
    ∃ pc ∈ (runA c i arg2 harg2 arg3 harg3 arg4 harg4 arg5 harg5 arg6 harg6 arg7 harg7 arg8 harg8 arg9 harg9 arg10 harg10 arg11 harg11 arg12 harg12 arg13 harg13 arg14 harg14 x0 x1 x2 x3 x4 hc).2.2.2.2.2.2.1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 arg14 harg14 x0 x1 x2 x3 x4 hc).2.2.2.2.2.2.1 S1x2x512.size (by sl_kernel_rfl) y

/-- The pieces stored at the first tile of a batch cover the scratch. -/
theorem coverA_12 (hc : first i) (y : S520x512.Idx) :
    ∃ pc ∈ (runA c i arg2 harg2 arg3 harg3 arg4 harg4 arg5 harg5 arg6 harg6 arg7 harg7 arg8 harg8 arg9 harg9 arg10 harg10 arg11 harg11 arg12 harg12 arg13 harg13 arg14 harg14 x0 x1 x2 x3 x4 hc).2.2.2.2.2.2.2.1, y ∈ pc.1.set :=
  cover_scr _ _ _ _ _ y

/-- The pieces stored at a later tile cover output 5's block. -/
theorem coverB_5 (hc : ¬first i) (xs : Vec F S520x512 .f32) (y : S512x512.Idx) :
    ∃ pc ∈ (runB c i arg2 harg2 arg3 harg3 arg4 harg4 arg5 harg5 arg6 harg6 arg7 harg7 arg8 harg8 arg9 harg9 arg10 harg10 arg11 harg11 arg12 harg12 arg13 harg13 arg14 harg14 x0 x1 x2 x3 x4 hc xs).1, y ∈ pc.1.set :=
  View.cover_of_tiledL (runB c i arg2 harg2 arg3 harg3 arg4 harg4 arg5 harg5 arg6 harg6 arg7 harg7 arg8 harg8 arg9 harg9 arg10 harg10 arg11 harg11 arg12 harg12 arg13 harg13 arg14 harg14 x0 x1 x2 x3 x4 hc xs).1 S512x512.size (by sl_kernel_rfl) y

/-- The pieces stored at a later tile cover output 6's block. -/
theorem coverB_6 (hc : ¬first i) (xs : Vec F S520x512 .f32) (y : S1x4x1x128x512.Idx) :
    ∃ pc ∈ (runB c i arg2 harg2 arg3 harg3 arg4 harg4 arg5 harg5 arg6 harg6 arg7 harg7 arg8 harg8 arg9 harg9 arg10 harg10 arg11 harg11 arg12 harg12 arg13 harg13 arg14 harg14 x0 x1 x2 x3 x4 hc xs).2.1, y ∈ pc.1.set :=
  View.cover_of_tiledL (runB c i arg2 harg2 arg3 harg3 arg4 harg4 arg5 harg5 arg6 harg6 arg7 harg7 arg8 harg8 arg9 harg9 arg10 harg10 arg11 harg11 arg12 harg12 arg13 harg13 arg14 harg14 x0 x1 x2 x3 x4 hc xs).2.1 S1x1x1x128x512.size (by sl_kernel_rfl) y

/-- The pieces stored at a later tile cover output 7's block. -/
theorem coverB_7 (hc : ¬first i) (xs : Vec F S520x512 .f32) (y : S2048x128.Idx) :
    ∃ pc ∈ (runB c i arg2 harg2 arg3 harg3 arg4 harg4 arg5 harg5 arg6 harg6 arg7 harg7 arg8 harg8 arg9 harg9 arg10 harg10 arg11 harg11 arg12 harg12 arg13 harg13 arg14 harg14 x0 x1 x2 x3 x4 hc xs).2.2.1, y ∈ pc.1.set :=
  cover_fourth _ _ _ _ _ _ _ _ _ y

/-- The pieces stored at a later tile cover output 8's block. -/
theorem coverB_8 (hc : ¬first i) (xs : Vec F S520x512 .f32) (y : S2048x128.Idx) :
    ∃ pc ∈ (runB c i arg2 harg2 arg3 harg3 arg4 harg4 arg5 harg5 arg6 harg6 arg7 harg7 arg8 harg8 arg9 harg9 arg10 harg10 arg11 harg11 arg12 harg12 arg13 harg13 arg14 harg14 x0 x1 x2 x3 x4 hc xs).2.2.2.1, y ∈ pc.1.set :=
  cover_fourth _ _ _ _ _ _ _ _ _ y

/-- The pieces stored at a later tile cover output 9's block. -/
theorem coverB_9 (hc : ¬first i) (xs : Vec F S520x512 .f32) (y : S1x4x512x128.Idx) :
    ∃ pc ∈ (runB c i arg2 harg2 arg3 harg3 arg4 harg4 arg5 harg5 arg6 harg6 arg7 harg7 arg8 harg8 arg9 harg9 arg10 harg10 arg11 harg11 arg12 harg12 arg13 harg13 arg14 harg14 x0 x1 x2 x3 x4 hc xs).2.2.2.2.1, y ∈ pc.1.set :=
  View.cover_of_tiledL (runB c i arg2 harg2 arg3 harg3 arg4 harg4 arg5 harg5 arg6 harg6 arg7 harg7 arg8 harg8 arg9 harg9 arg10 harg10 arg11 harg11 arg12 harg12 arg13 harg13 arg14 harg14 x0 x1 x2 x3 x4 hc xs).2.2.2.2.1 S1x1x512x128.size (by sl_kernel_rfl) y

/-- The pieces stored at a later tile cover output 10's block. -/
theorem coverB_10 (hc : ¬first i) (xs : Vec F S520x512 .f32) (y : S1x4x1x144x512.Idx) :
    ∃ pc ∈ (runB c i arg2 harg2 arg3 harg3 arg4 harg4 arg5 harg5 arg6 harg6 arg7 harg7 arg8 harg8 arg9 harg9 arg10 harg10 arg11 harg11 arg12 harg12 arg13 harg13 arg14 harg14 x0 x1 x2 x3 x4 hc xs).2.2.2.2.2.1, y ∈ pc.1.set :=
  cover_heads _ _ _ _ _ _ _ _ _ _ _ _ _ _ _ _ y

/-- The pieces stored at a later tile cover output 11's block. -/
theorem coverB_11 (hc : ¬first i) (xs : Vec F S520x512 .f32) (y : S1x2x512.Idx) :
    ∃ pc ∈ (runB c i arg2 harg2 arg3 harg3 arg4 harg4 arg5 harg5 arg6 harg6 arg7 harg7 arg8 harg8 arg9 harg9 arg10 harg10 arg11 harg11 arg12 harg12 arg13 harg13 arg14 harg14 x0 x1 x2 x3 x4 hc xs).2.2.2.2.2.2.1, y ∈ pc.1.set :=
  View.cover_of_tiledL (runB c i arg2 harg2 arg3 harg3 arg4 harg4 arg5 harg5 arg6 harg6 arg7 harg7 arg8 harg8 arg9 harg9 arg10 harg10 arg11 harg11 arg12 harg12 arg13 harg13 arg14 harg14 x0 x1 x2 x3 x4 hc xs).2.2.2.2.2.2.1 S1x2x512.size (by sl_kernel_rfl) y

/-- The pieces stored at a later tile cover the scratch. -/
theorem coverB_12 (hc : ¬first i) (xs : Vec F S520x512 .f32) (y : S520x512.Idx) :
    ∃ pc ∈ (runB c i arg2 harg2 arg3 harg3 arg4 harg4 arg5 harg5 arg6 harg6 arg7 harg7 arg8 harg8 arg9 harg9 arg10 harg10 arg11 harg11 arg12 harg12 arg13 harg13 arg14 harg14 x0 x1 x2 x3 x4 hc xs).2.2.2.2.2.2.2.1, y ∈ pc.1.set :=
  cover_scr _ _ _ _ _ y

end covers

/-- The staging memref of window 0 at a point. -/
abbrev mem0 (t : Fin cfg0.N) : Memref sig .tc .vmem S512x1024 .f32 := win0_0.stage (cfg0.slots t 0)
/-- It is whole. -/
theorem whole0 (t : Fin cfg0.N) : (mem0 t).IsWhole := hstage0_0 ((cfg0.slots t 0).cast nbuf0_0)
/-- The staging memref of window 1 at a point. -/
abbrev mem1 (t : Fin cfg0.N) : Memref sig .tc .vmem S1x1024 .f32 := win0_1.stage (cfg0.slots t 1)
/-- It is whole. -/
theorem whole1 (t : Fin cfg0.N) : (mem1 t).IsWhole := hstage0_1 ((cfg0.slots t 1).cast nbuf0_1)
/-- The staging memref of window 2 at a point. -/
abbrev mem2 (t : Fin cfg0.N) : Memref sig .tc .vmem S1024x3072 .bf16 := win0_2.stage (cfg0.slots t 2)
/-- It is whole. -/
theorem whole2 (t : Fin cfg0.N) : (mem2 t).IsWhole := hstage0_2 ((cfg0.slots t 2).cast nbuf0_2)
/-- The staging memref of window 3 at a point. -/
abbrev mem3 (t : Fin cfg0.N) : Memref sig .tc .vmem S3x512 .f32 := win0_3.stage (cfg0.slots t 3)
/-- It is whole. -/
theorem whole3 (t : Fin cfg0.N) : (mem3 t).IsWhole := hstage0_3 ((cfg0.slots t 3).cast nbuf0_3)
/-- The staging memref of window 4 at a point. -/
abbrev mem4 (t : Fin cfg0.N) : Memref sig .tc .vmem S1x512 .f32 := win0_4.stage (cfg0.slots t 4)
/-- It is whole. -/
theorem whole4 (t : Fin cfg0.N) : (mem4 t).IsWhole := hstage0_4 ((cfg0.slots t 4).cast nbuf0_4)
/-- The staging memref of window 5 at a point. -/
abbrev mem5 (t : Fin cfg0.N) : Memref sig .tc .vmem S512x512 .bf16 := win0_5.stage (cfg0.slots t 5)
/-- It is whole. -/
theorem whole5 (t : Fin cfg0.N) : (mem5 t).IsWhole := hstage0_5 ((cfg0.slots t 5).cast nbuf0_5)
/-- The staging memref of window 6 at a point. -/
abbrev mem6 (t : Fin cfg0.N) : Memref sig .tc .vmem S1x4x1x128x512 .bf16 := win0_6.stage (cfg0.slots t 6)
/-- It is whole. -/
theorem whole6 (t : Fin cfg0.N) : (mem6 t).IsWhole := hstage0_6 ((cfg0.slots t 6).cast nbuf0_6)
/-- The staging memref of window 7 at a point. -/
abbrev mem7 (t : Fin cfg0.N) : Memref sig .tc .vmem S2048x128 .f32 := win0_7.stage (cfg0.slots t 7)
/-- It is whole. -/
theorem whole7 (t : Fin cfg0.N) : (mem7 t).IsWhole := hstage0_7 ((cfg0.slots t 7).cast nbuf0_7)
/-- The staging memref of window 8 at a point. -/
abbrev mem8 (t : Fin cfg0.N) : Memref sig .tc .vmem S2048x128 .f32 := win0_8.stage (cfg0.slots t 8)
/-- It is whole. -/
theorem whole8 (t : Fin cfg0.N) : (mem8 t).IsWhole := hstage0_8 ((cfg0.slots t 8).cast nbuf0_8)
/-- The staging memref of window 9 at a point. -/
abbrev mem9 (t : Fin cfg0.N) : Memref sig .tc .vmem S1x4x512x128 .bf16 := win0_9.stage (cfg0.slots t 9)
/-- It is whole. -/
theorem whole9 (t : Fin cfg0.N) : (mem9 t).IsWhole := hstage0_9 ((cfg0.slots t 9).cast nbuf0_9)
/-- The staging memref of window 10 at a point. -/
abbrev mem10 (t : Fin cfg0.N) : Memref sig .tc .vmem S1x4x1x144x512 .bf16 := win0_10.stage (cfg0.slots t 10)
/-- It is whole. -/
theorem whole10 (t : Fin cfg0.N) : (mem10 t).IsWhole := hstage0_10 ((cfg0.slots t 10).cast nbuf0_10)
/-- The staging memref of window 11 at a point. -/
abbrev mem11 (t : Fin cfg0.N) : Memref sig .tc .vmem S1x2x512 .f32 := win0_11.stage (cfg0.slots t 11)
/-- It is whole. -/
theorem whole11 (t : Fin cfg0.N) : (mem11 t).IsWhole := hstage0_11 ((cfg0.slots t 11).cast nbuf0_11)
/-- The scratch memref. -/
abbrev scr : Memref sig .tc .vmem S520x512 .f32 := Memref.whole cc0_scratch0
/-- It is whole. -/
theorem whole_scr : scr.IsWhole := Memref.isWhole_whole _

/-- What the launch hands over, with the scratch as a memref owned at some contents. -/
theorem PhiA_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- The body run at a point that begins a batch. -/
abbrev atA (c : Dev nD) (t : Fin cfg0.N) (h : t.val % 8 = 0) :=
  runA c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) scr whole_scr
    (iblk m c 0 t) (iblk m c 1 t) (iblk m c 2 t) (iblk m c 3 t) (iblk m c 4 t) ((first_iff t).mpr h)

/-- The body run at a later point, over what the scratch holds. -/
abbrev atB (c : Dev nD) (t : Fin cfg0.N) (h : ¬t.val % 8 = 0) (xs : Vec F S520x512 .f32) :=
  runB c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) scr whole_scr
    (iblk m c 0 t) (iblk m c 1 t) (iblk m c 2 t) (iblk m c 3 t) (iblk m c 4 t) (fun h' => h ((first_iff t).mp h')) xs

/-- What the outputs' staging buffers and the scratch hold after a point. -/
structure Left (F : FTy → Type) [FloatOps F] where
  /-- the convolution mixer's rows -/
  y : Vec F S512x512 .bf16
  /-- the queries, by head and tile -/
  q : Vec F S1x4x1x128x512 .bf16
  /-- the keys in f32 -/
  k : Vec F S2048x128 .f32
  /-- the values in f32 -/
  v : Vec F S2048x128 .f32
  /-- the keys by head -/
  kb : Vec F S1x4x512x128 .bf16
  /-- the values by head and tile, over the row of ones -/
  vb : Vec F S1x4x1x144x512 .bf16
  /-- the last two rows of the convolution's argument -/
  st : Vec F S1x2x512 .f32
  /-- the scratch -/
  scr : Vec F S520x512 .f32

/-- What is left at the first tile of a batch. -/
def leftA (c : Dev nD) (t : Fin cfg0.N) (h : t.val % 8 = 0) : Left F where
  y := View.canon (atA m c t h).1
  q := View.canon (atA m c t h).2.1
  k := View.canon (atA m c t h).2.2.1
  v := View.canon (atA m c t h).2.2.2.1
  kb := View.canon (atA m c t h).2.2.2.2.1
  vb := View.canon (atA m c t h).2.2.2.2.2.1
  st := View.canon (atA m c t h).2.2.2.2.2.2.1
  scr := View.canon (atA m c t h).2.2.2.2.2.2.2.1

/-- What is left at a later tile. -/
def leftB (c : Dev nD) (t : Fin cfg0.N) (h : ¬t.val % 8 = 0) (xs : Vec F S520x512 .f32) : Left F where
  y := View.canon (atB m c t h xs).1
  q := View.canon (atB m c t h xs).2.1
  k := View.canon (atB m c t h xs).2.2.1
  v := View.canon (atB m c t h xs).2.2.2.1
  kb := View.canon (atB m c t h xs).2.2.2.2.1
  vb := View.canon (atB m c t h xs).2.2.2.2.2.1
  st := View.canon (atB m c t h xs).2.2.2.2.2.2.1
  scr := View.canon (atB m c t h xs).2.2.2.2.2.2.2.1

/-- What is left after each point, over what was left after the point before. -/
def lefts (c : Dev nD) : (n : ℕ) → n < cfg0.N → Left F
  | 0, hn => leftA m c ⟨0, hn⟩ (Nat.zero_mod _)
  | n + 1, hn =>
    if h : (n + 1) % 8 = 0 then leftA m c ⟨n + 1, hn⟩ h
    else leftB m c ⟨n + 1, hn⟩ h (lefts c n (Nat.lt_of_succ_lt hn)).scr

/-- At the first tile of a batch. -/
theorem lefts_A (c : Dev nD) (t : Fin cfg0.N) (h : t.val % 8 = 0) : lefts m c t.val t.isLt = leftA m c t h := by
  obtain ⟨n, hn⟩ := t
  cases n with
  | zero => exact rfl
  | succ n => exact (dif_pos h).trans rfl

/-- At a later tile. -/
theorem lefts_B (c : Dev nD) (t : Fin cfg0.N) (h : ¬t.val % 8 = 0) :
    lefts m c t.val t.isLt = leftB m c t h (lefts m c (t.val - 1) (Nat.lt_of_le_of_lt (Nat.sub_le _ _) t.isLt)).scr := by
  obtain ⟨n, hn⟩ := t
  cases n with
  | zero => exact absurd (Nat.zero_mod _) h
  | succ n => exact (dif_neg h).trans rfl

/-- The invariant before a point: at first what the launch hands over, then the scratch at what the point before left. -/
def Inv (c : Dev nD) : (n : ℕ) → n ≤ cfg0.N → sProp 𝕄
  | 0, _ => Pipeline.ΦA spec0 c
  | n + 1, hn => iprop(owns (c : Thread nD τ) scr fullShare (lefts m c n hn).scr ∗ (∃ r, prngReg c r))

/-- Before the first point. -/
theorem Inv_zero (c : Dev nD) (n : ℕ) (h : n ≤ cfg0.N) (hz : n = 0) : Inv m c n h = Pipeline.ΦA spec0 c := by
  subst hz; rfl

/-- After a point. -/
theorem Inv_succ (c : Dev nD) (n : ℕ) (hn : n < cfg0.N) :
    Inv m c (n + 1) hn = iprop(owns (c : Thread nD τ) scr fullShare (lefts m c n hn).scr ∗ (∃ r, prngReg c r)) := rfl

/-- Before a point that is not the first. -/
theorem Inv_pos (c : Dev nD) (n : ℕ) (h : n ≤ cfg0.N) (hz : n ≠ 0) :
    Inv m c n h = iprop(owns (c : Thread nD τ) scr fullShare (lefts m c (n - 1) (by omega)).scr ∗ (∃ r, prngReg c r)) := by
  cases n with
  | zero => exact absurd rfl hz
  | succ n => rfl

/-- The invariant gives the scratch at some contents. -/
theorem Inv_any (c : Dev nD) (n : ℕ) (h : n ≤ cfg0.N) :
    Inv m c n h ⊢ iprop((∃ d, owns (c : Thread nD τ) scr fullShare d) ∗ (∃ r, prngReg c r)) := by
  by_cases hz : n = 0
  · rw [Inv_zero m c n h hz, PhiA_eq]
  · rw [Inv_pos m c n h hz]
    iintro ⟨HS, Hg⟩
    isplitl [HS]
    · iexists _; iexact HS
    iexact Hg

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (lefts m c t.val t.isLt).y
    | ⟨6, _⟩ => (lefts m c t.val t.isLt).q
    | ⟨7, _⟩ => (lefts m c t.val t.isLt).k
    | ⟨8, _⟩ => (lefts m c t.val t.isLt).v
    | ⟨9, _⟩ => (lefts m c t.val t.isLt).kb
    | ⟨10, _⟩ => (lefts m c t.val t.isLt).vb
    | ⟨11, _⟩ => (lefts m c t.val t.isLt).st
  Φ t := Inv m c t.val (Nat.le_of_lt_succ t.isLt)
  q _ := fullShare
  owed _ := 0

/-- Its arrays are those the region finds. -/
theorem A_eq (c : Dev nD) (w : Fin cfg0.W) : (dats m 0 c).A w = V m c (Pipeline.arrRef spec0 w) := by
  dsimp only [dats]

/-- The invariant at a point's start. -/
theorem Inv_castSucc (c : Dev nD) (t : Fin cfg0.N) : (dats m 0 c).Φ t.castSucc = Inv m c t.val (Nat.le_of_lt t.isLt) := by
  dsimp only [dats]; exact Pipeline.Dat.Φ_castSucc (Inv m c) t

/-- What the body leaves in window 0. -/
theorem after0 (c : Dev nD) (t : Fin cfg0.N) : (dats m 0 c).after 0 t = iblk m c 0 t := by dsimp only [dats]
/-- What the body leaves in window 1. -/
theorem after1 (c : Dev nD) (t : Fin cfg0.N) : (dats m 0 c).after 1 t = iblk m c 1 t := by dsimp only [dats]
/-- What the body leaves in window 2. -/
theorem after2 (c : Dev nD) (t : Fin cfg0.N) : (dats m 0 c).after 2 t = iblk m c 2 t := by dsimp only [dats]
/-- What the body leaves in window 3. -/
theorem after3 (c : Dev nD) (t : Fin cfg0.N) : (dats m 0 c).after 3 t = iblk m c 3 t := by dsimp only [dats]
/-- What the body leaves in window 4. -/
theorem after4 (c : Dev nD) (t : Fin cfg0.N) : (dats m 0 c).after 4 t = iblk m c 4 t := by dsimp only [dats]
/-- What the body leaves in window 5. -/
theorem after5 (c : Dev nD) (t : Fin cfg0.N) : (dats m 0 c).after 5 t = (lefts m c t.val t.isLt).y := by dsimp only [dats]
/-- What the body leaves in window 6. -/
theorem after6 (c : Dev nD) (t : Fin cfg0.N) : (dats m 0 c).after 6 t = (lefts m c t.val t.isLt).q := by dsimp only [dats]
/-- What the body leaves in window 7. -/
theorem after7 (c : Dev nD) (t : Fin cfg0.N) : (dats m 0 c).after 7 t = (lefts m c t.val t.isLt).k := by dsimp only [dats]
/-- What the body leaves in window 8. -/
theorem after8 (c : Dev nD) (t : Fin cfg0.N) : (dats m 0 c).after 8 t = (lefts m c t.val t.isLt).v := by dsimp only [dats]
/-- What the body leaves in window 9. -/
theorem after9 (c : Dev nD) (t : Fin cfg0.N) : (dats m 0 c).after 9 t = (lefts m c t.val t.isLt).kb := by dsimp only [dats]
/-- What the body leaves in window 10. -/
theorem after10 (c : Dev nD) (t : Fin cfg0.N) : (dats m 0 c).after 10 t = (lefts m c t.val t.isLt).vb := by dsimp only [dats]
/-- What the body leaves in window 11. -/
theorem after11 (c : Dev nD) (t : Fin cfg0.N) : (dats m 0 c).after 11 t = (lefts m c t.val t.isLt).st := by dsimp only [dats]

/-- What the body finds in window 0: its block. -/
theorem before0 (c : Dev nD) (t : Fin cfg0.N) (d) : (dats m 0 c).before 0 t d = iblk m c 0 t :=
  before0_0_of m (dats m 0 c) (A_eq m c 0) (after0 m c) t d
/-- What the body finds in window 1: its block. -/
theorem before1 (c : Dev nD) (t : Fin cfg0.N) (d) : (dats m 0 c).before 1 t d = iblk m c 1 t :=
  before0_1_of m (dats m 0 c) (A_eq m c 1) (after1 m c) t d
/-- What the body finds in window 2: its block. -/
theorem before2 (c : Dev nD) (t : Fin cfg0.N) (d) : (dats m 0 c).before 2 t d = iblk m c 2 t :=
  before0_2_of m (dats m 0 c) (A_eq m c 2) (after2 m c) t d
/-- What the body finds in window 3: its block. -/
theorem before3 (c : Dev nD) (t : Fin cfg0.N) (d) : (dats m 0 c).before 3 t d = iblk m c 3 t :=
  before0_3_of m (dats m 0 c) (A_eq m c 3) (after3 m c) t d
/-- What the body finds in window 4: its block. -/
theorem before4 (c : Dev nD) (t : Fin cfg0.N) (d) : (dats m 0 c).before 4 t d = iblk m c 4 t :=
  before0_4_of m (dats m 0 c) (A_eq m c 4) (after4 m c) t d

/-- What the body is called with at a point. -/
def Pre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d))
    ∗ (∃ d, owns (c : Thread nD τ) (mem9 t) fullShare ((dats m 0 c).before 9 t d))
    ∗ (∃ d, owns (c : Thread nD τ) (mem10 t) fullShare ((dats m 0 c).before 10 t d))
    ∗ (∃ d, owns (c : Thread nD τ) (mem11 t) fullShare ((dats m 0 c).before 11 t d)))

/-- What it returns. -/
def Post (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t)
    ∗ owns (c : Thread nD τ) (mem5 t) fullShare ((dats m 0 c).after 5 t)
    ∗ owns (c : Thread nD τ) (mem6 t) fullShare ((dats m 0 c).after 6 t)
    ∗ owns (c : Thread nD τ) (mem7 t) fullShare ((dats m 0 c).after 7 t)
    ∗ owns (c : Thread nD τ) (mem8 t) fullShare ((dats m 0 c).after 8 t)
    ∗ owns (c : Thread nD τ) (mem9 t) fullShare ((dats m 0 c).after 9 t)
    ∗ owns (c : Thread nD τ) (mem10 t) fullShare ((dats m 0 c).after 10 t)
    ∗ owns (c : Thread nD τ) (mem11 t) fullShare ((dats m 0 c).after 11 t))

set_option maxHeartbeats 6400000 in
/-- The body at any point takes the one to the other. -/
theorem sound (c : Dev nD) (t : Fin cfg0.N) :
    Pre m c t ⊢ wp frame (wpE (defs₀ (F := F)) Variants.none c none) Set.univ (bodyAt0 t) (fun _ => Post m c t) := by
  unfold Pre Post bodyAt0
  simp only [before0, before1, before2, before3, before4]
  rw [show (dats m 0 c).owesAt () t.succ = (dats m 0 c).owesAt () t.castSucc from rfl,
    after0, after1, after2, after3, after4, after5, after6, after7, after8, after9, after10, after11]
  rw [show (dats m 0 c).Φ t.succ = Inv m c (t.val + 1) t.isLt from rfl, Inv_succ, Inv_castSucc m c t]
  by_cases h : t.val % 8 = 0
  · rw [lefts_A m c t h]
    unfold leftA; dsimp only
    refine BIClass.entails_trans (BIClass.sep_mono (Inv_any m c t.val (Nat.le_of_lt t.isLt)) (BIClass.entails_refl _)) ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((atA m c t h).2.2.2.2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS]; · iexact HS
    iintro ⟨H0, H1, H2, H3, H4, ⟨%e5, H5⟩, ⟨%e6, H6⟩, ⟨%e7, H7⟩, ⟨%e8, H8⟩, ⟨%e9, H9⟩, ⟨%e10, H10⟩, ⟨%e11, H11⟩, ⟨%es, HS⟩⟩
    isplitl [HS Hg]
    · isplitl [HS]
      · unfold owns; iexists _; isplitr
        swap; · iexact HS
        ipureintro; exact View.read_writes_eq_canon _ _ _ (coverA_12 c _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverA_5 c _ _ _ _ _ _ _ _ _ _ _ _ _ _ _ _ _ _ _ _ _ _ _ _ _ _ _ _ _ _ _ _ _)
    isplitl [H6]
    · unfold owns; iexists _; isplitr
      swap; · iexact H6
      ipureintro; exact View.read_writes_eq_canon _ _ _ (coverA_6 c _ _ _ _ _ _ _ _ _ _ _ _ _ _ _ _ _ _ _ _ _ _ _ _ _ _ _ _ _ _ _ _ _)
    isplitl [H7]
    · unfold owns; iexists _; isplitr
      swap; · iexact H7
      ipureintro; exact View.read_writes_eq_canon _ _ _ (coverA_7 c _ _ _ _ _ _ _ _ _ _ _ _ _ _ _ _ _ _ _ _ _ _ _ _ _ _ _ _ _ _ _ _ _)
    isplitl [H8]
    · unfold owns; iexists _; isplitr
      swap; · iexact H8
      ipureintro; exact View.read_writes_eq_canon _ _ _ (coverA_8 c _ _ _ _ _ _ _ _ _ _ _ _ _ _ _ _ _ _ _ _ _ _ _ _ _ _ _ _ _ _ _ _ _)
    isplitl [H9]
    · unfold owns; iexists _; isplitr
      swap; · iexact H9
      ipureintro; exact View.read_writes_eq_canon _ _ _ (coverA_9 c _ _ _ _ _ _ _ _ _ _ _ _ _ _ _ _ _ _ _ _ _ _ _ _ _ _ _ _ _ _ _ _ _)
    isplitl [H10]
    · unfold owns; iexists _; isplitr
      swap; · iexact H10
      ipureintro; exact View.read_writes_eq_canon _ _ _ (coverA_10 c _ _ _ _ _ _ _ _ _ _ _ _ _ _ _ _ _ _ _ _ _ _ _ _ _ _ _ _ _ _ _ _ _)
    unfold owns; iexists _; isplitr
    swap; · iexact H11
    ipureintro; exact View.read_writes_eq_canon _ _ _ (coverA_11 c _ _ _ _ _ _ _ _ _ _ _ _ _ _ _ _ _ _ _ _ _ _ _ _ _ _ _ _ _ _ _ _ _)
  · rw [Inv_pos m c t.val (Nat.le_of_lt t.isLt) (fun e => h (by rw [e])), lefts_B m c t h]
    unfold leftB; dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((atB m c t h (lefts m c (t.val - 1) (Nat.lt_of_le_of_lt (Nat.sub_le _ _) t.isLt)).scr).2.2.2.2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS]; · iexact HS
    iintro ⟨H0, H1, H2, H3, H4, ⟨%e5, H5⟩, ⟨%e6, H6⟩, ⟨%e7, H7⟩, ⟨%e8, H8⟩, ⟨%e9, H9⟩, ⟨%e10, H10⟩, ⟨%e11, H11⟩, ⟨%es, HS⟩⟩
    isplitl [HS Hg]
    · isplitl [HS]
      · unfold owns; iexists _; isplitr
        swap; · iexact HS
        ipureintro; exact View.read_writes_eq_canon _ _ _ (coverB_12 c _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverB_5 c _ _ _ _ _ _ _ _ _ _ _ _ _ _ _ _ _ _ _ _ _ _ _ _ _ _ _ _ _ _ _ _ _ _)
    isplitl [H6]
    · unfold owns; iexists _; isplitr
      swap; · iexact H6
      ipureintro; exact View.read_writes_eq_canon _ _ _ (coverB_6 c _ _ _ _ _ _ _ _ _ _ _ _ _ _ _ _ _ _ _ _ _ _ _ _ _ _ _ _ _ _ _ _ _ _)
    isplitl [H7]
    · unfold owns; iexists _; isplitr
      swap; · iexact H7
      ipureintro; exact View.read_writes_eq_canon _ _ _ (coverB_7 c _ _ _ _ _ _ _ _ _ _ _ _ _ _ _ _ _ _ _ _ _ _ _ _ _ _ _ _ _ _ _ _ _ _)
    isplitl [H8]
    · unfold owns; iexists _; isplitr
      swap; · iexact H8
      ipureintro; exact View.read_writes_eq_canon _ _ _ (coverB_8 c _ _ _ _ _ _ _ _ _ _ _ _ _ _ _ _ _ _ _ _ _ _ _ _ _ _ _ _ _ _ _ _ _ _)
    isplitl [H9]
    · unfold owns; iexists _; isplitr
      swap; · iexact H9
      ipureintro; exact View.read_writes_eq_canon _ _ _ (coverB_9 c _ _ _ _ _ _ _ _ _ _ _ _ _ _ _ _ _ _ _ _ _ _ _ _ _ _ _ _ _ _ _ _ _ _)
    isplitl [H10]
    · unfold owns; iexists _; isplitr
      swap; · iexact H10
      ipureintro; exact View.read_writes_eq_canon _ _ _ (coverB_10 c _ _ _ _ _ _ _ _ _ _ _ _ _ _ _ _ _ _ _ _ _ _ _ _ _ _ _ _ _ _ _ _ _ _)
    unfold owns; iexists _; isplitr
    swap; · iexact H11
    ipureintro; exact View.read_writes_eq_canon _ _ _ (coverB_11 c _ _ _ _ _ _ _ _ _ _ _ _ _ _ _ _ _ _ _ _ _ _ _ _ _ _ _ _ _ _ _ _ _ _)

/-- The body table's row at a point is the body. -/
theorem row (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

/-- What the launch hands over is the invariant before the first point. -/
theorem enter (c : Dev nD) : Pipeline.ΦA spec0 c ⊢ (dats m 0 c).Φ 0 := by
  rw [show (dats m 0 c).Φ 0 = Inv m c 0 (Nat.zero_le _) from rfl, Inv_zero m c 0 _ rfl]

/-- After the last point the invariant gives it back. -/
theorem leave (c : Dev nD) : (dats m 0 c).Φ (Fin.last cfg0.N) ⊢ Pipeline.ΦA spec0 c := by
  rw [show (dats m 0 c).Φ (Fin.last cfg0.N) = Inv m c cfg0.N (le_refl _) from rfl, PhiA_eq]
  exact Inv_any m c _ _

set_option backward.isDefEq.respectTransparency.types false in
/-- The launch: every execution ends, with the arrays at what the proof data say and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Kernel3Ideal.Mix

end
-- ==== Proof.MixTile.lean ====
/- What one tile of the mixer call's body computes, entry by entry, as the row arithmetic of MixRow. -/
module

public import proofs.«01_k».proof.Proof.MixRow
public import proofs.«01_k».proof.Proof.MixFrame
public import Idealize.ShloMosaic.Lib.Pipeline.ValueKit.Tiles

@[expose] public section

noncomputable section

namespace Cert.Kernel3Ideal.Mix

open Cert.Kernel3Ideal Cert.Kernel3Ideal.Gen Idealize.ShloMosaic Idealize.ShloMosaic.TcCoe Cert.FfnRow Cert.MixRow

/-- The projection of a tile's row `r`. -/
def tileProj (x0 : Vec Ideal S512x1024 .f32) (x1 : Vec Ideal S1x1024 .f32) (x2 : Vec Ideal S1024x3072 .bf16) (r : Fin 512) (n : Fin 3072) : EReal :=
  proj (fun k => x0 (ix2 r k)) (fun k => x1 (ix2 0 k)) (fun k n => x2 (ix2 k n)) n

/-- What the convolution reads of a tile's row `r`. -/
def tilePre (x0 : Vec Ideal S512x1024 .f32) (x1 : Vec Ideal S1x1024 .f32) (x2 : Vec Ideal S1024x3072 .bf16) (r : Fin 512) (n : Fin 512) : EReal :=
  pre (fun k => x0 (ix2 r k)) (fun k => x1 (ix2 0 k)) (fun k n => x2 (ix2 k n)) n

/-- The scratch's row `q`: a carried row for `q` under 8, else the tile's own. -/
def prevPre (xs : Fin 8 → Fin 512 → EReal) (U : Fin 512 → Fin 512 → EReal) (q : Fin 520) (n : Fin 512) : EReal :=
  if h : q.val < 8 then xs ⟨q.val, h⟩ n else U ⟨q.val - 8, by omega⟩ n

theorem pay7_apply (x0 : Vec Ideal S512x1024 .f32) (x1 : Vec Ideal S1x1024 .f32) (r : Fin 512) (k : Fin 1024) :
    k0_pay7 x0 x1 (ix2 r k) = unit (fun k => x0 (ix2 r k)) (fun k => x1 (ix2 0 k)) k := by
  pointwise [k0_pay7]
  rfl

theorem pay9_apply (x0 : Vec Ideal S512x1024 .f32) (x1 : Vec Ideal S1x1024 .f32) (W W' : Vec Ideal S1024x512 .bf16) (r : Fin 512) (n : Fin 512) :
    k0_pay9 x0 x1 W W' (ix2 r n) = (∑ k, unit (fun k => x0 (ix2 r k)) (fun k => x1 (ix2 0 k)) k * W (ix2 k n))
      * ∑ k, unit (fun k => x0 (ix2 r k)) (fun k => x1 (ix2 0 k)) k * W' (ix2 k n) := by
  pointwise [k0_pay9]
  simp only [pay7_apply]

theorem pay10_apply (x0 : Vec Ideal S512x1024 .f32) (x1 : Vec Ideal S1x1024 .f32) (W W' : Vec Ideal S1024x512 .bf16) (r : Fin 512) (n : Fin 512) :
    k0_pay10 x0 x1 W W' (ix2 r n) = k0_pay9 x0 x1 W W' (ix2 r n) := by
  pointwise [k0_pay10]

theorem pay8_apply (r : Fin 8) (n : Fin 512) : k0_pay8 (F := Ideal) (ix2 r n) = 0 := by
  pointwise [k0_pay8]

/-- What the convolution reads of the tile's row, as the kernel computes it. -/
theorem pre_apply (x0 : Vec Ideal S512x1024 .f32) (x1 : Vec Ideal S1x1024 .f32) (x2 : Vec Ideal S1024x3072 .bf16) (r : Fin 512) (n : Fin 512) :
    k0_pay9 x0 x1 (View.ld x2 (Rect.unit ![0, 512] ![1024, 512] inb_S1024x3072_S1024x512_0_512))
      (View.ld x2 (Rect.unit ![0, 1024] ![1024, 512] inb_S1024x3072_S1024x512_0_1024)) (ix2 r n) = tilePre x0 x1 x2 r n := by
  rw [pay9_apply]
  pointwise []
  rfl

theorem pay14_apply (x0 : Vec Ideal S512x1024 .f32) (x1 : Vec Ideal S1x1024 .f32) (u : Vec Ideal S512x512 .f32) (w : Vec Ideal S3x512 .f32)
    (b : Vec Ideal S1x512 .f32) (p2 p1 : Vec Ideal S512x512 .f32) (W : Vec Ideal S1024x512 .bf16) (r : Fin 512) (n : Fin 512) :
    k0_pay14 (F := Ideal) (k0_pay7 x0 x1) u (k0_pay11 w) (k0_pay12 b) (k0_pay13 w) p2 p1 W (ix2 r n)
      = (∑ k, unit (fun k => x0 (ix2 r k)) (fun k => x1 (ix2 0 k)) k * W (ix2 k n))
        * conv (b (ix2 0 n)) (w (ix2 0 n)) (w (ix2 1 n)) (w (ix2 2 n)) (p2 (ix2 r n)) (p1 (ix2 r n)) (u (ix2 r n)) := by
  pointwise [k0_pay14, k0_pay13, k0_pay12, k0_pay11]
  simp only [pay7_apply]
  rfl

/-- THE MIXER'S ENTRY of a tile's row `r`, from the rows before it. -/
theorem mix_apply (x0 : Vec Ideal S512x1024 .f32) (x1 : Vec Ideal S1x1024 .f32) (x2 : Vec Ideal S1024x3072 .bf16) (w : Vec Ideal S3x512 .f32)
    (b : Vec Ideal S1x512 .f32) (p2 p1 : Vec Ideal S512x512 .f32) (r : Fin 512) (n : Fin 512) :
    k0_pay14 (F := Ideal) (k0_pay7 x0 x1) (k0_pay9 x0 x1 (View.ld x2 (Rect.unit ![0, 512] ![1024, 512] inb_S1024x3072_S1024x512_0_512))
      (View.ld x2 (Rect.unit ![0, 1024] ![1024, 512] inb_S1024x3072_S1024x512_0_1024))) (k0_pay11 w) (k0_pay12 b) (k0_pay13 w) p2 p1
      (View.ld x2 (Rect.unit ![0, 0] ![1024, 512] inb_S1024x3072_S1024x512_0_0)) (ix2 r n)
      = tileProj x0 x1 x2 r ⟨n.val, by omega⟩
        * conv (b (ix2 0 n)) (w (ix2 0 n)) (w (ix2 1 n)) (w (ix2 2 n)) (p2 (ix2 r n)) (p1 (ix2 r n)) (tilePre x0 x1 x2 r n) := by
  rw [pay14_apply, pre_apply]
  pointwise []
  rfl

theorem pay15_apply (u : Vec Ideal S512x512 .f32) (a : Fin 2) (n : Fin 512) : k0_pay15 (F := Ideal) u (ix3 0 a n) = u (ix2 ⟨510 + a.val, by omega⟩ n) := by
  pointwise [k0_pay15]

theorem pay16_apply (u : Vec Ideal S512x512 .f32) (a : Fin 8) (n : Fin 512) : k0_pay16 (F := Ideal) u (ix2 a n) = u (ix2 ⟨504 + a.val, by omega⟩ n) := by
  pointwise [k0_pay16]

/-- The keys of the tile's row. -/
theorem pay18_apply (x0 : Vec Ideal S512x1024 .f32) (x1 : Vec Ideal S1x1024 .f32) (x2 : Vec Ideal S1024x3072 .bf16) (r : Fin 512) (n : Fin 512) :
    k0_pay18 (F := Ideal) (k0_pay7 x0 x1) (View.ld x2 (Rect.unit ![0, 2048] ![1024, 512] inb_S1024x3072_S1024x512_0_2048)) (ix2 r n)
      = tileProj x0 x1 x2 r ⟨2048 + n.val, by omega⟩ := by
  pointwise [k0_pay18]
  simp only [pay7_apply]
  rfl

/-- The values of the tile's row. -/
theorem pay19_apply (x0 : Vec Ideal S512x1024 .f32) (x1 : Vec Ideal S1x1024 .f32) (x2 : Vec Ideal S1024x3072 .bf16) (r : Fin 512) (n : Fin 512) :
    k0_pay19 (F := Ideal) (k0_pay7 x0 x1) (View.ld x2 (Rect.unit ![0, 2560] ![1024, 512] inb_S1024x3072_S1024x512_0_2560)) (ix2 r n)
      = tileProj x0 x1 x2 r ⟨2560 + n.val, by omega⟩ := by
  pointwise [k0_pay19]
  simp only [pay7_apply]
  rfl

theorem pay22_apply (u : Vec Ideal S512x512 .f32) (r : Fin 512) (l : Fin 128) : k0_pay22 (F := Ideal) u (ix2 r l) = u (ix2 r ⟨l.val, by omega⟩) := by
  pointwise [k0_pay22]

theorem pay28_apply (u : Vec Ideal S512x512 .f32) (r : Fin 512) (l : Fin 128) : k0_pay28 (F := Ideal) u (ix2 r l) = u (ix2 r ⟨128 + l.val, by omega⟩) := by
  pointwise [k0_pay28]

theorem pay35_apply (u : Vec Ideal S512x512 .f32) (r : Fin 512) (l : Fin 128) : k0_pay35 (F := Ideal) u (ix2 r l) = u (ix2 r ⟨256 + l.val, by omega⟩) := by
  pointwise [k0_pay35]

theorem pay2_apply (u : Vec Ideal S512x512 .f32) (r : Fin 512) (l : Fin 128) : k0_pay2 (F := Ideal) u (ix2 r l) = u (ix2 r ⟨384 + l.val, by omega⟩) := by
  pointwise [k0_pay2]

theorem pay23_apply (a b) (r : Fin 512) (l : Fin 128) : k0_pay23 (F := Ideal) a b (ix2 r l) = k0_pay19 a b (ix2 r ⟨l.val, by omega⟩) := by
  pointwise [k0_pay23]

theorem pay29_apply (u : Vec Ideal S512x512 .f32) (r : Fin 512) (l : Fin 128) : k0_pay29 (F := Ideal) u (ix2 r l) = u (ix2 r ⟨128 + l.val, by omega⟩) := by
  pointwise [k0_pay29]

theorem pay36_apply (u : Vec Ideal S512x512 .f32) (r : Fin 512) (l : Fin 128) : k0_pay36 (F := Ideal) u (ix2 r l) = u (ix2 r ⟨256 + l.val, by omega⟩) := by
  pointwise [k0_pay36]

theorem pay3_apply (u : Vec Ideal S512x512 .f32) (r : Fin 512) (l : Fin 128) : k0_pay3 (F := Ideal) u (ix2 r l) = u (ix2 r ⟨384 + l.val, by omega⟩) := by
  pointwise [k0_pay3]

/-- A store of the rows of remainder `k` by four puts its row `r` at row `4 r + k`. -/
theorem piece_fourth (k : ℕ) (hk : k < 4) (P : Vec Ideal S512x128 .f32) (inb sp) (g : Fin 512 → Fin 512 → EReal)
    (h : ∀ (r : Fin 512) (l : Fin 128), P (ix2 r l) = g r ⟨k * 128 + l.val, by omega⟩) (x : S512x128.Idx) :
    P x = (fun y : S2048x128.Idx => g ⟨(y 0).val / 4, by have h : (y 0).val < 2048 := (y 0).isLt; omega⟩ ⟨(y 0).val % 4 * 128 + (y 1).val, by have h : (y 1).val < 128 := (y 1).isLt; omega⟩)
      ((⟨(⟨![k, 0], S512x128.size, ![4, 1], inb⟩ : LoadRect S2048x128), sp⟩ : Rect S2048x128).emb x) := by
  have h1 : (x 1).val < 128 := (x 1).isLt
  have hx : x = ix2 (x 0) (x 1) := by
    funext a
    fin_cases a <;> rfl
  have e0 : ((⟨(⟨![k, 0], S512x128.size, ![4, 1], inb⟩ : LoadRect S2048x128), sp⟩ : Rect S2048x128).emb x 0).val = k + 4 * (x 0).val := rfl
  have e1 : ((⟨(⟨![k, 0], S512x128.size, ![4, 1], inb⟩ : LoadRect S2048x128), sp⟩ : Rect S2048x128).emb x 1).val = 0 + 1 * (x 1).val := rfl
  dsimp only
  simp only [e0, e1]
  refine (congrArg P hx).trans ((h (x 0) (x 1)).trans ?_)
  congr 1
  · ext
    show (x 0).val = (k + 4 * (x 0).val) / 4
    omega
  · ext
    show k * 128 + (x 1).val = (k + 4 * (x 0).val) % 4 * 128 + (0 + 1 * (x 1).val)
    have : (k + 4 * (x 0).val) % 4 = k := by omega
    omega

/-- Four stores, of the rows of each remainder by four, read at one entry: the store of the row's remainder. -/
theorem fourth_apply (P0 P1 P2 P3 : Vec Ideal S512x128 .f32) (i0 i1 i2 i3) (sp) (q : Fin 2048) (l : Fin 128) (g : Fin 512 → Fin 512 → EReal)
    (h0 : ∀ (r : Fin 512) (l : Fin 128), P0 (ix2 r l) = g r ⟨0 * 128 + l.val, by omega⟩) (h1 : ∀ (r : Fin 512) (l : Fin 128), P1 (ix2 r l) = g r ⟨1 * 128 + l.val, by omega⟩)
    (h2 : ∀ (r : Fin 512) (l : Fin 128), P2 (ix2 r l) = g r ⟨2 * 128 + l.val, by omega⟩) (h3 : ∀ (r : Fin 512) (l : Fin 128), P3 (ix2 r l) = g r ⟨3 * 128 + l.val, by omega⟩) :
    View.canon ([⟨⟨(⟨![3, 0], S512x128.size, ![4, 1], i3⟩ : LoadRect S2048x128), sp⟩, P3⟩, ⟨⟨(⟨![2, 0], S512x128.size, ![4, 1], i2⟩ : LoadRect S2048x128), sp⟩, P2⟩,
      ⟨⟨(⟨![1, 0], S512x128.size, ![4, 1], i1⟩ : LoadRect S2048x128), sp⟩, P1⟩, ⟨⟨(⟨![0, 0], S512x128.size, ![4, 1], i0⟩ : LoadRect S2048x128), sp⟩, P0⟩] : List (View.Piece (Elt Ideal) S2048x128 .f32))
      (ix2 q l) = g ⟨q.val / 4, by omega⟩ ⟨q.val % 4 * 128 + l.val, by omega⟩ := by
  refine (View.canon_apply_of_pieces (fun y : S2048x128.Idx => g ⟨(y 0).val / 4, by have h : (y 0).val < 2048 := (y 0).isLt; omega⟩ ⟨(y 0).val % 4 * 128 + (y 1).val, by have h : (y 1).val < 128 := (y 1).isLt; omega⟩)
    _ ?_ (ix2 q l) (cover_fourth P0 P1 P2 P3 i0 i1 i2 i3 sp (ix2 q l))).trans rfl
  intro p hp
  rcases List.mem_cons.mp hp with rfl | hp
  · exact piece_fourth 3 (by decide) P3 i3 sp g h3
  rcases List.mem_cons.mp hp with rfl | hp
  · exact piece_fourth 2 (by decide) P2 i2 sp g h2
  rcases List.mem_cons.mp hp with rfl | hp
  · exact piece_fourth 1 (by decide) P1 i1 sp g h1
  rcases List.mem_cons.mp hp with rfl | hp
  · exact piece_fourth 0 (by decide) P0 i0 sp g h0
  · exact absurd hp List.not_mem_nil

end Cert.Kernel3Ideal.Mix

end
-- ==== Proof.MixCase.lean ====
/- What the mixer call's body leaves at one grid point, in both of its cases, entry by entry, as the row arithmetic of MixRow. -/
module

public import proofs.«01_k».proof.Proof.MixTile
public import Idealize.ShloMosaic.Lib.WritesUnit

@[expose] public section

set_option maxRecDepth 16384

noncomputable section

namespace Cert.Kernel3Ideal.Mix

open Cert.Kernel3Ideal Cert.Kernel3Ideal.Gen Idealize.ShloMosaic Idealize.ShloMosaic.TcCoe Cert.FfnRow Cert.MixRow

theorem hz : (![0, 0] : Fin 2 → Nat) = fun _ => 0 := funext fun a => by fin_cases a <;> rfl

theorem hz3 : (![0, 0, 0] : Fin 3 → Nat) = fun _ => 0 := funext fun a => by fin_cases a <;> rfl

/-- The first eight rows of the scratch, stored last. -/
theorem first_rows (P : Vec Ideal S8x512 .f32) (i1) (L : List (View.Piece (Elt Ideal) S520x512 .f32)) (a : Fin 8) (n : Fin 512) :
    View.canon (⟨Rect.unit (s := S520x512) ![0, 0] S8x512.size i1, P⟩ :: L) (ix2 ⟨a.val, by omega⟩ n) = P (ix2 a n) := by
  have e : (ix2 (⟨a.val, by omega⟩ : Fin 520) n : S520x512.Idx) = (Rect.unit (s := S520x512) ![0, 0] S8x512.size i1).emb (ix2 a n) := by
    funext x
    apply Fin.ext
    fin_cases x
    · show a.val = 0 + 1 * a.val; omega
    · show n.val = 0 + 1 * n.val; omega
  rw [e, View.canon_cons_emb]

/-- A load of 512 rows of the scratch from row `o`, after the tile's rows went behind eight rows stored before. -/
theorem cross (v : View sig .tc .vmem S520x512 .f32) (o : ℕ) (ho : o ≤ 8) (P : Vec Ideal S512x512 .f32) (Q : Vec Ideal S8x512 .f32)
    (L : List (View.Piece (Elt Ideal) S520x512 .f32)) (i1 i2 i3) (r : Fin 512) (n : Fin 512) :
    v.readCov ((⟨Rect.unit ![8, 0] ![512, 512] i1, P⟩ : View.Piece (Elt Ideal) S520x512 .f32) :: ⟨Rect.unit ![0, 0] ![8, 512] i2, Q⟩ :: L)
      (Rect.unit (s := S520x512) ![o, 0] ![512, 512] i3).toLoadRect (ix2 r n)
    = if h : o + r.val < 8 then Q (ix2 ⟨o + r.val, h⟩ n) else P (ix2 ⟨o + r.val - 8, by omega⟩ n) := by
  rw [View.readCov_eq_canon']
  dsimp only
  split
  · rename_i h
    have e : (Rect.unit (s := S520x512) ![o, 0] ![512, 512] i3).toLoadRect.idx (ix2 r n)
        = (Rect.unit (s := S520x512) ![0, 0] ![8, 512] i2).emb (ix2 ⟨o + r.val, h⟩ n) := by
      funext a
      apply Fin.ext
      fin_cases a
      · show o + 1 * r.val = 0 + 1 * (o + r.val); omega
      · show 0 + 1 * n.val = 0 + 1 * n.val; rfl
    rw [View.canon_cons_of_not_mem]
    · rw [e, View.canon_cons_emb]
    · rw [Rect.mem_set_unit]
      intro h'
      have : 8 ≤ o + 1 * r.val := (h' 0).1
      omega
  · rename_i h
    have e : (Rect.unit (s := S520x512) ![o, 0] ![512, 512] i3).toLoadRect.idx (ix2 r n)
        = (Rect.unit (s := S520x512) ![8, 0] ![512, 512] i1).emb (ix2 ⟨o + r.val - 8, by omega⟩ n) := by
      funext a
      apply Fin.ext
      fin_cases a
      · show o + 1 * r.val = 8 + 1 * (o + r.val - 8); omega
      · show 0 + 1 * n.val = 0 + 1 * n.val; rfl
    rw [e, View.canon_cons_emb]

/-- … and after they went behind what the scratch held. -/
theorem cross_held (v : View sig .tc .vmem S520x512 .f32) (f : v.ty.Contents (Elt Ideal)) (o : ℕ) (ho : o ≤ 8) (P : Vec Ideal S512x512 .f32)
    (i1 i3) (r : Fin 512) (n : Fin 512) :
    View.ld (View.read (Elt Ideal) v (v.writes (Elt Ideal) f [(⟨Rect.unit ![8, 0] ![512, 512] i1, P⟩ : View.Piece (Elt Ideal) S520x512 .f32)]))
      (Rect.unit (s := S520x512) ![o, 0] ![512, 512] i3) (ix2 r n)
    = if h : o + r.val < 8 then View.read (Elt Ideal) v f (ix2 ⟨o + r.val, by omega⟩ n) else P (ix2 ⟨o + r.val - 8, by omega⟩ n) := by
  have e : (Rect.unit (s := S520x512) ![o, 0] ![512, 512] i3).idx (ix2 r n) = ix2 (⟨o + r.val, by omega⟩ : Fin 520) n := by
    funext a
    apply Fin.ext
    fin_cases a
    · show o + 1 * r.val = o + r.val; omega
    · show 0 + 1 * n.val = n.val; omega
  show View.read (Elt Ideal) v _ ((Rect.unit (s := S520x512) ![o, 0] ![512, 512] i3).idx (ix2 r n)) = _
  rw [e]
  split
  · rename_i h
    rw [View.read_writes_cons_rows_of_not_mem (o := 8) (W := 512) v f i1 P [] _ rfl rfl (Or.inl h), View.writes_nil]
  · rename_i h
    exact View.read_writes_cons_rows_of_mem (o := 8) v f i1 P [] _ (ix2 ⟨o + r.val - 8, by omega⟩ n) rfl
      (by show o + r.val = 8 + (o + r.val - 8); omega) rfl

variable (c : Dev nD) (i : grid0.Coords)
  (arg2 : Memref sig .tc .vmem S512x1024 .f32) (harg2 : arg2.IsWhole)
  (arg3 : Memref sig .tc .vmem S1x1024 .f32) (harg3 : arg3.IsWhole)
  (arg4 : Memref sig .tc .vmem S1024x3072 .bf16) (harg4 : arg4.IsWhole)
  (arg5 : Memref sig .tc .vmem S3x512 .f32) (harg5 : arg5.IsWhole)
  (arg6 : Memref sig .tc .vmem S1x512 .f32) (harg6 : arg6.IsWhole)
  (arg7 : Memref sig .tc .vmem S512x512 .bf16) (harg7 : arg7.IsWhole)
  (arg8 : Memref sig .tc .vmem S1x4x1x128x512 .bf16) (harg8 : arg8.IsWhole)
  (arg9 : Memref sig .tc .vmem S2048x128 .f32) (harg9 : arg9.IsWhole)
  (arg10 : Memref sig .tc .vmem S2048x128 .f32) (harg10 : arg10.IsWhole)
  (arg11 : Memref sig .tc .vmem S1x4x512x128 .bf16) (harg11 : arg11.IsWhole)
  (arg12 : Memref sig .tc .vmem S1x4x1x144x512 .bf16) (harg12 : arg12.IsWhole)
  (arg13 : Memref sig .tc .vmem S1x2x512 .f32) (harg13 : arg13.IsWhole)
  (arg14 : Memref sig .tc .vmem S520x512 .f32) (harg14 : arg14.IsWhole)
  (x0 : Vec Ideal S512x1024 .f32) (x1 : Vec Ideal S1x1024 .f32) (x2 : Vec Ideal S1024x3072 .bf16) (x3 : Vec Ideal S3x512 .f32) (x4 : Vec Ideal S1x512 .f32)

/-- CASE A: the keys, row `q`, entry `l`. -/
theorem key_A (hc : first i) (q : Fin 2048) (l : Fin 128) :
    View.canon (runA c i arg2 harg2 arg3 harg3 arg4 harg4 arg5 harg5 arg6 harg6 arg7 harg7 arg8 harg8 arg9 harg9 arg10 harg10 arg11 harg11 arg12 harg12 arg13 harg13 arg14 harg14 x0 x1 x2 x3 x4 hc).2.2.1 (ix2 q l) = tileProj x0 x1 x2 ⟨q.val / 4, by omega⟩ ⟨2048 + (q.val % 4 * 128 + l.val), by omega⟩ := by
  unfold runA
  dsimp only
  sl_unfold_words
  simp only [View.readAt_eq_ld, harg2.read_unread, harg3.read_unread, harg4.read_unread, harg5.read_unread, harg6.read_unread, View.ld_unit_zero (S := S512x1024) hz, View.ld_unit_zero (S := S1x1024) hz, View.ld_unit_zero (S := S3x512) hz, View.ld_unit_zero (S := S1x512) hz]
  exact fourth_apply _ _ _ _ _ _ _ _ _ q l (fun r n => tileProj x0 x1 x2 r ⟨2048 + n.val, by omega⟩)
    (fun r l => by rw [pay22_apply, pay18_apply]; simp only [Nat.zero_mul, Nat.zero_add]) (fun r l => by rw [pay28_apply, pay18_apply])
    (fun r l => by rw [pay35_apply, pay18_apply]) (fun r l => by rw [pay2_apply, pay18_apply])

/-- CASE A: the values, row `q`, entry `l`. -/
theorem value_A (hc : first i) (q : Fin 2048) (l : Fin 128) :
    View.canon (runA c i arg2 harg2 arg3 harg3 arg4 harg4 arg5 harg5 arg6 harg6 arg7 harg7 arg8 harg8 arg9 harg9 arg10 harg10 arg11 harg11 arg12 harg12 arg13 harg13 arg14 harg14 x0 x1 x2 x3 x4 hc).2.2.2.1 (ix2 q l) = tileProj x0 x1 x2 ⟨q.val / 4, by omega⟩ ⟨2560 + (q.val % 4 * 128 + l.val), by omega⟩ := by
  unfold runA
  dsimp only
  sl_unfold_words
  simp only [View.readAt_eq_ld, harg2.read_unread, harg3.read_unread, harg4.read_unread, harg5.read_unread, harg6.read_unread, View.ld_unit_zero (S := S512x1024) hz, View.ld_unit_zero (S := S1x1024) hz, View.ld_unit_zero (S := S3x512) hz, View.ld_unit_zero (S := S1x512) hz]
  exact fourth_apply _ _ _ _ _ _ _ _ _ q l (fun r n => tileProj x0 x1 x2 r ⟨2560 + n.val, by omega⟩)
    (fun r l => by rw [pay23_apply, pay19_apply]; simp only [Nat.zero_mul, Nat.zero_add]) (fun r l => by rw [pay29_apply, pay19_apply])
    (fun r l => by rw [pay36_apply, pay19_apply]) (fun r l => by rw [pay3_apply, pay19_apply])

/-- CASE A: the state, row `a`, entry `n`. -/
theorem state_A (hc : first i) (a : Fin 2) (n : Fin 512) :
    View.canon (runA c i arg2 harg2 arg3 harg3 arg4 harg4 arg5 harg5 arg6 harg6 arg7 harg7 arg8 harg8 arg9 harg9 arg10 harg10 arg11 harg11 arg12 harg12 arg13 harg13 arg14 harg14 x0 x1 x2 x3 x4 hc).2.2.2.2.2.2.1 (ix3 0 a n) = tilePre x0 x1 x2 ⟨510 + a.val, by omega⟩ n := by
  unfold runA
  dsimp only
  sl_unfold_words
  simp only [View.readAt_eq_ld, harg2.read_unread, harg3.read_unread, harg4.read_unread, harg5.read_unread, harg6.read_unread, View.ld_unit_zero (S := S512x1024) hz, View.ld_unit_zero (S := S1x1024) hz, View.ld_unit_zero (S := S3x512) hz, View.ld_unit_zero (S := S1x512) hz]
  rw [View.canon_unit_zero hz3, pay15_apply, pre_apply]

/-- CASE A: the scratch's first eight rows, row `a`, entry `n`: the tile's last eight. -/
theorem scr_A (hc : first i) (a : Fin 8) (n : Fin 512) :
    View.canon (runA c i arg2 harg2 arg3 harg3 arg4 harg4 arg5 harg5 arg6 harg6 arg7 harg7 arg8 harg8 arg9 harg9 arg10 harg10 arg11 harg11 arg12 harg12 arg13 harg13 arg14 harg14 x0 x1 x2 x3 x4 hc).2.2.2.2.2.2.2.1 (ix2 ⟨a.val, by omega⟩ n) = tilePre x0 x1 x2 ⟨504 + a.val, by omega⟩ n := by
  unfold runA
  dsimp only
  sl_unfold_words
  simp only [View.readAt_eq_ld, harg2.read_unread, harg3.read_unread, harg4.read_unread, harg5.read_unread, harg6.read_unread, View.ld_unit_zero (S := S512x1024) hz, View.ld_unit_zero (S := S1x1024) hz, View.ld_unit_zero (S := S3x512) hz, View.ld_unit_zero (S := S1x512) hz]
  rw [first_rows, pay16_apply, pre_apply]

/-- CASE A: the mixer's row `r`, entry `n`. -/
theorem mix_A (hc : first i) (r : Fin 512) (n : Fin 512) :
    View.canon (runA c i arg2 harg2 arg3 harg3 arg4 harg4 arg5 harg5 arg6 harg6 arg7 harg7 arg8 harg8 arg9 harg9 arg10 harg10 arg11 harg11 arg12 harg12 arg13 harg13 arg14 harg14 x0 x1 x2 x3 x4 hc).1 (ix2 r n)
      = mixRow (fun k => x0 (ix2 r k)) (fun k => x1 (ix2 0 k)) (fun k n => x2 (ix2 k n)) (fun n => x4 (ix2 0 n)) (fun a n => x3 (ix2 a n))
          (prevPre (fun _ _ => 0) (tilePre x0 x1 x2) ⟨6 + r.val, by omega⟩) (prevPre (fun _ _ => 0) (tilePre x0 x1 x2) ⟨7 + r.val, by omega⟩) (tilePre x0 x1 x2 r) n := by
  unfold runA
  dsimp only
  sl_unfold_words
  simp only [View.readAt_eq_ld, harg2.read_unread, harg3.read_unread, harg4.read_unread, harg5.read_unread, harg6.read_unread, View.ld_unit_zero (S := S512x1024) hz, View.ld_unit_zero (S := S1x1024) hz, View.ld_unit_zero (S := S3x512) hz, View.ld_unit_zero (S := S1x512) hz]
  rw [View.canon_unit_zero hz, mix_apply]
  rw [cross _ 6 (by decide), cross _ 7 (by decide)]
  unfold mixRow prevPre
  simp only [pay8_apply, pay10_apply, pre_apply]
  rfl

/-- CASE B: the keys, row `q`, entry `l`. -/
theorem key_B (hc : ¬first i) (xs : Vec Ideal S520x512 .f32) (q : Fin 2048) (l : Fin 128) :
    View.canon (runB c i arg2 harg2 arg3 harg3 arg4 harg4 arg5 harg5 arg6 harg6 arg7 harg7 arg8 harg8 arg9 harg9 arg10 harg10 arg11 harg11 arg12 harg12 arg13 harg13 arg14 harg14 x0 x1 x2 x3 x4 hc xs).2.2.1 (ix2 q l) = tileProj x0 x1 x2 ⟨q.val / 4, by omega⟩ ⟨2048 + (q.val % 4 * 128 + l.val), by omega⟩ := by
  unfold runB
  dsimp only
  sl_unfold_words
  simp only [View.readAt_eq_ld, harg2.read_unread, harg3.read_unread, harg4.read_unread, harg5.read_unread, harg6.read_unread, View.ld_unit_zero (S := S512x1024) hz, View.ld_unit_zero (S := S1x1024) hz, View.ld_unit_zero (S := S3x512) hz, View.ld_unit_zero (S := S1x512) hz]
  exact fourth_apply _ _ _ _ _ _ _ _ _ q l (fun r n => tileProj x0 x1 x2 r ⟨2048 + n.val, by omega⟩)
    (fun r l => by rw [pay22_apply, pay18_apply]; simp only [Nat.zero_mul, Nat.zero_add]) (fun r l => by rw [pay28_apply, pay18_apply])
    (fun r l => by rw [pay35_apply, pay18_apply]) (fun r l => by rw [pay2_apply, pay18_apply])

/-- CASE B: the values, row `q`, entry `l`. -/
theorem value_B (hc : ¬first i) (xs : Vec Ideal S520x512 .f32) (q : Fin 2048) (l : Fin 128) :
    View.canon (runB c i arg2 harg2 arg3 harg3 arg4 harg4 arg5 harg5 arg6 harg6 arg7 harg7 arg8 harg8 arg9 harg9 arg10 harg10 arg11 harg11 arg12 harg12 arg13 harg13 arg14 harg14 x0 x1 x2 x3 x4 hc xs).2.2.2.1 (ix2 q l) = tileProj x0 x1 x2 ⟨q.val / 4, by omega⟩ ⟨2560 + (q.val % 4 * 128 + l.val), by omega⟩ := by
  unfold runB
  dsimp only
  sl_unfold_words
  simp only [View.readAt_eq_ld, harg2.read_unread, harg3.read_unread, harg4.read_unread, harg5.read_unread, harg6.read_unread, View.ld_unit_zero (S := S512x1024) hz, View.ld_unit_zero (S := S1x1024) hz, View.ld_unit_zero (S := S3x512) hz, View.ld_unit_zero (S := S1x512) hz]
  exact fourth_apply _ _ _ _ _ _ _ _ _ q l (fun r n => tileProj x0 x1 x2 r ⟨2560 + n.val, by omega⟩)
    (fun r l => by rw [pay23_apply, pay19_apply]; simp only [Nat.zero_mul, Nat.zero_add]) (fun r l => by rw [pay29_apply, pay19_apply])
    (fun r l => by rw [pay36_apply, pay19_apply]) (fun r l => by rw [pay3_apply, pay19_apply])

/-- CASE B: the state, row `a`, entry `n`. -/
theorem state_B (hc : ¬first i) (xs : Vec Ideal S520x512 .f32) (a : Fin 2) (n : Fin 512) :
    View.canon (runB c i arg2 harg2 arg3 harg3 arg4 harg4 arg5 harg5 arg6 harg6 arg7 harg7 arg8 harg8 arg9 harg9 arg10 harg10 arg11 harg11 arg12 harg12 arg13 harg13 arg14 harg14 x0 x1 x2 x3 x4 hc xs).2.2.2.2.2.2.1 (ix3 0 a n) = tilePre x0 x1 x2 ⟨510 + a.val, by omega⟩ n := by
  unfold runB
  dsimp only
  sl_unfold_words
  simp only [View.readAt_eq_ld, harg2.read_unread, harg3.read_unread, harg4.read_unread, harg5.read_unread, harg6.read_unread, View.ld_unit_zero (S := S512x1024) hz, View.ld_unit_zero (S := S1x1024) hz, View.ld_unit_zero (S := S3x512) hz, View.ld_unit_zero (S := S1x512) hz]
  rw [View.canon_unit_zero hz3, pay15_apply, pre_apply]

/-- CASE B: the scratch's first eight rows, row `a`, entry `n`: the tile's last eight. -/
theorem scr_B (hc : ¬first i) (xs : Vec Ideal S520x512 .f32) (a : Fin 8) (n : Fin 512) :
    View.canon (runB c i arg2 harg2 arg3 harg3 arg4 harg4 arg5 harg5 arg6 harg6 arg7 harg7 arg8 harg8 arg9 harg9 arg10 harg10 arg11 harg11 arg12 harg12 arg13 harg13 arg14 harg14 x0 x1 x2 x3 x4 hc xs).2.2.2.2.2.2.2.1 (ix2 ⟨a.val, by omega⟩ n) = tilePre x0 x1 x2 ⟨504 + a.val, by omega⟩ n := by
  unfold runB
  dsimp only
  sl_unfold_words
  simp only [View.readAt_eq_ld, harg2.read_unread, harg3.read_unread, harg4.read_unread, harg5.read_unread, harg6.read_unread, View.ld_unit_zero (S := S512x1024) hz, View.ld_unit_zero (S := S1x1024) hz, View.ld_unit_zero (S := S3x512) hz, View.ld_unit_zero (S := S1x512) hz]
  rw [first_rows, pay16_apply, pre_apply]

/-- CASE B: the mixer's row `r`, entry `n`. -/
theorem mix_B (hc : ¬first i) (xs : Vec Ideal S520x512 .f32) (r : Fin 512) (n : Fin 512) :
    View.canon (runB c i arg2 harg2 arg3 harg3 arg4 harg4 arg5 harg5 arg6 harg6 arg7 harg7 arg8 harg8 arg9 harg9 arg10 harg10 arg11 harg11 arg12 harg12 arg13 harg13 arg14 harg14 x0 x1 x2 x3 x4 hc xs).1 (ix2 r n)
      = mixRow (fun k => x0 (ix2 r k)) (fun k => x1 (ix2 0 k)) (fun k n => x2 (ix2 k n)) (fun n => x4 (ix2 0 n)) (fun a n => x3 (ix2 a n))
          (prevPre (fun a n => xs (ix2 ⟨a.val, by omega⟩ n)) (tilePre x0 x1 x2) ⟨6 + r.val, by omega⟩) (prevPre (fun a n => xs (ix2 ⟨a.val, by omega⟩ n)) (tilePre x0 x1 x2) ⟨7 + r.val, by omega⟩) (tilePre x0 x1 x2 r) n := by
  unfold runB
  dsimp only
  sl_unfold_words
  simp only [View.readAt_eq_ld, harg2.read_unread, harg3.read_unread, harg4.read_unread, harg5.read_unread, harg6.read_unread, View.ld_unit_zero (S := S512x1024) hz, View.ld_unit_zero (S := S1x1024) hz, View.ld_unit_zero (S := S3x512) hz, View.ld_unit_zero (S := S1x512) hz]
  rw [View.canon_unit_zero hz, mix_apply]
  rw [cross_held _ _ 6 (by decide), cross_held _ _ 7 (by decide), harg14.read_unread]
  unfold mixRow prevPre
  simp only [pay10_apply, pre_apply]
  rfl

end Cert.Kernel3Ideal.Mix

end
-- ==== Proof.MixKernel.lean ====
/- The mixer call's result arrays, entry by entry, are the row arithmetic of MixRow of the arguments. -/
module

public import proofs.«01_k».proof.Proof.MixCase
public import Idealize.ShloMosaic.Lib.Pipeline.Value
public import Idealize.ShloMosaic.Lib.Pipeline.ValueKit.Point

@[expose] public section

noncomputable section

namespace Cert.Kernel3Ideal.Mix

open Cert.Kernel3Ideal Cert.Kernel3Ideal.Gen Idealize.ShloMosaic Idealize.ShloMosaic.TcCoe Idealize.SL.Sem Cert.FfnRow Cert.MixRow

variable (m : (ℓ : Loc nD τ sig) → Buf (Elt Ideal) ℓ) (c : Dev nD)

/-- Window 0 is at the point's tile of rows, decided over the grid. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Window 1 is at its whole array at every point. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Window 2 is at its whole array at every point. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Window 3 is at its whole array at every point. -/
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Window 4 is at its whole array at every point. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Output window 5 is at the point's rows. -/
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- Output window 7 is at the point's rows. -/
theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- Output window 8 is at the point's rows. -/
theorem idx8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

/-- Output window 11 is at the point's batch. -/
theorem idx11 : ∀ t : Fin cfg0.N, win0_11.index t (0 : Fin 3) = t.val / 8 ∧ win0_11.index t (1 : Fin 3) = 0 ∧ win0_11.index t (2 : Fin 3) = 0 :=
  (by decide +kernel : ∀ t : Fin grid0.N, win0_11.index t (0 : Fin 3) = t.val / 8 ∧ win0_11.index t (1 : Fin 3) = 0 ∧ win0_11.index t (2 : Fin 3) = 0)

/-- A row of the point's tile is a row of the first argument. -/
theorem blk0 (t : Fin cfg0.N) (r : Fin 512) (k : Fin 1024) (b : Fin 4) (s : Fin 4096) (h : t.val * 512 + r.val = b.val * 4096 + s.val) :
    (iblk m c 0 t : Vec Ideal S512x1024 .f32) (ix2 r k) = m ((c : Thread nD τ).loc main_arg0) (ix3 b s k) := by
  have hi := idx0 t
  blk_ext! [iblk, V, hi]

/-- Window 1's block is argument 1. -/
theorem blk1 (t : Fin cfg0.N) (k : Fin 1024) :
    (iblk m c 1 t : Vec Ideal S1x1024 .f32) (ix2 0 k) = m ((c : Thread nD τ).loc main_arg1) (ix2 0 k) := by
  have hi := idx1 t
  blk_ext! [iblk, V, hi]

/-- Window 2's block is argument 2. -/
theorem blk2 (t : Fin cfg0.N) (k : Fin 1024) (n : Fin 3072) :
    (iblk m c 2 t : Vec Ideal S1024x3072 .bf16) (ix2 k n) = m ((c : Thread nD τ).loc main_arg2) (ix3 0 k n) := by
  have hi := idx2 t
  blk_ext! [iblk, V, hi]

/-- Window 3's block is argument 3. -/
theorem blk3 (t : Fin cfg0.N) (a : Fin 3) (n : Fin 512) :
    (iblk m c 3 t : Vec Ideal S3x512 .f32) (ix2 a n) = m ((c : Thread nD τ).loc main_arg3) (ix3 0 a n) := by
  have hi := idx3 t
  blk_ext! [iblk, V, hi]

/-- Window 4's block is argument 4. -/
theorem blk4 (t : Fin cfg0.N) (n : Fin 512) :
    (iblk m c 4 t : Vec Ideal S1x512 .f32) (ix2 0 n) = m ((c : Thread nD τ).loc main_arg4) (ix2 0 n) := by
  have hi := idx4 t
  blk_ext! [iblk, V, hi]

/-- The arguments, as the row arithmetic takes them. -/
abbrev aX (b : Fin 4) (s : Fin 4096) (k : Fin 1024) : EReal := m ((c : Thread nD τ).loc main_arg0) (ix3 b s k)
abbrev aN (k : Fin 1024) : EReal := m ((c : Thread nD τ).loc main_arg1) (ix2 0 k)
abbrev aW (k : Fin 1024) (n : Fin 3072) : EReal := m ((c : Thread nD τ).loc main_arg2) (ix3 0 k n)
abbrev aC (a : Fin 3) (n : Fin 512) : EReal := m ((c : Thread nD τ).loc main_arg3) (ix3 0 a n)
abbrev aB (n : Fin 512) : EReal := m ((c : Thread nD τ).loc main_arg4) (ix2 0 n)

/-- The projection of a tile's row is that of the argument's row. -/
theorem tileProj_eq (t : Fin cfg0.N) (r : Fin 512) (b : Fin 4) (s : Fin 4096) (h : t.val * 512 + r.val = b.val * 4096 + s.val) (n : Fin 3072) :
    tileProj (iblk m c 0 t) (iblk m c 1 t) (iblk m c 2 t) r n = proj (aX m c b s) (aN m c) (aW m c) n := by
  unfold tileProj
  have e0 := fun k => blk0 m c t r k b s h
  have e1 := blk1 m c t
  have e2 := blk2 m c t
  simp only [e0, e1, e2]

/-- What the convolution reads of the point's tile. -/
abbrev tP (t : Fin cfg0.N) : Fin 512 → Fin 512 → EReal := tilePre (iblk m c 0 t) (iblk m c 1 t) (iblk m c 2 t)

/-- It is what it reads of the argument's row. -/
theorem tP_eq (t : Fin cfg0.N) (r : Fin 512) (b : Fin 4) (s : Fin 4096) (h : t.val * 512 + r.val = b.val * 4096 + s.val) :
    tP m c t r = pre (aX m c b s) (aN m c) (aW m c) := by
  funext n
  unfold tP tilePre
  have e0 := fun k => blk0 m c t r k b s h
  have e1 := blk1 m c t
  have e2 := blk2 m c t
  simp only [e0, e1, e2]

/-- What a point leaves in the scratch's first rows: the last eight of its tile. -/
theorem carry (t : Fin cfg0.N) (a : Fin 8) (n : Fin 512) :
    (lefts m c t.val t.isLt).scr (ix2 ⟨a.val, by omega⟩ n) = tP m c t ⟨504 + a.val, by omega⟩ n := by
  by_cases h0 : t.val % 8 = 0
  · rw [lefts_A m c t h0]
    have e := scr_A c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) scr whole_scr (iblk m c 0 t) (iblk m c 1 t) (iblk m c 2 t) (iblk m c 3 t) (iblk m c 4 t) ((first_iff t).mpr h0) a n
    unfold leftA
    dsimp only
    exact e
  · rw [lefts_B m c t h0]
    have e := scr_B c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) scr whole_scr (iblk m c 0 t) (iblk m c 1 t) (iblk m c 2 t) (iblk m c 3 t) (iblk m c 4 t) (fun h' => h0 ((first_iff t).mp h')) (lefts m c (t.val - 1) (Nat.lt_of_le_of_lt (Nat.sub_le _ _) t.isLt)).scr a n
    unfold leftB
    dsimp only
    exact e

/-- What it leaves in the state's rows: the last two. -/
theorem state (t : Fin cfg0.N) (a : Fin 2) (n : Fin 512) :
    (lefts m c t.val t.isLt).st (ix3 0 a n) = tP m c t ⟨510 + a.val, by omega⟩ n := by
  by_cases h0 : t.val % 8 = 0
  · rw [lefts_A m c t h0]
    have e := state_A c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) scr whole_scr (iblk m c 0 t) (iblk m c 1 t) (iblk m c 2 t) (iblk m c 3 t) (iblk m c 4 t) ((first_iff t).mpr h0) a n
    unfold leftA
    dsimp only
    exact e
  · rw [lefts_B m c t h0]
    have e := state_B c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) scr whole_scr (iblk m c 0 t) (iblk m c 1 t) (iblk m c 2 t) (iblk m c 3 t) (iblk m c 4 t) (fun h' => h0 ((first_iff t).mp h')) (lefts m c (t.val - 1) (Nat.lt_of_le_of_lt (Nat.sub_le _ _) t.isLt)).scr a n
    unfold leftB
    dsimp only
    exact e

/-- What it leaves in the keys' rows. -/
theorem keys (t : Fin cfg0.N) (q : Fin 2048) (l : Fin 128) :
    (lefts m c t.val t.isLt).k (ix2 q l) = tileProj (iblk m c 0 t) (iblk m c 1 t) (iblk m c 2 t) ⟨q.val / 4, by omega⟩ ⟨2048 + (q.val % 4 * 128 + l.val), by omega⟩ := by
  by_cases h0 : t.val % 8 = 0
  · rw [lefts_A m c t h0]
    have e := key_A c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) scr whole_scr (iblk m c 0 t) (iblk m c 1 t) (iblk m c 2 t) (iblk m c 3 t) (iblk m c 4 t) ((first_iff t).mpr h0) q l
    unfold leftA
    dsimp only
    exact e
  · rw [lefts_B m c t h0]
    have e := key_B c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) scr whole_scr (iblk m c 0 t) (iblk m c 1 t) (iblk m c 2 t) (iblk m c 3 t) (iblk m c 4 t) (fun h' => h0 ((first_iff t).mp h')) (lefts m c (t.val - 1) (Nat.lt_of_le_of_lt (Nat.sub_le _ _) t.isLt)).scr q l
    unfold leftB
    dsimp only
    exact e

/-- What it leaves in the values' rows. -/
theorem values (t : Fin cfg0.N) (q : Fin 2048) (l : Fin 128) :
    (lefts m c t.val t.isLt).v (ix2 q l) = tileProj (iblk m c 0 t) (iblk m c 1 t) (iblk m c 2 t) ⟨q.val / 4, by omega⟩ ⟨2560 + (q.val % 4 * 128 + l.val), by omega⟩ := by
  by_cases h0 : t.val % 8 = 0
  · rw [lefts_A m c t h0]
    have e := value_A c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) scr whole_scr (iblk m c 0 t) (iblk m c 1 t) (iblk m c 2 t) (iblk m c 3 t) (iblk m c 4 t) ((first_iff t).mpr h0) q l
    unfold leftA
    dsimp only
    exact e
  · rw [lefts_B m c t h0]
    have e := value_B c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) scr whole_scr (iblk m c 0 t) (iblk m c 1 t) (iblk m c 2 t) (iblk m c 3 t) (iblk m c 4 t) (fun h' => h0 ((first_iff t).mp h')) (lefts m c (t.val - 1) (Nat.lt_of_le_of_lt (Nat.sub_le _ _) t.isLt)).scr q l
    unfold leftB
    dsimp only
    exact e

/-- The scratch's row `q` at the first tile of a batch: padded row `q - 6` of the batch. -/
theorem prev_A (t : Fin cfg0.N) (h0 : t.val % 8 = 0) (b : Fin 4) (hb : t.val / 8 = b.val) (q : Fin 520) (p : Fin 4098) (hp : p.val + 6 = q.val) :
    prevPre (fun _ _ => 0) (tP m c t) q = padPre (aX m c b) (aN m c) (aW m c) p := by
  funext n
  unfold prevPre padPre
  by_cases h : q.val < 8
  · rw [dif_pos h, dif_pos (by omega)]
  · rw [dif_neg h, dif_neg (by omega), tP_eq m c t _ b ⟨p.val - 2, by omega⟩ (by dsimp only; omega)]

/-- … and at a later tile: the carried rows are the tile before's last. -/
theorem prev_B (t : Fin cfg0.N) (h0 : ¬t.val % 8 = 0) (b : Fin 4) (hb : t.val / 8 = b.val) (q : Fin 520) (p : Fin 4098)
    (h6 : 6 ≤ q.val) (hp : p.val + 6 = 512 * (t.val % 8) + q.val) :
    prevPre (fun a n => (lefts m c (t.val - 1) (Nat.lt_of_le_of_lt (Nat.sub_le _ _) t.isLt)).scr (ix2 ⟨a.val, by omega⟩ n)) (tP m c t) q
      = padPre (aX m c b) (aN m c) (aW m c) p := by
  funext n
  unfold prevPre padPre
  rw [dif_neg (show ¬p.val < 2 by omega)]
  by_cases h : q.val < 8
  · rw [dif_pos h]
    refine (carry m c ⟨t.val - 1, Nat.lt_of_le_of_lt (Nat.sub_le _ _) t.isLt⟩ ⟨q.val, h⟩ n).trans ?_
    rw [tP_eq m c _ _ b ⟨p.val - 2, by omega⟩ (by dsimp only; omega)]
  · rw [dif_neg h, tP_eq m c t _ b ⟨p.val - 2, by omega⟩ (by dsimp only; omega)]

/-- What the point leaves in the mixer's rows: the rows of its batch. -/
theorem tile (t : Fin cfg0.N) (r : Fin 512) (n : Fin 512) (b : Fin 4) (hb : t.val / 8 = b.val) (s : Fin 4096) (hs : s.val = 512 * (t.val % 8) + r.val) :
    (lefts m c t.val t.isLt).y (ix2 r n) = mix (aX m c b) (aN m c) (aW m c) (aC m c) (aB m c) s n := by
  have hU := tP_eq m c t r b s (by omega)
  have hP : tP m c t r = padPre (aX m c b) (aN m c) (aW m c) ⟨2 + s.val, by omega⟩ := by
    rw [hU]
    funext n
    unfold padPre
    rw [dif_neg (by dsimp only; omega)]
    congr 2
    ext
    dsimp only
    omega
  have e0 := fun k => blk0 m c t r k b s (by omega)
  have e1 := blk1 m c t
  have e2 := blk2 m c t
  have e3 := blk3 m c t
  have e4 := blk4 m c t
  by_cases h0 : t.val % 8 = 0
  · rw [lefts_A m c t h0]
    unfold leftA
    dsimp only
    have e := mix_A c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) scr whole_scr (iblk m c 0 t) (iblk m c 1 t) (iblk m c 2 t) (iblk m c 3 t) (iblk m c 4 t) ((first_iff t).mpr h0) r n
    refine Eq.trans e ?_
    clear e
    have q6 := prev_A m c t h0 b hb ⟨6 + r.val, by omega⟩ ⟨s.val, by omega⟩ (by dsimp only; omega)
    have q7 := prev_A m c t h0 b hb ⟨7 + r.val, by omega⟩ ⟨1 + s.val, by omega⟩ (by dsimp only; omega)
    unfold tP at hP q6 q7
    rw [hP, q6, q7]
    unfold mix
    simp only [e0, e1, e2, e3, e4]
  · rw [lefts_B m c t h0]
    unfold leftB
    dsimp only
    have e := mix_B c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) scr whole_scr (iblk m c 0 t) (iblk m c 1 t) (iblk m c 2 t) (iblk m c 3 t) (iblk m c 4 t) (fun h' => h0 ((first_iff t).mp h')) (lefts m c (t.val - 1) (Nat.lt_of_le_of_lt (Nat.sub_le _ _) t.isLt)).scr r n
    refine Eq.trans e ?_
    clear e
    have q6 := prev_B m c t h0 b hb ⟨6 + r.val, by omega⟩ ⟨s.val, by omega⟩ (by dsimp only; omega) (by dsimp only; omega)
    have q7 := prev_B m c t h0 b hb ⟨7 + r.val, by omega⟩ ⟨1 + s.val, by omega⟩ (by dsimp only; omega) (by dsimp only; omega)
    unfold tP at hP q6 q7
    rw [hP, q6, q7]
    unfold mix
    simp only [e0, e1, e2, e3, e4]

/-- Two points that write output window 5's block back write different blocks. -/
theorem apart5 (t t' : Fin cfg0.N) (hf : (cfg0.win 5).flush t = true) (hf' : (cfg0.win 5).flush t' = true) (hne : t ≠ t') :
    Disjoint ((cfg0.win 5).blk t).view.set ((cfg0.win 5).blk t').view.set :=
  (cfg0.win 5).disjoint_blk fun h => hne
    ((by decide +kernel : ∀ t t' : Fin grid0.N, win0_5.flush t = true → win0_5.flush t' = true → win0_5.index t = win0_5.index t' → t = t') t t' hf hf' h)

/-- Such a point's block of the final array is what the point left. -/
theorem final5 (t : Fin cfg0.N) (hf : (cfg0.win 5).flush t = true) :
    ((cfg0.win 5).blk t).view.read (Elt Ideal) ((dats m 0 c).arrAt 5 cfg0.N) = (cfg0.win 5).cut (grid0.coords t) (lefts m c t.val t.isLt).y := by
  refine ((dats m 0 c).read_blk_arrAt_eq_flushed 5 apart5 cfg0.N t t.isLt hf).trans ?_
  show (cfg0.win 5).cut (grid0.coords t) ((dats m 0 c).after 5 t) = _
  rw [after5]

/-- Two points that write output window 7's block back write different blocks. -/
theorem apart7 (t t' : Fin cfg0.N) (hf : (cfg0.win 7).flush t = true) (hf' : (cfg0.win 7).flush t' = true) (hne : t ≠ t') :
    Disjoint ((cfg0.win 7).blk t).view.set ((cfg0.win 7).blk t').view.set :=
  (cfg0.win 7).disjoint_blk fun h => hne
    ((by decide +kernel : ∀ t t' : Fin grid0.N, win0_7.flush t = true → win0_7.flush t' = true → win0_7.index t = win0_7.index t' → t = t') t t' hf hf' h)

/-- Such a point's block of the final array is what the point left. -/
theorem final7 (t : Fin cfg0.N) (hf : (cfg0.win 7).flush t = true) :
    ((cfg0.win 7).blk t).view.read (Elt Ideal) ((dats m 0 c).arrAt 7 cfg0.N) = (cfg0.win 7).cut (grid0.coords t) (lefts m c t.val t.isLt).k := by
  refine ((dats m 0 c).read_blk_arrAt_eq_flushed 7 apart7 cfg0.N t t.isLt hf).trans ?_
  show (cfg0.win 7).cut (grid0.coords t) ((dats m 0 c).after 7 t) = _
  rw [after7]

/-- Two points that write output window 8's block back write different blocks. -/
theorem apart8 (t t' : Fin cfg0.N) (hf : (cfg0.win 8).flush t = true) (hf' : (cfg0.win 8).flush t' = true) (hne : t ≠ t') :
    Disjoint ((cfg0.win 8).blk t).view.set ((cfg0.win 8).blk t').view.set :=
  (cfg0.win 8).disjoint_blk fun h => hne
    ((by decide +kernel : ∀ t t' : Fin grid0.N, win0_8.flush t = true → win0_8.flush t' = true → win0_8.index t = win0_8.index t' → t = t') t t' hf hf' h)

/-- Such a point's block of the final array is what the point left. -/
theorem final8 (t : Fin cfg0.N) (hf : (cfg0.win 8).flush t = true) :
    ((cfg0.win 8).blk t).view.read (Elt Ideal) ((dats m 0 c).arrAt 8 cfg0.N) = (cfg0.win 8).cut (grid0.coords t) (lefts m c t.val t.isLt).v := by
  refine ((dats m 0 c).read_blk_arrAt_eq_flushed 8 apart8 cfg0.N t t.isLt hf).trans ?_
  show (cfg0.win 8).cut (grid0.coords t) ((dats m 0 c).after 8 t) = _
  rw [after8]

/-- Two points that write output window 11's block back write different blocks. -/
theorem apart11 (t t' : Fin cfg0.N) (hf : (cfg0.win 11).flush t = true) (hf' : (cfg0.win 11).flush t' = true) (hne : t ≠ t') :
    Disjoint ((cfg0.win 11).blk t).view.set ((cfg0.win 11).blk t').view.set :=
  (cfg0.win 11).disjoint_blk fun h => hne
    ((by decide +kernel : ∀ t t' : Fin grid0.N, win0_11.flush t = true → win0_11.flush t' = true → win0_11.index t = win0_11.index t' → t = t') t t' hf hf' h)

/-- Such a point's block of the final array is what the point left. -/
theorem final11 (t : Fin cfg0.N) (hf : (cfg0.win 11).flush t = true) :
    ((cfg0.win 11).blk t).view.read (Elt Ideal) ((dats m 0 c).arrAt 11 cfg0.N) = (cfg0.win 11).cut (grid0.coords t) (lefts m c t.val t.isLt).st := by
  refine ((dats m 0 c).read_blk_arrAt_eq_flushed 11 apart11 cfg0.N t t.isLt hf).trans ?_
  show (cfg0.win 11).cut (grid0.coords t) ((dats m 0 c).after 11 t) = _
  rw [after11]

/-- THE MIXER'S ARRAY at row `q`, entry `n`. -/
theorem mix_apply_arr (q : Fin 16384) (n : Fin 512) :
    ((dats m 0 c).arrAt 5 cfg0.N : S16384x512.Idx → EReal) (ix2 q n) = mix (aX m c ⟨q.val / 4096, by omega⟩) (aN m c) (aW m c) (aC m c) (aB m c) ⟨q.val % 4096, by omega⟩ n := by
  have hN : cfg0.N = 32 := N_0
  have ht : q.val / 512 < cfg0.N := by omega
  have hf : (cfg0.win 5).flush ⟨q.val / 512, ht⟩ = true :=
    (by decide +kernel : ∀ t : Fin grid0.N, win0_5.flush t = true) ⟨q.val / 512, ht⟩
  have hB := congrFun (final5 m c ⟨q.val / 512, ht⟩ hf) (ix2 (⟨q.val % 512, by omega⟩ : Fin 512) n)
  have hi := idx5 ⟨q.val / 512, ht⟩
  refine Eq.trans ?_ (hB.trans ?_)
  · show (dats m 0 c).arrAt 5 cfg0.N (ix2 q n) = (dats m 0 c).arrAt 5 cfg0.N (((cfg0.win 5).blk ⟨q.val / 512, ht⟩).view.emb (ix2 (⟨q.val % 512, by omega⟩ : Fin 512) n))
    congr 1
    funext a
    apply Fin.ext
    fin_cases a
    · show q.val = win0_5.index ⟨q.val / 512, ht⟩ (0 : Fin 2) * 512 + 1 * (q.val % 512)
      rw [hi.1]
      dsimp only
      omega
    · show n.val = win0_5.index ⟨q.val / 512, ht⟩ (1 : Fin 2) * 512 + 1 * n.val
      rw [hi.2]
      omega
  · exact tile m c ⟨q.val / 512, ht⟩ _ n _ (by dsimp only; omega) _ (by dsimp only; omega)

/-- THE KEYS' ARRAY at row `q`, entry `l`. -/
theorem key_apply_arr (q : Fin 65536) (l : Fin 128) :
    ((dats m 0 c).arrAt 7 cfg0.N : S65536x128.Idx → EReal) (ix2 q l) = key (aX m c ⟨q.val / 16384, by omega⟩ ⟨q.val / 4 % 4096, by omega⟩) (aN m c) (aW m c) ⟨q.val % 4 * 128 + l.val, by omega⟩ := by
  have hN : cfg0.N = 32 := N_0
  have ht : q.val / 2048 < cfg0.N := by omega
  have hf : (cfg0.win 7).flush ⟨q.val / 2048, ht⟩ = true :=
    (by decide +kernel : ∀ t : Fin grid0.N, win0_7.flush t = true) ⟨q.val / 2048, ht⟩
  have hB := congrFun (final7 m c ⟨q.val / 2048, ht⟩ hf) (ix2 (⟨q.val % 2048, by omega⟩ : Fin 2048) l)
  have hi := idx7 ⟨q.val / 2048, ht⟩
  refine Eq.trans ?_ (hB.trans ?_)
  · show (dats m 0 c).arrAt 7 cfg0.N (ix2 q l) = (dats m 0 c).arrAt 7 cfg0.N (((cfg0.win 7).blk ⟨q.val / 2048, ht⟩).view.emb (ix2 (⟨q.val % 2048, by omega⟩ : Fin 2048) l))
    congr 1
    funext a
    apply Fin.ext
    fin_cases a
    · show q.val = win0_7.index ⟨q.val / 2048, ht⟩ (0 : Fin 2) * 2048 + 1 * (q.val % 2048)
      rw [hi.1]
      dsimp only
      omega
    · show l.val = win0_7.index ⟨q.val / 2048, ht⟩ (1 : Fin 2) * 128 + 1 * l.val
      rw [hi.2]
      omega
  · refine (keys m c ⟨q.val / 2048, ht⟩ ⟨q.val % 2048, by omega⟩ l).trans ?_
    rw [tileProj_eq m c _ _ ⟨q.val / 16384, by omega⟩ ⟨q.val / 4 % 4096, by omega⟩ (by dsimp only; omega)]
    unfold key
    congr 1
    ext
    dsimp only
    omega

/-- THE VALUES' ARRAY at row `q`, entry `l`. -/
theorem value_apply_arr (q : Fin 65536) (l : Fin 128) :
    ((dats m 0 c).arrAt 8 cfg0.N : S65536x128.Idx → EReal) (ix2 q l) = value (aX m c ⟨q.val / 16384, by omega⟩ ⟨q.val / 4 % 4096, by omega⟩) (aN m c) (aW m c) ⟨q.val % 4 * 128 + l.val, by omega⟩ := by
  have hN : cfg0.N = 32 := N_0
  have ht : q.val / 2048 < cfg0.N := by omega
  have hf : (cfg0.win 8).flush ⟨q.val / 2048, ht⟩ = true :=
    (by decide +kernel : ∀ t : Fin grid0.N, win0_8.flush t = true) ⟨q.val / 2048, ht⟩
  have hB := congrFun (final8 m c ⟨q.val / 2048, ht⟩ hf) (ix2 (⟨q.val % 2048, by omega⟩ : Fin 2048) l)
  have hi := idx8 ⟨q.val / 2048, ht⟩
  refine Eq.trans ?_ (hB.trans ?_)
  · show (dats m 0 c).arrAt 8 cfg0.N (ix2 q l) = (dats m 0 c).arrAt 8 cfg0.N (((cfg0.win 8).blk ⟨q.val / 2048, ht⟩).view.emb (ix2 (⟨q.val % 2048, by omega⟩ : Fin 2048) l))
    congr 1
    funext a
    apply Fin.ext
    fin_cases a
    · show q.val = win0_8.index ⟨q.val / 2048, ht⟩ (0 : Fin 2) * 2048 + 1 * (q.val % 2048)
      rw [hi.1]
      dsimp only
      omega
    · show l.val = win0_8.index ⟨q.val / 2048, ht⟩ (1 : Fin 2) * 128 + 1 * l.val
      rw [hi.2]
      omega
  · refine (values m c ⟨q.val / 2048, ht⟩ ⟨q.val % 2048, by omega⟩ l).trans ?_
    rw [tileProj_eq m c _ _ ⟨q.val / 16384, by omega⟩ ⟨q.val / 4 % 4096, by omega⟩ (by dsimp only; omega)]
    unfold value
    congr 1
    ext
    dsimp only
    omega

/-- THE STATE'S ARRAY at batch `b`, row `a`, entry `n`. -/
theorem state_apply_arr (b : Fin 4) (a : Fin 2) (n : Fin 512) :
    ((dats m 0 c).arrAt 11 cfg0.N : S4x2x512.Idx → EReal) (ix3 b a n) = lastPre (aX m c b) (aN m c) (aW m c) a n := by
  have hN : cfg0.N = 32 := N_0
  have ht : 8 * b.val + 7 < cfg0.N := by omega
  have hf : (cfg0.win 11).flush ⟨8 * b.val + 7, ht⟩ = true :=
    (by decide +kernel : ∀ t : Fin grid0.N, t.val % 8 = 7 → win0_11.flush t = true) ⟨8 * b.val + 7, ht⟩ (by dsimp only; omega)
  have hB := congrFun (final11 m c ⟨8 * b.val + 7, ht⟩ hf) (ix3 (0 : Fin 1) a n)
  have hi := idx11 ⟨8 * b.val + 7, ht⟩
  refine Eq.trans ?_ (hB.trans ?_)
  · show (dats m 0 c).arrAt 11 cfg0.N (ix3 b a n) = (dats m 0 c).arrAt 11 cfg0.N (((cfg0.win 11).blk ⟨8 * b.val + 7, ht⟩).view.emb (ix3 (0 : Fin 1) a n))
    congr 1
    funext a
    apply Fin.ext
    fin_cases a
    · show b.val = win0_11.index ⟨8 * b.val + 7, ht⟩ (0 : Fin 3) * 1 + 1 * (0 : ℕ)
      rw [hi.1]
      dsimp only
      omega
    · show a.val = win0_11.index ⟨8 * b.val + 7, ht⟩ (1 : Fin 3) * 2 + 1 * a.val
      rw [hi.2.1]
      omega
    · show n.val = win0_11.index ⟨8 * b.val + 7, ht⟩ (2 : Fin 3) * 512 + 1 * n.val
      rw [hi.2.2]
      omega
  · refine (state m c ⟨8 * b.val + 7, ht⟩ a n).trans ?_
    rw [tP_eq m c _ _ b ⟨4094 + a.val, by omega⟩ (by dsimp only; omega)]
    rfl

/-- The run with the four result arrays named, the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v8_0) = (dats m 0 c).arrAt 5 cfg0.N
      ∧ r.2.mem ((c.tc : Thread nD τ).loc main_v8_2) = (dats m 0 c).arrAt 7 cfg0.N
      ∧ r.2.mem ((c.tc : Thread nD τ).loc main_v8_3) = (dats m 0 c).arrAt 8 cfg0.N
      ∧ r.2.mem ((c.tc : Thread nD τ).loc main_v8_6) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1 5, (h c).1 7, (h c).1 8, (h c).1 11,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.Kernel3Ideal.Mix

end
-- ==== Proof.MixEq.lean ====
/- The mixer call's four result arrays are the reference's. -/
module

public import proofs.«01_k».proof.Proof.MixRef
public import proofs.«01_k».proof.Proof.MixKernel

@[expose] public section

noncomputable section

namespace Cert.MixEq

open Cert Idealize.ShloMosaic Idealize.ShloMosaic.TcCoe Cert.FfnRow Cert.MixRow

variable (m : (ℓ : Loc Kernel3Ideal.nD Kernel3Ideal.τ Kernel3Ideal.sig) → Buf (Elt Ideal) ℓ)
  (m' : (ℓ : Loc Reference3Ideal.nD Reference3Ideal.τ Reference3Ideal.sig) → Buf (Elt Ideal) ℓ) (c : Dev Kernel3Ideal.nD)

/-- At equal arguments, the first result. -/
theorem mix (h0 : m' ((c.tc : Thread Reference3Ideal.nD Reference3Ideal.τ).loc Reference3Ideal.main_arg0) = m ((c.tc : Thread Kernel3Ideal.nD Kernel3Ideal.τ).loc Kernel3Ideal.main_arg0))
    (h1 : m' ((c.tc : Thread Reference3Ideal.nD Reference3Ideal.τ).loc Reference3Ideal.main_arg1) = m ((c.tc : Thread Kernel3Ideal.nD Kernel3Ideal.τ).loc Kernel3Ideal.main_arg1))
    (h2 : m' ((c.tc : Thread Reference3Ideal.nD Reference3Ideal.τ).loc Reference3Ideal.main_arg2) = m ((c.tc : Thread Kernel3Ideal.nD Kernel3Ideal.τ).loc Kernel3Ideal.main_arg2))
    (h3 : m' ((c.tc : Thread Reference3Ideal.nD Reference3Ideal.τ).loc Reference3Ideal.main_arg3) = m ((c.tc : Thread Kernel3Ideal.nD Kernel3Ideal.τ).loc Kernel3Ideal.main_arg3))
    (h4 : m' ((c.tc : Thread Reference3Ideal.nD Reference3Ideal.τ).loc Reference3Ideal.main_arg4) = m ((c.tc : Thread Kernel3Ideal.nD Kernel3Ideal.τ).loc Kernel3Ideal.main_arg4)) :
    Reference3Ideal.Mix.mixA (Reference3Ideal.Mix.projOf m' c) (m' ((c.tc : Thread Reference3Ideal.nD Reference3Ideal.τ).loc Reference3Ideal.main_arg3)) (m' ((c.tc : Thread Reference3Ideal.nD Reference3Ideal.τ).loc Reference3Ideal.main_arg4)) = (Kernel3Ideal.Mix.dats m 0 c).arrAt 5 Kernel3Ideal.cfg0.N := by
  refine funext fun (i : Kernel3Ideal.S16384x512.Idx) => ?_
  have hi : i = ix2 (i 0) (i 1) := by
    funext a
    fin_cases a <;> rfl
  rw [hi]
  refine (Reference3Ideal.Mix.mixA_apply _ _ _ _ _ (i 0) (i 1)).trans ?_
  rw [h0, h1, h2, h3, h4]
  exact (Kernel3Ideal.Mix.mix_apply_arr m c (i 0) (i 1)).symm

/-- At equal arguments, the keys. -/
theorem key (h0 : m' ((c.tc : Thread Reference3Ideal.nD Reference3Ideal.τ).loc Reference3Ideal.main_arg0) = m ((c.tc : Thread Kernel3Ideal.nD Kernel3Ideal.τ).loc Kernel3Ideal.main_arg0))
    (h1 : m' ((c.tc : Thread Reference3Ideal.nD Reference3Ideal.τ).loc Reference3Ideal.main_arg1) = m ((c.tc : Thread Kernel3Ideal.nD Kernel3Ideal.τ).loc Kernel3Ideal.main_arg1))
    (h2 : m' ((c.tc : Thread Reference3Ideal.nD Reference3Ideal.τ).loc Reference3Ideal.main_arg2) = m ((c.tc : Thread Kernel3Ideal.nD Kernel3Ideal.τ).loc Kernel3Ideal.main_arg2))
    (h3 : m' ((c.tc : Thread Reference3Ideal.nD Reference3Ideal.τ).loc Reference3Ideal.main_arg3) = m ((c.tc : Thread Kernel3Ideal.nD Kernel3Ideal.τ).loc Kernel3Ideal.main_arg3))
    (h4 : m' ((c.tc : Thread Reference3Ideal.nD Reference3Ideal.τ).loc Reference3Ideal.main_arg4) = m ((c.tc : Thread Kernel3Ideal.nD Kernel3Ideal.τ).loc Kernel3Ideal.main_arg4)) :
    Reference3Ideal.Mix.keyA (Reference3Ideal.Mix.projOf m' c) = (Kernel3Ideal.Mix.dats m 0 c).arrAt 7 Kernel3Ideal.cfg0.N := by
  refine funext fun (i : Kernel3Ideal.S65536x128.Idx) => ?_
  have hi : i = ix2 (i 0) (i 1) := by
    funext a
    fin_cases a <;> rfl
  rw [hi]
  refine (Reference3Ideal.Mix.keyA_apply _ _ _ (i 0) (i 1)).trans ?_
  rw [h0, h1, h2]
  exact (Kernel3Ideal.Mix.key_apply_arr m c (i 0) (i 1)).symm

/-- At equal arguments, the values. -/
theorem value (h0 : m' ((c.tc : Thread Reference3Ideal.nD Reference3Ideal.τ).loc Reference3Ideal.main_arg0) = m ((c.tc : Thread Kernel3Ideal.nD Kernel3Ideal.τ).loc Kernel3Ideal.main_arg0))
    (h1 : m' ((c.tc : Thread Reference3Ideal.nD Reference3Ideal.τ).loc Reference3Ideal.main_arg1) = m ((c.tc : Thread Kernel3Ideal.nD Kernel3Ideal.τ).loc Kernel3Ideal.main_arg1))
    (h2 : m' ((c.tc : Thread Reference3Ideal.nD Reference3Ideal.τ).loc Reference3Ideal.main_arg2) = m ((c.tc : Thread Kernel3Ideal.nD Kernel3Ideal.τ).loc Kernel3Ideal.main_arg2))
    (h3 : m' ((c.tc : Thread Reference3Ideal.nD Reference3Ideal.τ).loc Reference3Ideal.main_arg3) = m ((c.tc : Thread Kernel3Ideal.nD Kernel3Ideal.τ).loc Kernel3Ideal.main_arg3))
    (h4 : m' ((c.tc : Thread Reference3Ideal.nD Reference3Ideal.τ).loc Reference3Ideal.main_arg4) = m ((c.tc : Thread Kernel3Ideal.nD Kernel3Ideal.τ).loc Kernel3Ideal.main_arg4)) :
    Reference3Ideal.Mix.valueA (Reference3Ideal.Mix.projOf m' c) = (Kernel3Ideal.Mix.dats m 0 c).arrAt 8 Kernel3Ideal.cfg0.N := by
  refine funext fun (i : Kernel3Ideal.S65536x128.Idx) => ?_
  have hi : i = ix2 (i 0) (i 1) := by
    funext a
    fin_cases a <;> rfl
  rw [hi]
  refine (Reference3Ideal.Mix.valueA_apply _ _ _ (i 0) (i 1)).trans ?_
  rw [h0, h1, h2]
  exact (Kernel3Ideal.Mix.value_apply_arr m c (i 0) (i 1)).symm

/-- At equal arguments, the state. -/
theorem state (h0 : m' ((c.tc : Thread Reference3Ideal.nD Reference3Ideal.τ).loc Reference3Ideal.main_arg0) = m ((c.tc : Thread Kernel3Ideal.nD Kernel3Ideal.τ).loc Kernel3Ideal.main_arg0))
    (h1 : m' ((c.tc : Thread Reference3Ideal.nD Reference3Ideal.τ).loc Reference3Ideal.main_arg1) = m ((c.tc : Thread Kernel3Ideal.nD Kernel3Ideal.τ).loc Kernel3Ideal.main_arg1))
    (h2 : m' ((c.tc : Thread Reference3Ideal.nD Reference3Ideal.τ).loc Reference3Ideal.main_arg2) = m ((c.tc : Thread Kernel3Ideal.nD Kernel3Ideal.τ).loc Kernel3Ideal.main_arg2))
    (h3 : m' ((c.tc : Thread Reference3Ideal.nD Reference3Ideal.τ).loc Reference3Ideal.main_arg3) = m ((c.tc : Thread Kernel3Ideal.nD Kernel3Ideal.τ).loc Kernel3Ideal.main_arg3))
    (h4 : m' ((c.tc : Thread Reference3Ideal.nD Reference3Ideal.τ).loc Reference3Ideal.main_arg4) = m ((c.tc : Thread Kernel3Ideal.nD Kernel3Ideal.τ).loc Kernel3Ideal.main_arg4)) :
    Reference3Ideal.Mix.stateA (Reference3Ideal.Mix.projOf m' c) = (Kernel3Ideal.Mix.dats m 0 c).arrAt 11 Kernel3Ideal.cfg0.N := by
  refine funext fun (i : Kernel3Ideal.S4x2x512.Idx) => ?_
  have hi : i = ix3 (i 0) (i 1) (i 2) := by
    funext a
    fin_cases a <;> rfl
  rw [hi]
  refine (Reference3Ideal.Mix.stateA_apply _ _ _ (i 0) (i 1) (i 2)).trans ?_
  rw [h0, h1, h2]
  exact (Kernel3Ideal.Mix.state_apply_arr m c (i 0) (i 1) (i 2)).symm

end Cert.MixEq

end
-- ==== Proof.MemRow.lean ====
/- The memory's keys and values at one row of the memory, in plain extended-real arithmetic: what both the kernel's tiles and
   the reference's arrays come to, index by index. -/
module

public import proofs.«01_k».proof.Proof.FfnRow

@[expose] public section

noncomputable section

namespace Cert.MemRow

open Idealize.ShloMosaic Cert.FfnRow

/-- The projection of the row: the normed row times column `n` of the matrix. -/
def kv (X w : Fin 1024 → EReal) (W : Fin 1024 → Fin 2048 → EReal) (n : Fin 2048) : EReal :=
  ∑ k, unit X w k * W k n

/-- A row of the keys: the first half of the projection's columns. -/
def key (X w : Fin 1024 → EReal) (W : Fin 1024 → Fin 2048 → EReal) (n : Fin 1024) : EReal :=
  kv X w W ⟨n.val, by omega⟩

/-- A row of the values: the second half. -/
def value (X w : Fin 1024 → EReal) (W : Fin 1024 → Fin 2048 → EReal) (n : Fin 1024) : EReal :=
  kv X w W ⟨1024 + n.val, by omega⟩

/-- Of the eight rows one row is laid out as, half by half and head by head, row `q`'s entry `l` is this column. -/
def col (q : ℕ) (l : Fin 128) : Fin 1024 :=
  ⟨q % 4 * 256 + q % 8 / 4 * 128 + l.val, by omega⟩

end Cert.MemRow

end
-- ==== Proof.MemRef.lean ====
/- The reference's four results of the memory's keys and values, index by index, are the row arithmetic of MemRow. -/
module

public import proofs.«01_k».proof.Proof.MemRow
public import proofs.«01_k».proof.Proof.Gen.Reference4Ideal.Run

@[expose] public section

noncomputable section

namespace Cert.Reference4Ideal.Mem

open Cert.Reference4Ideal Cert.Reference4Ideal.Gen Idealize.ShloMosaic Idealize.ShloMosaic.TcCoe Cert.FfnRow Cert.MemRow

/-- The norm over the last axis, as the reference spells it. -/
def rms (x : FVec Ideal S4x256x1024 .f32) (w : FVec Ideal S1x1024 .f32) : FVec Ideal S4x256x1024 .f32 :=
  mulf (mulf x (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf x x) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 (shapeCast _ w shapeCasts_S1x1024_S1024)))

/-- The projection. -/
def kvA (x : FVec Ideal S4x256x1024 .f32) (w : FVec Ideal S1x1024 .f32) (W : FVec Ideal S1x1024x2048 .f32) : FVec Ideal S4x256x2048 .f32 :=
  Host.dotGeneral dot_S4x256x1024_S1024x2048_S4x256x2048_2_0_01_1_n_n none (rms x w) (shapeCast _ W shapeCasts_S1x1024x2048_S1024x2048)

/-- The keys: the first half of the columns. -/
def halfK (z : FVec Ideal S4x256x2048 .f32) : FVec Ideal S4x256x1024 .f32 :=
  extractStridedSlice S4x256x1024 ![0, 0, 0] z slices_S4x256x2048_S4x256x1024_0_0_0

/-- The values: the second half. -/
def halfV (z : FVec Ideal S4x256x2048 .f32) : FVec Ideal S4x256x1024 .f32 :=
  extractStridedSlice S4x256x1024 ![0, 0, 1024] z slices_S4x256x2048_S4x256x1024_0_0_1024

/-- A result in f32: each row as eight, half by half and head by head. -/
def rowsA (u : FVec Ideal S4x256x1024 .f32) : FVec Ideal S8192x128 .f32 :=
  shapeCast _ (transpose S4x256x2x4x128 [0, 1, 3, 2, 4] (shapeCast _ u shapeCasts_S4x256x1024_S4x256x4x2x128) transposes_S4x256x4x2x128_S4x256x2x4x128_0_1_3_2_4) shapeCasts_S4x256x2x4x128_S8192x128

/-- A result in bf16. -/
def flatA (u : FVec Ideal S4x256x1024 .f32) : FVec Ideal S1024x1024 .bf16 :=
  truncf .bf16 (shapeCast _ u shapeCasts_S4x256x1024_S1024x1024) bitsLt_bf16_f32

/-- The projection of a memory's arguments. -/
abbrev kvOf (m : (ℓ : Loc nD τ sig) → Buf (Elt Ideal) ℓ) (c : Dev nD) : FVec Ideal S4x256x2048 .f32 :=
  kvA (m ((c.tc : Thread nD τ).loc main_arg0)) (m ((c.tc : Thread nD τ).loc main_arg1)) (m ((c.tc : Thread nD τ).loc main_arg2))

/-- The run with its four results by these names. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = rowsA (halfK (kvOf m c))
      ∧ r.2.mem ((c.tc : Thread nD τ).loc main_v23) = rowsA (halfV (kvOf m c))
      ∧ r.2.mem ((c.tc : Thread nD τ).loc main_v25) = flatA (halfK (kvOf m c))
      ∧ r.2.mem ((c.tc : Thread nD τ).loc main_v27) = flatA (halfV (kvOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Reference4Ideal.Value.run m ρ

/-- The norm at one entry. -/
theorem rms_apply (x w i j k) : rms x w (ix3 i j k) = unit (fun k => x (ix3 i j k)) (fun k => w (ix2 0 k)) k := by
  pointwise [rms]
  rfl

/-- The projection at one entry. -/
theorem kvA_apply (x w W i j n) : kvA x w W (ix3 i j n)
    = kv (fun k => x (ix3 i j k)) (fun k => w (ix2 0 k)) (fun k n => W (ix3 0 k n)) n := by
  pointwise [kvA]
  simp only [rms_apply]
  rfl

/-- The keys at one entry. -/
theorem halfK_apply (x w W i j n) : halfK (kvA x w W) (ix3 i j n)
    = key (fun k => x (ix3 i j k)) (fun k => w (ix2 0 k)) (fun k n => W (ix3 0 k n)) n := by
  pointwise [halfK]
  simp only [kvA_apply]
  rfl

/-- The values at one entry. -/
theorem halfV_apply (x w W i j n) : halfV (kvA x w W) (ix3 i j n)
    = value (fun k => x (ix3 i j k)) (fun k => w (ix2 0 k)) (fun k n => W (ix3 0 k n)) n := by
  pointwise [halfV]
  simp only [kvA_apply]
  rfl

/-- The layout in f32 at row `q`, entry `l`. -/
theorem rowsA_apply (u) (q : Fin 8192) (l : Fin 128) : rowsA u (ix2 q l)
    = u (ix3 (⟨q.val / 2048, by omega⟩ : Fin 4) (⟨q.val / 8 % 256, by omega⟩ : Fin 256) (col q.val l)) := by
  pointwise [rowsA]
  unfold col
  have h : q.val / 4 % 2 = q.val % 8 / 4 := by omega
  simp only [h]

/-- The layout in bf16 at row `q`, entry `n`. -/
theorem flatA_apply (u) (q : Fin 1024) (n : Fin 1024) : flatA u (ix2 q n)
    = u (ix3 (⟨q.val / 256, by omega⟩ : Fin 4) (⟨q.val % 256, by omega⟩ : Fin 256) n) := by
  pointwise [flatA]

end Cert.Reference4Ideal.Mem

end
-- ==== Proof.MemBody.lean ====
/- The memory's keys and values call: the body at one grid point, run on any whole staging memrefs. The stores into the f32
   windows go through strided rectangles, every eighth row. -/
module

public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gen.Kernel4Ideal.Frame
public import Idealize.ShloMosaic.Lib.Pipeline.FrameBody
public import Idealize.ShloMosaic.Lib.Ring
public import Idealize.ShloMosaic.Lib.Tactic

@[expose] public section

set_option maxRecDepth 16384

noncomputable section

namespace Cert.Kernel4Ideal.Mem

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S256x1024 .f32) (harg1 : arg1.IsWhole)
  (arg2 : Memref sig .tc .vmem S1x1024 .f32) (harg2 : arg2.IsWhole)
  (arg3 : Memref sig .tc .vmem S1024x2048 .f32) (harg3 : arg3.IsWhole)
  (arg4 : Memref sig .tc .vmem S2048x128 .f32) (harg4 : arg4.IsWhole)
  (arg5 : Memref sig .tc .vmem S2048x128 .f32) (harg5 : arg5.IsWhole)
  (arg6 : Memref sig .tc .vmem S256x1024 .bf16) (harg6 : arg6.IsWhole)
  (arg7 : Memref sig .tc .vmem S256x1024 .bf16) (harg7 : arg7.IsWhole)
  (x0 : Vec F S256x1024 .f32) (x1 : Vec F S1x1024 .f32) (x2 : Vec F S1024x2048 .f32)

set_option maxHeartbeats 4000000 in
/-- The body at any point: it takes the inputs and gives them back, and leaves in each output the pieces that running it finds. -/
noncomputable def run :
    Σ' (L3 : List (View.Piece (Elt F) S2048x128 .f32)), Σ' (L4 : List (View.Piece (Elt F) S2048x128 .f32)), Σ' (L5 : List (View.Piece (Elt F) S256x1024 .bf16)), { L6 : List (View.Piece (Elt F) S256x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
              ∗ (∃ f, arg4.view.loc (c : Thread nD τ) ↦[arg4.view.set]{fullShare} arg4.view.writes (Elt F) f L3)
              ∗ (∃ f, arg5.view.loc (c : Thread nD τ) ↦[arg5.view.set]{fullShare} arg5.view.writes (Elt F) f L4)
              ∗ (∃ f, arg6.view.loc (c : Thread nD τ) ↦[arg6.view.set]{fullShare} arg6.view.writes (Elt F) f L5)
              ∗ (∃ f, arg7.view.loc (c : Thread nD τ) ↦[arg7.view.set]{fullShare} arg7.view.writes (Elt F) f L6)) -∗ K ⟨⟩))
          ⊢ wp frame (wpE (defs₀ (F := F)) Variants.none c none) E (cc0__mem_kv_kernel i arg1 harg1 arg2 harg2 arg3 harg3 arg4 harg4 arg5 harg5 arg6 harg6 arg7 harg7) K } := by
  refine ⟨?_, ?_, ?_, ?_, fun E K => ?run⟩
  case run =>
    simp only [cc0__mem_kv_kernel_eq_skeleton]; unfold cc0__mem_kv_kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    iexists _; iexact H6

end Cert.Kernel4Ideal.Mem

end
-- ==== Proof.MemFrame.lean ====
/- The memory's keys and values call: what its staging buffers hold after each grid point, and its frame. -/
module

public import proofs.«01_k».proof.Proof.MemBody
public import Idealize.ShloMosaic.Lib.Claim

@[expose] public section

set_option maxRecDepth 16384

noncomputable section

namespace Cert.Kernel4Ideal.Mem

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A row of the buffer is in the rectangle of every eighth row that begins at its remainder. -/
theorem mem_eighth (k : ℕ) (inb) (sp) (y : S2048x128.Idx) (h : (y 0).val % 8 = k) :
    y ∈ (⟨(⟨![k, 0], S256x128.size, ![8, 1], inb⟩ : LoadRect S2048x128), sp⟩ : Rect S2048x128).set := by
  have h0 : (y 0).val < 2048 := (y 0).isLt
  have h1 : (y 1).val < 128 := (y 1).isLt
  refine (LoadRect.mem_set _).mpr fun a => ?_
  fin_cases a
  · exact ⟨(y 0).val / 8, by show (y 0).val / 8 < 256; omega, by show (y 0).val = k + 8 * ((y 0).val / 8); omega⟩
  · exact ⟨(y 1).val, h1, by show (y 1).val = 0 + 1 * (y 1).val; omega⟩

/-- Eight stores, of the rows of each remainder by eight, reach every row. -/
theorem cover_eighth (P0 P1 P2 P3 P4 P5 P6 P7 : Vec F S256x128 .f32) (i0 i1 i2 i3 i4 i5 i6 i7) (sp) (y : S2048x128.Idx) :
    ∃ pc ∈ ([⟨⟨(⟨![7, 0], S256x128.size, ![8, 1], i7⟩ : LoadRect S2048x128), sp⟩, P7⟩, ⟨⟨(⟨![3, 0], S256x128.size, ![8, 1], i3⟩ : LoadRect S2048x128), sp⟩, P3⟩, ⟨⟨(⟨![6, 0], S256x128.size, ![8, 1], i6⟩ : LoadRect S2048x128), sp⟩, P6⟩, ⟨⟨(⟨![2, 0], S256x128.size, ![8, 1], i2⟩ : LoadRect S2048x128), sp⟩, P2⟩, ⟨⟨(⟨![5, 0], S256x128.size, ![8, 1], i5⟩ : LoadRect S2048x128), sp⟩, P5⟩, ⟨⟨(⟨![1, 0], S256x128.size, ![8, 1], i1⟩ : LoadRect S2048x128), sp⟩, P1⟩, ⟨⟨(⟨![4, 0], S256x128.size, ![8, 1], i4⟩ : LoadRect S2048x128), sp⟩, P4⟩, ⟨⟨(⟨![0, 0], S256x128.size, ![8, 1], i0⟩ : LoadRect S2048x128), sp⟩, P0⟩] : List (View.Piece (Elt F) S2048x128 .f32)), y ∈ pc.1.set := by
  have h : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  rcases h with h | h | h | h | h | h | h | h
  · exact ⟨_, .tail _ (.tail _ (.tail _ (.tail _ (.tail _ (.tail _ (.tail _ (.head _))))))), mem_eighth 0 _ _ y h⟩
  · exact ⟨_, .tail _ (.tail _ (.tail _ (.tail _ (.tail _ (.head _))))), mem_eighth 1 _ _ y h⟩
  · exact ⟨_, .tail _ (.tail _ (.tail _ (.head _))), mem_eighth 2 _ _ y h⟩
  · exact ⟨_, .tail _ (.head _), mem_eighth 3 _ _ y h⟩
  · exact ⟨_, .tail _ (.tail _ (.tail _ (.tail _ (.tail _ (.tail _ (.head _)))))), mem_eighth 4 _ _ y h⟩
  · exact ⟨_, .tail _ (.tail _ (.tail _ (.tail _ (.head _)))), mem_eighth 5 _ _ y h⟩
  · exact ⟨_, .tail _ (.tail _ (.head _)), mem_eighth 6 _ _ y h⟩
  · exact ⟨_, .head _, mem_eighth 7 _ _ y h⟩

section covers

variable (c : Dev nD) (i : grid0.Coords)
  (arg1 : Memref sig .tc .vmem S256x1024 .f32) (harg1 : arg1.IsWhole)
  (arg2 : Memref sig .tc .vmem S1x1024 .f32) (harg2 : arg2.IsWhole)
  (arg3 : Memref sig .tc .vmem S1024x2048 .f32) (harg3 : arg3.IsWhole)
  (arg4 : Memref sig .tc .vmem S2048x128 .f32) (harg4 : arg4.IsWhole)
  (arg5 : Memref sig .tc .vmem S2048x128 .f32) (harg5 : arg5.IsWhole)
  (arg6 : Memref sig .tc .vmem S256x1024 .bf16) (harg6 : arg6.IsWhole)
  (arg7 : Memref sig .tc .vmem S256x1024 .bf16) (harg7 : arg7.IsWhole)
  (x0 : Vec F S256x1024 .f32) (x1 : Vec F S1x1024 .f32) (x2 : Vec F S1024x2048 .f32)

/-- The pieces stored cover output 3's block. -/
theorem cover_3 (y : S2048x128.Idx) :
    ∃ pc ∈ (run c i arg1 harg1 arg2 harg2 arg3 harg3 arg4 harg4 arg5 harg5 arg6 harg6 arg7 harg7 x0 x1 x2).1, y ∈ pc.1.set :=
  cover_eighth _ _ _ _ _ _ _ _ _ _ _ _ _ _ _ _ _ y

/-- The pieces stored cover output 4's block. -/
theorem cover_4 (y : S2048x128.Idx) :
    ∃ pc ∈ (run c i arg1 harg1 arg2 harg2 arg3 harg3 arg4 harg4 arg5 harg5 arg6 harg6 arg7 harg7 x0 x1 x2).2.1, y ∈ pc.1.set :=
  cover_eighth _ _ _ _ _ _ _ _ _ _ _ _ _ _ _ _ _ y

/-- The pieces stored cover output 5's block. -/
theorem cover_5 (y : S256x1024.Idx) :
    ∃ pc ∈ (run c i arg1 harg1 arg2 harg2 arg3 harg3 arg4 harg4 arg5 harg5 arg6 harg6 arg7 harg7 x0 x1 x2).2.2.1, y ∈ pc.1.set :=
  View.cover_of_tiledL (run c i arg1 harg1 arg2 harg2 arg3 harg3 arg4 harg4 arg5 harg5 arg6 harg6 arg7 harg7 x0 x1 x2).2.2.1 S256x1024.size (by sl_kernel_rfl) y

/-- The pieces stored cover output 6's block. -/
theorem cover_6 (y : S256x1024.Idx) :
    ∃ pc ∈ (run c i arg1 harg1 arg2 harg2 arg3 harg3 arg4 harg4 arg5 harg5 arg6 harg6 arg7 harg7 x0 x1 x2).2.2.2.1, y ∈ pc.1.set :=
  View.cover_of_tiledL (run c i arg1 harg1 arg2 harg2 arg3 harg3 arg4 harg4 arg5 harg5 arg6 harg6 arg7 harg7 x0 x1 x2).2.2.2.1 S256x1024.size (by sl_kernel_rfl) y

end covers

/-- The staging memref of window 0 at a point. -/
abbrev mem0 (t : Fin cfg0.N) : Memref sig .tc .vmem S256x1024 .f32 := win0_0.stage (cfg0.slots t 0)
/-- It is whole. -/
theorem whole0 (t : Fin cfg0.N) : (mem0 t).IsWhole := hstage0_0 ((cfg0.slots t 0).cast nbuf0_0)
/-- The staging memref of window 1 at a point. -/
abbrev mem1 (t : Fin cfg0.N) : Memref sig .tc .vmem S1x1024 .f32 := win0_1.stage (cfg0.slots t 1)
/-- It is whole. -/
theorem whole1 (t : Fin cfg0.N) : (mem1 t).IsWhole := hstage0_1 ((cfg0.slots t 1).cast nbuf0_1)
/-- The staging memref of window 2 at a point. -/
abbrev mem2 (t : Fin cfg0.N) : Memref sig .tc .vmem S1024x2048 .f32 := win0_2.stage (cfg0.slots t 2)
/-- It is whole. -/
theorem whole2 (t : Fin cfg0.N) : (mem2 t).IsWhole := hstage0_2 ((cfg0.slots t 2).cast nbuf0_2)
/-- The staging memref of window 3 at a point. -/
abbrev mem3 (t : Fin cfg0.N) : Memref sig .tc .vmem S2048x128 .f32 := win0_3.stage (cfg0.slots t 3)
/-- It is whole. -/
theorem whole3 (t : Fin cfg0.N) : (mem3 t).IsWhole := hstage0_3 ((cfg0.slots t 3).cast nbuf0_3)
/-- The staging memref of window 4 at a point. -/
abbrev mem4 (t : Fin cfg0.N) : Memref sig .tc .vmem S2048x128 .f32 := win0_4.stage (cfg0.slots t 4)
/-- It is whole. -/
theorem whole4 (t : Fin cfg0.N) : (mem4 t).IsWhole := hstage0_4 ((cfg0.slots t 4).cast nbuf0_4)
/-- The staging memref of window 5 at a point. -/
abbrev mem5 (t : Fin cfg0.N) : Memref sig .tc .vmem S256x1024 .bf16 := win0_5.stage (cfg0.slots t 5)
/-- It is whole. -/
theorem whole5 (t : Fin cfg0.N) : (mem5 t).IsWhole := hstage0_5 ((cfg0.slots t 5).cast nbuf0_5)
/-- The staging memref of window 6 at a point. -/
abbrev mem6 (t : Fin cfg0.N) : Memref sig .tc .vmem S256x1024 .bf16 := win0_6.stage (cfg0.slots t 6)
/-- It is whole. -/
theorem whole6 (t : Fin cfg0.N) : (mem6 t).IsWhole := hstage0_6 ((cfg0.slots t 6).cast nbuf0_6)

/-- The body run at a point. -/
abbrev runAt (c : Dev nD) (t : Fin cfg0.N) :=
  run c (grid0.coords t) (mem0 t) (whole0 t) (mem1 t) (whole1 t) (mem2 t) (whole2 t) (mem3 t) (whole3 t) (mem4 t) (whole4 t) (mem5 t) (whole5 t) (mem6 t) (whole6 t)
    (iblk m c 0 t) (iblk m c 1 t) (iblk m c 2 t)

/-- What a point leaves of the keys in f32. -/
def kf (c : Dev nD) (t : Fin cfg0.N) : Vec F S2048x128 .f32 := View.canon (runAt m c t).1
/-- What a point leaves of the values in f32. -/
def vf (c : Dev nD) (t : Fin cfg0.N) : Vec F S2048x128 .f32 := View.canon (runAt m c t).2.1
/-- What a point leaves of the keys in bf16. -/
def kb (c : Dev nD) (t : Fin cfg0.N) : Vec F S256x1024 .bf16 := View.canon (runAt m c t).2.2.1
/-- What a point leaves of the values in bf16. -/
def vb (c : Dev nD) (t : Fin cfg0.N) : Vec F S256x1024 .bf16 := View.canon (runAt m c t).2.2.2.1

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => kf m c t
    | ⟨4, _⟩ => vf m c t
    | ⟨5, _⟩ => kb m c t
    | ⟨6, _⟩ => vb m c t
  Φ _ := Pipeline.ΦA spec0 c
  q _ := fullShare
  owed _ := 0

/-- Its arrays are those the region finds. -/
theorem A_eq (c : Dev nD) (w : Fin cfg0.W) : (dats m 0 c).A w = V m c (Pipeline.arrRef spec0 w) := by
  dsimp only [dats]

/-- What the body leaves in window 0. -/
theorem after0 (c : Dev nD) (t : Fin cfg0.N) : (dats m 0 c).after 0 t = iblk m c 0 t := by dsimp only [dats]
/-- What the body leaves in window 1. -/
theorem after1 (c : Dev nD) (t : Fin cfg0.N) : (dats m 0 c).after 1 t = iblk m c 1 t := by dsimp only [dats]
/-- What the body leaves in window 2. -/
theorem after2 (c : Dev nD) (t : Fin cfg0.N) : (dats m 0 c).after 2 t = iblk m c 2 t := by dsimp only [dats]
/-- What the body leaves in window 3. -/
theorem after3 (c : Dev nD) (t : Fin cfg0.N) : (dats m 0 c).after 3 t = kf m c t := by dsimp only [dats]
/-- What the body leaves in window 4. -/
theorem after4 (c : Dev nD) (t : Fin cfg0.N) : (dats m 0 c).after 4 t = vf m c t := by dsimp only [dats]
/-- What the body leaves in window 5. -/
theorem after5 (c : Dev nD) (t : Fin cfg0.N) : (dats m 0 c).after 5 t = kb m c t := by dsimp only [dats]
/-- What the body leaves in window 6. -/
theorem after6 (c : Dev nD) (t : Fin cfg0.N) : (dats m 0 c).after 6 t = vb m c t := by dsimp only [dats]

/-- What the body finds in window 0: its block. -/
theorem before0 (c : Dev nD) (t : Fin cfg0.N) (d) : (dats m 0 c).before 0 t d = iblk m c 0 t :=
  before0_0_of m (dats m 0 c) (A_eq m c 0) (after0 m c) t d
/-- What the body finds in window 1: its block. -/
theorem before1 (c : Dev nD) (t : Fin cfg0.N) (d) : (dats m 0 c).before 1 t d = iblk m c 1 t :=
  before0_1_of m (dats m 0 c) (A_eq m c 1) (after1 m c) t d
/-- What the body finds in window 2: its block. -/
theorem before2 (c : Dev nD) (t : Fin cfg0.N) (d) : (dats m 0 c).before 2 t d = iblk m c 2 t :=
  before0_2_of m (dats m 0 c) (A_eq m c 2) (after2 m c) t d

/-- What the body is called with at a point. -/
def Pre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d)))

/-- What it returns. -/
def Post (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t)
    ∗ owns (c : Thread nD τ) (mem5 t) fullShare ((dats m 0 c).after 5 t)
    ∗ owns (c : Thread nD τ) (mem6 t) fullShare ((dats m 0 c).after 6 t))

set_option maxHeartbeats 6400000 in
/-- The body at any point takes the one to the other. -/
theorem sound (c : Dev nD) (t : Fin cfg0.N) :
    Pre m c t ⊢ wp frame (wpE (defs₀ (F := F)) Variants.none c none) Set.univ (bodyAt0 t) (fun _ => Post m c t) := by
  unfold Pre Post bodyAt0
  simp only [before0, before1, before2]
  rw [show (dats m 0 c).owesAt () t.succ = (dats m 0 c).owesAt () t.castSucc from rfl,
    show (dats m 0 c).Φ t.succ = (dats m 0 c).Φ t.castSucc from rfl, after0, after1, after2, after3, after4, after5, after6]
  unfold kf vf kb vb
  iintro ⟨HP, Ho, ⟨%d0, H0⟩, ⟨%d1, H1⟩, ⟨%d2, H2⟩, ⟨%d3, H3⟩, ⟨%d4, H4⟩, ⟨%d5, H5⟩, ⟨%d6, H6⟩⟩
  iapply ((runAt m c t).2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, ⟨%e3, H3⟩, ⟨%e4, H4⟩, ⟨%e5, H5⟩, ⟨%e6, H6⟩⟩
  isplitl [HP]; · iexact HP
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_eq_canon _ _ _ (cover_3 c _ _ _ _ _ _ _ _ _ _ _ _ _ _ _ _ _ _)
  isplitl [H4]
  · unfold owns; iexists _; isplitr
    swap; · iexact H4
    ipureintro; exact View.read_writes_eq_canon _ _ _ (cover_4 c _ _ _ _ _ _ _ _ _ _ _ _ _ _ _ _ _ _)
  isplitl [H5]
  · unfold owns; iexists _; isplitr
    swap; · iexact H5
    ipureintro; exact View.read_writes_eq_canon _ _ _ (cover_5 c _ _ _ _ _ _ _ _ _ _ _ _ _ _ _ _ _ _)
  unfold owns; iexists _; isplitr
  swap; · iexact H6
  ipureintro; exact View.read_writes_eq_canon _ _ _ (cover_6 c _ _ _ _ _ _ _ _ _ _ _ _ _ _ _ _ _ _)

/-- The body table's row at a point is the body. -/
theorem row (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
/-- The launch: every execution ends, with the arrays at what the proof data say and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := fun _ => .rfl) (hout := fun _ => .rfl)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Kernel4Ideal.Mem

end
-- ==== Proof.MemTile.lean ====
/- What one block of the memory call's body computes, entry by entry, as the row arithmetic of MemRow. -/
module

public import proofs.«01_k».proof.Proof.MemRow
public import proofs.«01_k».proof.Proof.MemFrame
public import Idealize.ShloMosaic.Lib.Pipeline.ValueKit.Tiles

@[expose] public section

set_option maxRecDepth 16384

noncomputable section

namespace Cert.Kernel4Ideal.Mem

open Cert.Kernel4Ideal Cert.Kernel4Ideal.Gen Idealize.ShloMosaic Idealize.ShloMosaic.TcCoe Cert.FfnRow Cert.MemRow

/-- The keys of a block's row `r`. -/
def tileKey (x0 : Vec Ideal S256x1024 .f32) (x1 : Vec Ideal S1x1024 .f32) (x2 : Vec Ideal S1024x2048 .f32) (r : Fin 256) (n : Fin 1024) : EReal :=
  key (fun k => x0 (ix2 r k)) (fun k => x1 (ix2 0 k)) (fun k n => x2 (ix2 k n)) n

/-- The values of a block's row `r`. -/
def tileValue (x0 : Vec Ideal S256x1024 .f32) (x1 : Vec Ideal S1x1024 .f32) (x2 : Vec Ideal S1024x2048 .f32) (r : Fin 256) (n : Fin 1024) : EReal :=
  value (fun k => x0 (ix2 r k)) (fun k => x1 (ix2 0 k)) (fun k n => x2 (ix2 k n)) n

theorem pay2_apply (x0 : Vec Ideal S256x1024 .f32) (x1 : Vec Ideal S1x1024 .f32) (r : Fin 256) (k : Fin 1024) :
    k0_pay2 x0 x1 (ix2 r k) = unit (fun k => x0 (ix2 r k)) (fun k => x1 (ix2 0 k)) k := by
  pointwise [k0_pay2]
  rfl

/-- The keys as the kernel computes them. -/
theorem pay3_apply (x0 : Vec Ideal S256x1024 .f32) (x1 : Vec Ideal S1x1024 .f32) (x2 : Vec Ideal S1024x2048 .f32) (r : Fin 256) (n : Fin 1024) :
    k0_pay3 x0 x1 (View.ld x2 (Rect.unit ![0, 0] ![1024, 1024] inb_S1024x2048_S1024x1024_0_0)) (ix2 r n) = tileKey x0 x1 x2 r n := by
  pointwise [k0_pay3]
  simp only [pay2_apply]
  rfl

/-- The values as the kernel computes them. -/
theorem pay5_apply (x0 : Vec Ideal S256x1024 .f32) (x1 : Vec Ideal S1x1024 .f32) (x2 : Vec Ideal S1024x2048 .f32) (r : Fin 256) (n : Fin 1024) :
    k0_pay5 x0 x1 (View.ld x2 (Rect.unit ![0, 1024] ![1024, 1024] inb_S1024x2048_S1024x1024_0_1024)) (ix2 r n) = tileValue x0 x1 x2 r n := by
  pointwise [k0_pay5]
  simp only [pay2_apply]
  rfl

theorem pay4_apply (a b d) (r : Fin 256) (n : Fin 1024) : k0_pay4 (F := Ideal) a b d (ix2 r n) = k0_pay3 a b d (ix2 r n) := by
  pointwise [k0_pay4]

theorem pay6_apply (a b d) (r : Fin 256) (n : Fin 1024) : k0_pay6 (F := Ideal) a b d (ix2 r n) = k0_pay5 a b d (ix2 r n) := by
  pointwise [k0_pay6]

theorem pay7_apply (a b d) (r : Fin 256) (l : Fin 128) : k0_pay7 (F := Ideal) a b d (ix2 r l) = k0_pay3 a b d (ix2 r ⟨l.val, by omega⟩) := by
  pointwise [k0_pay7]

theorem pay8_apply (a b d) (r : Fin 256) (l : Fin 128) : k0_pay8 (F := Ideal) a b d (ix2 r l) = k0_pay5 a b d (ix2 r ⟨l.val, by omega⟩) := by
  pointwise [k0_pay8]

theorem pay9_apply (a b d) (r : Fin 256) (l : Fin 128) : k0_pay9 (F := Ideal) a b d (ix2 r l) = k0_pay3 a b d (ix2 r ⟨128 + l.val, by omega⟩) := by
  pointwise [k0_pay9]

theorem pay10_apply (u : Vec Ideal S256x1024 .f32) (r : Fin 256) (l : Fin 128) : k0_pay10 (F := Ideal) u (ix2 r l) = u (ix2 r ⟨128 + l.val, by omega⟩) := by
  pointwise [k0_pay10]

theorem pay11_apply (u : Vec Ideal S256x1024 .f32) (r : Fin 256) (l : Fin 128) : k0_pay11 (F := Ideal) u (ix2 r l) = u (ix2 r ⟨256 + l.val, by omega⟩) := by
  pointwise [k0_pay11]

theorem pay12_apply (u : Vec Ideal S256x1024 .f32) (r : Fin 256) (l : Fin 128) : k0_pay12 (F := Ideal) u (ix2 r l) = u (ix2 r ⟨256 + l.val, by omega⟩) := by
  pointwise [k0_pay12]

theorem pay13_apply (u : Vec Ideal S256x1024 .f32) (r : Fin 256) (l : Fin 128) : k0_pay13 (F := Ideal) u (ix2 r l) = u (ix2 r ⟨384 + l.val, by omega⟩) := by
  pointwise [k0_pay13]

theorem pay14_apply (u : Vec Ideal S256x1024 .f32) (r : Fin 256) (l : Fin 128) : k0_pay14 (F := Ideal) u (ix2 r l) = u (ix2 r ⟨384 + l.val, by omega⟩) := by
  pointwise [k0_pay14]

theorem pay15_apply (u : Vec Ideal S256x1024 .f32) (r : Fin 256) (l : Fin 128) : k0_pay15 (F := Ideal) u (ix2 r l) = u (ix2 r ⟨512 + l.val, by omega⟩) := by
  pointwise [k0_pay15]

theorem pay16_apply (u : Vec Ideal S256x1024 .f32) (r : Fin 256) (l : Fin 128) : k0_pay16 (F := Ideal) u (ix2 r l) = u (ix2 r ⟨512 + l.val, by omega⟩) := by
  pointwise [k0_pay16]

theorem pay17_apply (u : Vec Ideal S256x1024 .f32) (r : Fin 256) (l : Fin 128) : k0_pay17 (F := Ideal) u (ix2 r l) = u (ix2 r ⟨640 + l.val, by omega⟩) := by
  pointwise [k0_pay17]

theorem pay18_apply (u : Vec Ideal S256x1024 .f32) (r : Fin 256) (l : Fin 128) : k0_pay18 (F := Ideal) u (ix2 r l) = u (ix2 r ⟨640 + l.val, by omega⟩) := by
  pointwise [k0_pay18]

theorem pay19_apply (u : Vec Ideal S256x1024 .f32) (r : Fin 256) (l : Fin 128) : k0_pay19 (F := Ideal) u (ix2 r l) = u (ix2 r ⟨768 + l.val, by omega⟩) := by
  pointwise [k0_pay19]

theorem pay20_apply (u : Vec Ideal S256x1024 .f32) (r : Fin 256) (l : Fin 128) : k0_pay20 (F := Ideal) u (ix2 r l) = u (ix2 r ⟨768 + l.val, by omega⟩) := by
  pointwise [k0_pay20]

theorem pay21_apply (u : Vec Ideal S256x1024 .f32) (r : Fin 256) (l : Fin 128) : k0_pay21 (F := Ideal) u (ix2 r l) = u (ix2 r ⟨896 + l.val, by omega⟩) := by
  pointwise [k0_pay21]

theorem pay1_apply (u : Vec Ideal S256x1024 .f32) (r : Fin 256) (l : Fin 128) : k0_pay1 (F := Ideal) u (ix2 r l) = u (ix2 r ⟨896 + l.val, by omega⟩) := by
  pointwise [k0_pay1]

/-- A store of the rows of remainder `k` by eight puts its row `r` at row `8 r + k`. -/
theorem piece_eighth (k : ℕ) (hk : k < 8) (P : Vec Ideal S256x128 .f32) (inb sp) (g : Fin 256 → Fin 1024 → EReal)
    (h : ∀ (r : Fin 256) (l : Fin 128), P (ix2 r l) = g r (col k l)) (x : S256x128.Idx) :
    P x = (fun y : S2048x128.Idx => g ⟨(y 0).val / 8, by have h : (y 0).val < 2048 := (y 0).isLt; omega⟩ (col (y 0).val (y 1)))
      ((⟨(⟨![k, 0], S256x128.size, ![8, 1], inb⟩ : LoadRect S2048x128), sp⟩ : Rect S2048x128).emb x) := by
  have hx : x = ix2 (x 0) (x 1) := by
    funext a
    fin_cases a <;> rfl
  have e0 : ((⟨(⟨![k, 0], S256x128.size, ![8, 1], inb⟩ : LoadRect S2048x128), sp⟩ : Rect S2048x128).emb x 0).val = k + 8 * (x 0).val := rfl
  have e1 : ((⟨(⟨![k, 0], S256x128.size, ![8, 1], inb⟩ : LoadRect S2048x128), sp⟩ : Rect S2048x128).emb x 1).val = 0 + 1 * (x 1).val := rfl
  dsimp only
  refine (congrArg P hx).trans ((h (x 0) (x 1)).trans ?_)
  congr 1
  · ext
    dsimp only
    rw [e0]
    omega
  · ext
    unfold col
    dsimp only
    rw [e0, e1]
    have a1 : (k + 8 * (x 0).val) % 4 = k % 4 := by omega
    have a2 : (k + 8 * (x 0).val) % 8 = k % 8 := by omega
    rw [a1, a2]
    omega

/-- Eight stores, of the rows of each remainder by eight, read at one entry: the store of the row's remainder. -/
theorem eighth_apply (P0 P1 P2 P3 P4 P5 P6 P7 : Vec Ideal S256x128 .f32) (i0 i1 i2 i3 i4 i5 i6 i7) (sp) (q : Fin 2048) (l : Fin 128) (g : Fin 256 → Fin 1024 → EReal)
    (h0 : ∀ (r : Fin 256) (l : Fin 128), P0 (ix2 r l) = g r (col 0 l))
    (h1 : ∀ (r : Fin 256) (l : Fin 128), P1 (ix2 r l) = g r (col 1 l))
    (h2 : ∀ (r : Fin 256) (l : Fin 128), P2 (ix2 r l) = g r (col 2 l))
    (h3 : ∀ (r : Fin 256) (l : Fin 128), P3 (ix2 r l) = g r (col 3 l))
    (h4 : ∀ (r : Fin 256) (l : Fin 128), P4 (ix2 r l) = g r (col 4 l))
    (h5 : ∀ (r : Fin 256) (l : Fin 128), P5 (ix2 r l) = g r (col 5 l))
    (h6 : ∀ (r : Fin 256) (l : Fin 128), P6 (ix2 r l) = g r (col 6 l))
    (h7 : ∀ (r : Fin 256) (l : Fin 128), P7 (ix2 r l) = g r (col 7 l)) :
    View.canon ([⟨⟨(⟨![7, 0], S256x128.size, ![8, 1], i7⟩ : LoadRect S2048x128), sp⟩, P7⟩, ⟨⟨(⟨![3, 0], S256x128.size, ![8, 1], i3⟩ : LoadRect S2048x128), sp⟩, P3⟩, ⟨⟨(⟨![6, 0], S256x128.size, ![8, 1], i6⟩ : LoadRect S2048x128), sp⟩, P6⟩, ⟨⟨(⟨![2, 0], S256x128.size, ![8, 1], i2⟩ : LoadRect S2048x128), sp⟩, P2⟩, ⟨⟨(⟨![5, 0], S256x128.size, ![8, 1], i5⟩ : LoadRect S2048x128), sp⟩, P5⟩, ⟨⟨(⟨![1, 0], S256x128.size, ![8, 1], i1⟩ : LoadRect S2048x128), sp⟩, P1⟩, ⟨⟨(⟨![4, 0], S256x128.size, ![8, 1], i4⟩ : LoadRect S2048x128), sp⟩, P4⟩, ⟨⟨(⟨![0, 0], S256x128.size, ![8, 1], i0⟩ : LoadRect S2048x128), sp⟩, P0⟩] : List (View.Piece (Elt Ideal) S2048x128 .f32))
      (ix2 q l) = g ⟨q.val / 8, by omega⟩ (col q.val l) := by
  refine (View.canon_apply_of_pieces (fun y : S2048x128.Idx => g ⟨(y 0).val / 8, by have h : (y 0).val < 2048 := (y 0).isLt; omega⟩ (col (y 0).val (y 1)))
    _ ?_ (ix2 q l) (cover_eighth P0 P1 P2 P3 P4 P5 P6 P7 i0 i1 i2 i3 i4 i5 i6 i7 sp (ix2 q l))).trans rfl
  intro p hp
  rcases List.mem_cons.mp hp with rfl | hp
  · exact piece_eighth 7 (by decide) P7 i7 sp g h7
  rcases List.mem_cons.mp hp with rfl | hp
  · exact piece_eighth 3 (by decide) P3 i3 sp g h3
  rcases List.mem_cons.mp hp with rfl | hp
  · exact piece_eighth 6 (by decide) P6 i6 sp g h6
  rcases List.mem_cons.mp hp with rfl | hp
  · exact piece_eighth 2 (by decide) P2 i2 sp g h2
  rcases List.mem_cons.mp hp with rfl | hp
  · exact piece_eighth 5 (by decide) P5 i5 sp g h5
  rcases List.mem_cons.mp hp with rfl | hp
  · exact piece_eighth 1 (by decide) P1 i1 sp g h1
  rcases List.mem_cons.mp hp with rfl | hp
  · exact piece_eighth 4 (by decide) P4 i4 sp g h4
  rcases List.mem_cons.mp hp with rfl | hp
  · exact piece_eighth 0 (by decide) P0 i0 sp g h0
  · exact absurd hp List.not_mem_nil

theorem hz : (![0, 0] : Fin 2 → Nat) = fun _ => 0 := funext fun a => by fin_cases a <;> rfl

variable (c : Dev nD) (i : grid0.Coords)
  (arg1 : Memref sig .tc .vmem S256x1024 .f32) (harg1 : arg1.IsWhole)
  (arg2 : Memref sig .tc .vmem S1x1024 .f32) (harg2 : arg2.IsWhole)
  (arg3 : Memref sig .tc .vmem S1024x2048 .f32) (harg3 : arg3.IsWhole)
  (arg4 : Memref sig .tc .vmem S2048x128 .f32) (harg4 : arg4.IsWhole)
  (arg5 : Memref sig .tc .vmem S2048x128 .f32) (harg5 : arg5.IsWhole)
  (arg6 : Memref sig .tc .vmem S256x1024 .bf16) (harg6 : arg6.IsWhole)
  (arg7 : Memref sig .tc .vmem S256x1024 .bf16) (harg7 : arg7.IsWhole)
  (x0 : Vec Ideal S256x1024 .f32) (x1 : Vec Ideal S1x1024 .f32) (x2 : Vec Ideal S1024x2048 .f32)

/-- The keys left in f32, row `q`, entry `l`. -/
theorem keys_row (q : Fin 2048) (l : Fin 128) :
    View.canon (run c i arg1 harg1 arg2 harg2 arg3 harg3 arg4 harg4 arg5 harg5 arg6 harg6 arg7 harg7 x0 x1 x2).1 (ix2 q l) = tileKey x0 x1 x2 ⟨q.val / 8, by omega⟩ (col q.val l) := by
  unfold run
  dsimp only
  sl_unfold_words
  simp only [View.readAt_eq_ld, harg1.read_unread, harg2.read_unread, harg3.read_unread, View.ld_unit_zero (S := S256x1024) hz, View.ld_unit_zero (S := S1x1024) hz]
  exact eighth_apply _ _ _ _ _ _ _ _ _ _ _ _ _ _ _ _ _ q l (tileKey x0 x1 x2)
    (fun r l => by rw [pay7_apply, pay3_apply]; unfold col; congr 1; ext; dsimp only; omega)
    (fun r l => by rw [pay11_apply, pay3_apply]; unfold col; congr 1)
    (fun r l => by rw [pay15_apply, pay3_apply]; unfold col; congr 1)
    (fun r l => by rw [pay19_apply, pay3_apply]; unfold col; congr 1)
    (fun r l => by rw [pay9_apply, pay3_apply]; unfold col; congr 1)
    (fun r l => by rw [pay13_apply, pay3_apply]; unfold col; congr 1)
    (fun r l => by rw [pay17_apply, pay3_apply]; unfold col; congr 1)
    (fun r l => by rw [pay21_apply, pay3_apply]; unfold col; congr 1)

/-- The values left in f32, row `q`, entry `l`. -/
theorem values_row (q : Fin 2048) (l : Fin 128) :
    View.canon (run c i arg1 harg1 arg2 harg2 arg3 harg3 arg4 harg4 arg5 harg5 arg6 harg6 arg7 harg7 x0 x1 x2).2.1 (ix2 q l) = tileValue x0 x1 x2 ⟨q.val / 8, by omega⟩ (col q.val l) := by
  unfold run
  dsimp only
  sl_unfold_words
  simp only [View.readAt_eq_ld, harg1.read_unread, harg2.read_unread, harg3.read_unread, View.ld_unit_zero (S := S256x1024) hz, View.ld_unit_zero (S := S1x1024) hz]
  exact eighth_apply _ _ _ _ _ _ _ _ _ _ _ _ _ _ _ _ _ q l (tileValue x0 x1 x2)
    (fun r l => by rw [pay8_apply, pay5_apply]; unfold col; congr 1; ext; dsimp only; omega)
    (fun r l => by rw [pay12_apply, pay5_apply]; unfold col; congr 1)
    (fun r l => by rw [pay16_apply, pay5_apply]; unfold col; congr 1)
    (fun r l => by rw [pay20_apply, pay5_apply]; unfold col; congr 1)
    (fun r l => by rw [pay10_apply, pay5_apply]; unfold col; congr 1)
    (fun r l => by rw [pay14_apply, pay5_apply]; unfold col; congr 1)
    (fun r l => by rw [pay18_apply, pay5_apply]; unfold col; congr 1)
    (fun r l => by rw [pay1_apply, pay5_apply]; unfold col; congr 1)

/-- The keys left in bf16, row `r`, entry `n`. -/
theorem keys_whole (r : Fin 256) (n : Fin 1024) :
    View.canon (run c i arg1 harg1 arg2 harg2 arg3 harg3 arg4 harg4 arg5 harg5 arg6 harg6 arg7 harg7 x0 x1 x2).2.2.1 (ix2 r n) = tileKey x0 x1 x2 r n := by
  unfold run
  dsimp only
  sl_unfold_words
  simp only [View.readAt_eq_ld, harg1.read_unread, harg2.read_unread, harg3.read_unread, View.ld_unit_zero (S := S256x1024) hz, View.ld_unit_zero (S := S1x1024) hz]
  rw [View.canon_unit_zero hz, pay4_apply, pay3_apply]

/-- The values left in bf16, row `r`, entry `n`. -/
theorem values_whole (r : Fin 256) (n : Fin 1024) :
    View.canon (run c i arg1 harg1 arg2 harg2 arg3 harg3 arg4 harg4 arg5 harg5 arg6 harg6 arg7 harg7 x0 x1 x2).2.2.2.1 (ix2 r n) = tileValue x0 x1 x2 r n := by
  unfold run
  dsimp only
  sl_unfold_words
  simp only [View.readAt_eq_ld, harg1.read_unread, harg2.read_unread, harg3.read_unread, View.ld_unit_zero (S := S256x1024) hz, View.ld_unit_zero (S := S1x1024) hz]
  rw [View.canon_unit_zero hz, pay6_apply, pay5_apply]

end Cert.Kernel4Ideal.Mem

end
-- ==== Proof.MemKernel.lean ====
/- The memory call's result arrays, entry by entry, are the row arithmetic of MemRow of the arguments. -/
module

public import proofs.«01_k».proof.Proof.MemTile
public import Idealize.ShloMosaic.Lib.Pipeline.Value
public import Idealize.ShloMosaic.Lib.Pipeline.ValueKit.Point

@[expose] public section

noncomputable section

namespace Cert.Kernel4Ideal.Mem

open Cert.Kernel4Ideal Cert.Kernel4Ideal.Gen Idealize.ShloMosaic Idealize.ShloMosaic.TcCoe Idealize.SL.Sem Cert.FfnRow Cert.MemRow

variable (m : (ℓ : Loc nD τ sig) → Buf (Elt Ideal) ℓ) (c : Dev nD)

/-- Window 0 is at the point's batch of rows. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Window 1 is at its whole array at every point. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Window 2 is at its whole array at every point. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Window 3 is at the point's batch of rows. -/
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Window 4 is at the point's batch of rows. -/
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- Window 5 is at the point's batch of rows. -/
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- Window 6 is at the point's batch of rows. -/
theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- A row of the point's block is a row of the point's batch of the memory. -/
theorem blk0 (t : Fin cfg0.N) (r : Fin 256) (k : Fin 1024) (b : Fin 4) (h : t.val = b.val) :
    (iblk m c 0 t : Vec Ideal S256x1024 .f32) (ix2 r k) = m ((c : Thread nD τ).loc main_arg0) (ix3 b r k) := by
  have hi := idx0 t
  blk_ext! [iblk, V, hi]

/-- Window 1's block is argument 1. -/
theorem blk1 (t : Fin cfg0.N) (k : Fin 1024) :
    (iblk m c 1 t : Vec Ideal S1x1024 .f32) (ix2 0 k) = m ((c : Thread nD τ).loc main_arg1) (ix2 0 k) := by
  have hi := idx1 t
  blk_ext! [iblk, V, hi]

/-- Window 2's block is argument 2. -/
theorem blk2 (t : Fin cfg0.N) (k : Fin 1024) (n : Fin 2048) :
    (iblk m c 2 t : Vec Ideal S1024x2048 .f32) (ix2 k n) = m ((c : Thread nD τ).loc main_arg2) (ix3 0 k n) := by
  have hi := idx2 t
  blk_ext! [iblk, V, hi]

/-- The arguments, as the row arithmetic takes them. -/
abbrev aX (b : Fin 4) (s : Fin 256) (k : Fin 1024) : EReal := m ((c : Thread nD τ).loc main_arg0) (ix3 b s k)
abbrev aN (k : Fin 1024) : EReal := m ((c : Thread nD τ).loc main_arg1) (ix2 0 k)
abbrev aW (k : Fin 1024) (n : Fin 2048) : EReal := m ((c : Thread nD τ).loc main_arg2) (ix3 0 k n)

/-- The keys of a block's row are those of the memory's row. -/
theorem tileKey_eq (t : Fin cfg0.N) (r : Fin 256) (b : Fin 4) (h : t.val = b.val) (n : Fin 1024) :
    tileKey (iblk m c 0 t) (iblk m c 1 t) (iblk m c 2 t) r n = key (aX m c b r) (aN m c) (aW m c) n := by
  unfold tileKey
  have e0 := fun k => blk0 m c t r k b h
  have e1 := blk1 m c t
  have e2 := blk2 m c t
  simp only [e0, e1, e2]

/-- The values of a block's row are those of the memory's row. -/
theorem tileValue_eq (t : Fin cfg0.N) (r : Fin 256) (b : Fin 4) (h : t.val = b.val) (n : Fin 1024) :
    tileValue (iblk m c 0 t) (iblk m c 1 t) (iblk m c 2 t) r n = value (aX m c b r) (aN m c) (aW m c) n := by
  unfold tileValue
  have e0 := fun k => blk0 m c t r k b h
  have e1 := blk1 m c t
  have e2 := blk2 m c t
  simp only [e0, e1, e2]

/-- What a point leaves of the keys in f32. -/
theorem kf_apply (t : Fin cfg0.N) (q : Fin 2048) (l : Fin 128) (b : Fin 4) (h : t.val = b.val) :
    kf m c t (ix2 q l) = key (aX m c b ⟨q.val / 8, by omega⟩) (aN m c) (aW m c) (col q.val l) := by
  have e := keys_row c (grid0.coords t) (mem0 t) (whole0 t) (mem1 t) (whole1 t) (mem2 t) (whole2 t) (mem3 t) (whole3 t) (mem4 t) (whole4 t) (mem5 t) (whole5 t) (mem6 t) (whole6 t) (iblk m c 0 t) (iblk m c 1 t) (iblk m c 2 t) q l
  rw [tileKey_eq m c t _ b h] at e
  unfold kf
  exact e

/-- What a point leaves of the values in f32. -/
theorem vf_apply (t : Fin cfg0.N) (q : Fin 2048) (l : Fin 128) (b : Fin 4) (h : t.val = b.val) :
    vf m c t (ix2 q l) = value (aX m c b ⟨q.val / 8, by omega⟩) (aN m c) (aW m c) (col q.val l) := by
  have e := values_row c (grid0.coords t) (mem0 t) (whole0 t) (mem1 t) (whole1 t) (mem2 t) (whole2 t) (mem3 t) (whole3 t) (mem4 t) (whole4 t) (mem5 t) (whole5 t) (mem6 t) (whole6 t) (iblk m c 0 t) (iblk m c 1 t) (iblk m c 2 t) q l
  rw [tileValue_eq m c t _ b h] at e
  unfold vf
  exact e

/-- What a point leaves of the keys in bf16. -/
theorem kb_apply (t : Fin cfg0.N) (r : Fin 256) (n : Fin 1024) (b : Fin 4) (h : t.val = b.val) :
    kb m c t (ix2 r n) = key (aX m c b r) (aN m c) (aW m c) n := by
  have e := keys_whole c (grid0.coords t) (mem0 t) (whole0 t) (mem1 t) (whole1 t) (mem2 t) (whole2 t) (mem3 t) (whole3 t) (mem4 t) (whole4 t) (mem5 t) (whole5 t) (mem6 t) (whole6 t) (iblk m c 0 t) (iblk m c 1 t) (iblk m c 2 t) r n
  rw [tileKey_eq m c t _ b h] at e
  unfold kb
  exact e

/-- What a point leaves of the values in bf16. -/
theorem vb_apply (t : Fin cfg0.N) (r : Fin 256) (n : Fin 1024) (b : Fin 4) (h : t.val = b.val) :
    vb m c t (ix2 r n) = value (aX m c b r) (aN m c) (aW m c) n := by
  have e := values_whole c (grid0.coords t) (mem0 t) (whole0 t) (mem1 t) (whole1 t) (mem2 t) (whole2 t) (mem3 t) (whole3 t) (mem4 t) (whole4 t) (mem5 t) (whole5 t) (mem6 t) (whole6 t) (iblk m c 0 t) (iblk m c 1 t) (iblk m c 2 t) r n
  rw [tileValue_eq m c t _ b h] at e
  unfold vb
  exact e

/-- Two points that write output window 3's block back write different blocks. -/
theorem apart3 (t t' : Fin cfg0.N) (hf : (cfg0.win 3).flush t = true) (hf' : (cfg0.win 3).flush t' = true) (hne : t ≠ t') :
    Disjoint ((cfg0.win 3).blk t).view.set ((cfg0.win 3).blk t').view.set :=
  (cfg0.win 3).disjoint_blk fun h => hne
    ((by decide +kernel : ∀ t t' : Fin grid0.N, win0_3.index t = win0_3.index t' → t = t') t t' h)

/-- Such a point's block of the final array is what the point left. -/
theorem final3 (t : Fin cfg0.N) (hf : (cfg0.win 3).flush t = true) :
    ((cfg0.win 3).blk t).view.read (Elt Ideal) ((dats m 0 c).arrAt 3 cfg0.N) = (cfg0.win 3).cut (grid0.coords t) (kf m c t) := by
  refine ((dats m 0 c).read_blk_arrAt_eq_flushed 3 apart3 cfg0.N t t.isLt hf).trans ?_
  show (cfg0.win 3).cut (grid0.coords t) ((dats m 0 c).after 3 t) = _
  rw [after3]

/-- Two points that write output window 4's block back write different blocks. -/
theorem apart4 (t t' : Fin cfg0.N) (hf : (cfg0.win 4).flush t = true) (hf' : (cfg0.win 4).flush t' = true) (hne : t ≠ t') :
    Disjoint ((cfg0.win 4).blk t).view.set ((cfg0.win 4).blk t').view.set :=
  (cfg0.win 4).disjoint_blk fun h => hne
    ((by decide +kernel : ∀ t t' : Fin grid0.N, win0_4.index t = win0_4.index t' → t = t') t t' h)

/-- Such a point's block of the final array is what the point left. -/
theorem final4 (t : Fin cfg0.N) (hf : (cfg0.win 4).flush t = true) :
    ((cfg0.win 4).blk t).view.read (Elt Ideal) ((dats m 0 c).arrAt 4 cfg0.N) = (cfg0.win 4).cut (grid0.coords t) (vf m c t) := by
  refine ((dats m 0 c).read_blk_arrAt_eq_flushed 4 apart4 cfg0.N t t.isLt hf).trans ?_
  show (cfg0.win 4).cut (grid0.coords t) ((dats m 0 c).after 4 t) = _
  rw [after4]

/-- Two points that write output window 5's block back write different blocks. -/
theorem apart5 (t t' : Fin cfg0.N) (hf : (cfg0.win 5).flush t = true) (hf' : (cfg0.win 5).flush t' = true) (hne : t ≠ t') :
    Disjoint ((cfg0.win 5).blk t).view.set ((cfg0.win 5).blk t').view.set :=
  (cfg0.win 5).disjoint_blk fun h => hne
    ((by decide +kernel : ∀ t t' : Fin grid0.N, win0_5.index t = win0_5.index t' → t = t') t t' h)

/-- Such a point's block of the final array is what the point left. -/
theorem final5 (t : Fin cfg0.N) (hf : (cfg0.win 5).flush t = true) :
    ((cfg0.win 5).blk t).view.read (Elt Ideal) ((dats m 0 c).arrAt 5 cfg0.N) = (cfg0.win 5).cut (grid0.coords t) (kb m c t) := by
  refine ((dats m 0 c).read_blk_arrAt_eq_flushed 5 apart5 cfg0.N t t.isLt hf).trans ?_
  show (cfg0.win 5).cut (grid0.coords t) ((dats m 0 c).after 5 t) = _
  rw [after5]

/-- Two points that write output window 6's block back write different blocks. -/
theorem apart6 (t t' : Fin cfg0.N) (hf : (cfg0.win 6).flush t = true) (hf' : (cfg0.win 6).flush t' = true) (hne : t ≠ t') :
    Disjoint ((cfg0.win 6).blk t).view.set ((cfg0.win 6).blk t').view.set :=
  (cfg0.win 6).disjoint_blk fun h => hne
    ((by decide +kernel : ∀ t t' : Fin grid0.N, win0_6.index t = win0_6.index t' → t = t') t t' h)

/-- Such a point's block of the final array is what the point left. -/
theorem final6 (t : Fin cfg0.N) (hf : (cfg0.win 6).flush t = true) :
    ((cfg0.win 6).blk t).view.read (Elt Ideal) ((dats m 0 c).arrAt 6 cfg0.N) = (cfg0.win 6).cut (grid0.coords t) (vb m c t) := by
  refine ((dats m 0 c).read_blk_arrAt_eq_flushed 6 apart6 cfg0.N t t.isLt hf).trans ?_
  show (cfg0.win 6).cut (grid0.coords t) ((dats m 0 c).after 6 t) = _
  rw [after6]

/-- THE KEYS' ARRAY in f32 at row `q`, entry `l`. -/
theorem kf_apply_arr (q : Fin 8192) (l : Fin 128) :
    ((dats m 0 c).arrAt 3 cfg0.N : S8192x128.Idx → EReal) (ix2 q l) = key (aX m c ⟨q.val / 2048, by omega⟩ ⟨q.val / 8 % 256, by omega⟩) (aN m c) (aW m c) (col q.val l) := by
  have hN : cfg0.N = 4 := N_0
  have ht : q.val / 2048 < cfg0.N := by omega
  have hB := congrFun (final3 m c ⟨q.val / 2048, ht⟩ (flush0_3 _)) (ix2 (⟨q.val % 2048, by omega⟩ : Fin 2048) l)
  have hi := idx3 ⟨q.val / 2048, ht⟩
  refine Eq.trans ?_ (hB.trans ?_)
  · show (dats m 0 c).arrAt 3 cfg0.N (ix2 q l) = (dats m 0 c).arrAt 3 cfg0.N (((cfg0.win 3).blk ⟨q.val / 2048, ht⟩).view.emb (ix2 (⟨q.val % 2048, by omega⟩ : Fin 2048) l))
    congr 1
    funext a
    apply Fin.ext
    fin_cases a
    · show q.val = win0_3.index ⟨q.val / 2048, ht⟩ (0 : Fin 2) * 2048 + 1 * (q.val % 2048)
      rw [hi.1]
      dsimp only
      omega
    · show l.val = win0_3.index ⟨q.val / 2048, ht⟩ (1 : Fin 2) * 128 + 1 * l.val
      rw [hi.2]
      omega
  · refine (kf_apply m c ⟨q.val / 2048, ht⟩ ⟨q.val % 2048, by omega⟩ l ⟨q.val / 2048, by omega⟩ rfl).trans ?_
    dsimp only
    have h1 : q.val % 2048 / 8 = q.val / 8 % 256 := by omega
    have h2 : col (q.val % 2048) l = col q.val l := by
      unfold col
      ext
      dsimp only
      omega
    simp only [h1, h2]

/-- THE VALUES' ARRAY in f32 at row `q`, entry `l`. -/
theorem vf_apply_arr (q : Fin 8192) (l : Fin 128) :
    ((dats m 0 c).arrAt 4 cfg0.N : S8192x128.Idx → EReal) (ix2 q l) = value (aX m c ⟨q.val / 2048, by omega⟩ ⟨q.val / 8 % 256, by omega⟩) (aN m c) (aW m c) (col q.val l) := by
  have hN : cfg0.N = 4 := N_0
  have ht : q.val / 2048 < cfg0.N := by omega
  have hB := congrFun (final4 m c ⟨q.val / 2048, ht⟩ (flush0_4 _)) (ix2 (⟨q.val % 2048, by omega⟩ : Fin 2048) l)
  have hi := idx4 ⟨q.val / 2048, ht⟩
  refine Eq.trans ?_ (hB.trans ?_)
  · show (dats m 0 c).arrAt 4 cfg0.N (ix2 q l) = (dats m 0 c).arrAt 4 cfg0.N (((cfg0.win 4).blk ⟨q.val / 2048, ht⟩).view.emb (ix2 (⟨q.val % 2048, by omega⟩ : Fin 2048) l))
    congr 1
    funext a
    apply Fin.ext
    fin_cases a
    · show q.val = win0_4.index ⟨q.val / 2048, ht⟩ (0 : Fin 2) * 2048 + 1 * (q.val % 2048)
      rw [hi.1]
      dsimp only
      omega
    · show l.val = win0_4.index ⟨q.val / 2048, ht⟩ (1 : Fin 2) * 128 + 1 * l.val
      rw [hi.2]
      omega
  · refine (vf_apply m c ⟨q.val / 2048, ht⟩ ⟨q.val % 2048, by omega⟩ l ⟨q.val / 2048, by omega⟩ rfl).trans ?_
    dsimp only
    have h1 : q.val % 2048 / 8 = q.val / 8 % 256 := by omega
    have h2 : col (q.val % 2048) l = col q.val l := by
      unfold col
      ext
      dsimp only
      omega
    simp only [h1, h2]

/-- THE KEYS' ARRAY in bf16 at row `q`, entry `n`. -/
theorem kb_apply_arr (q : Fin 1024) (n : Fin 1024) :
    ((dats m 0 c).arrAt 5 cfg0.N : S1024x1024.Idx → EReal) (ix2 q n) = key (aX m c ⟨q.val / 256, by omega⟩ ⟨q.val % 256, by omega⟩) (aN m c) (aW m c) n := by
  have hN : cfg0.N = 4 := N_0
  have ht : q.val / 256 < cfg0.N := by omega
  have hB := congrFun (final5 m c ⟨q.val / 256, ht⟩ (flush0_5 _)) (ix2 (⟨q.val % 256, by omega⟩ : Fin 256) n)
  have hi := idx5 ⟨q.val / 256, ht⟩
  refine Eq.trans ?_ (hB.trans ?_)
  · show (dats m 0 c).arrAt 5 cfg0.N (ix2 q n) = (dats m 0 c).arrAt 5 cfg0.N (((cfg0.win 5).blk ⟨q.val / 256, ht⟩).view.emb (ix2 (⟨q.val % 256, by omega⟩ : Fin 256) n))
    congr 1
    funext a
    apply Fin.ext
    fin_cases a
    · show q.val = win0_5.index ⟨q.val / 256, ht⟩ (0 : Fin 2) * 256 + 1 * (q.val % 256)
      rw [hi.1]
      dsimp only
      omega
    · show n.val = win0_5.index ⟨q.val / 256, ht⟩ (1 : Fin 2) * 1024 + 1 * n.val
      rw [hi.2]
      omega
  · exact kb_apply m c ⟨q.val / 256, ht⟩ ⟨q.val % 256, by omega⟩ n ⟨q.val / 256, by omega⟩ rfl

/-- THE VALUES' ARRAY in bf16 at row `q`, entry `n`. -/
theorem vb_apply_arr (q : Fin 1024) (n : Fin 1024) :
    ((dats m 0 c).arrAt 6 cfg0.N : S1024x1024.Idx → EReal) (ix2 q n) = value (aX m c ⟨q.val / 256, by omega⟩ ⟨q.val % 256, by omega⟩) (aN m c) (aW m c) n := by
  have hN : cfg0.N = 4 := N_0
  have ht : q.val / 256 < cfg0.N := by omega
  have hB := congrFun (final6 m c ⟨q.val / 256, ht⟩ (flush0_6 _)) (ix2 (⟨q.val % 256, by omega⟩ : Fin 256) n)
  have hi := idx6 ⟨q.val / 256, ht⟩
  refine Eq.trans ?_ (hB.trans ?_)
  · show (dats m 0 c).arrAt 6 cfg0.N (ix2 q n) = (dats m 0 c).arrAt 6 cfg0.N (((cfg0.win 6).blk ⟨q.val / 256, ht⟩).view.emb (ix2 (⟨q.val % 256, by omega⟩ : Fin 256) n))
    congr 1
    funext a
    apply Fin.ext
    fin_cases a
    · show q.val = win0_6.index ⟨q.val / 256, ht⟩ (0 : Fin 2) * 256 + 1 * (q.val % 256)
      rw [hi.1]
      dsimp only
      omega
    · show n.val = win0_6.index ⟨q.val / 256, ht⟩ (1 : Fin 2) * 1024 + 1 * n.val
      rw [hi.2]
      omega
  · exact vb_apply m c ⟨q.val / 256, ht⟩ ⟨q.val % 256, by omega⟩ n ⟨q.val / 256, by omega⟩ rfl

/-- The run with the four result arrays named, the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v4_0) = (dats m 0 c).arrAt 3 cfg0.N
      ∧ r.2.mem ((c.tc : Thread nD τ).loc main_v4_1) = (dats m 0 c).arrAt 4 cfg0.N
      ∧ r.2.mem ((c.tc : Thread nD τ).loc main_v4_2) = (dats m 0 c).arrAt 5 cfg0.N
      ∧ r.2.mem ((c.tc : Thread nD τ).loc main_v4_3) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1 3, (h c).1 4, (h c).1 5, (h c).1 6,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Kernel4Ideal.Mem

end
-- ==== Proof.MemEq.lean ====
/- The memory call's four result arrays are the reference's. -/
module

public import proofs.«01_k».proof.Proof.MemRef
public import proofs.«01_k».proof.Proof.MemKernel

@[expose] public section

noncomputable section

namespace Cert.MemEq

open Cert Idealize.ShloMosaic Idealize.ShloMosaic.TcCoe Cert.FfnRow Cert.MemRow

variable (m : (ℓ : Loc Kernel4Ideal.nD Kernel4Ideal.τ Kernel4Ideal.sig) → Buf (Elt Ideal) ℓ)
  (m' : (ℓ : Loc Reference4Ideal.nD Reference4Ideal.τ Reference4Ideal.sig) → Buf (Elt Ideal) ℓ) (c : Dev Kernel4Ideal.nD)

/-- At equal arguments, the keys in f32. -/
theorem kf (h0 : m' ((c.tc : Thread Reference4Ideal.nD Reference4Ideal.τ).loc Reference4Ideal.main_arg0) = m ((c.tc : Thread Kernel4Ideal.nD Kernel4Ideal.τ).loc Kernel4Ideal.main_arg0))
    (h1 : m' ((c.tc : Thread Reference4Ideal.nD Reference4Ideal.τ).loc Reference4Ideal.main_arg1) = m ((c.tc : Thread Kernel4Ideal.nD Kernel4Ideal.τ).loc Kernel4Ideal.main_arg1))
    (h2 : m' ((c.tc : Thread Reference4Ideal.nD Reference4Ideal.τ).loc Reference4Ideal.main_arg2) = m ((c.tc : Thread Kernel4Ideal.nD Kernel4Ideal.τ).loc Kernel4Ideal.main_arg2)) :
    Reference4Ideal.Mem.rowsA (Reference4Ideal.Mem.halfK (Reference4Ideal.Mem.kvOf m' c)) = (Kernel4Ideal.Mem.dats m 0 c).arrAt 3 Kernel4Ideal.cfg0.N := by
  refine funext fun (i : Kernel4Ideal.S8192x128.Idx) => ?_
  have hi : i = ix2 (i 0) (i 1) := by
    funext a
    fin_cases a <;> rfl
  rw [hi]
  refine (Reference4Ideal.Mem.rowsA_apply _ (i 0) (i 1)).trans ((Reference4Ideal.Mem.halfK_apply _ _ _ _ _ _).trans ?_)
  rw [h0, h1, h2]
  exact (Kernel4Ideal.Mem.kf_apply_arr m c (i 0) (i 1)).symm

/-- At equal arguments, the values in f32. -/
theorem vf (h0 : m' ((c.tc : Thread Reference4Ideal.nD Reference4Ideal.τ).loc Reference4Ideal.main_arg0) = m ((c.tc : Thread Kernel4Ideal.nD Kernel4Ideal.τ).loc Kernel4Ideal.main_arg0))
    (h1 : m' ((c.tc : Thread Reference4Ideal.nD Reference4Ideal.τ).loc Reference4Ideal.main_arg1) = m ((c.tc : Thread Kernel4Ideal.nD Kernel4Ideal.τ).loc Kernel4Ideal.main_arg1))
    (h2 : m' ((c.tc : Thread Reference4Ideal.nD Reference4Ideal.τ).loc Reference4Ideal.main_arg2) = m ((c.tc : Thread Kernel4Ideal.nD Kernel4Ideal.τ).loc Kernel4Ideal.main_arg2)) :
    Reference4Ideal.Mem.rowsA (Reference4Ideal.Mem.halfV (Reference4Ideal.Mem.kvOf m' c)) = (Kernel4Ideal.Mem.dats m 0 c).arrAt 4 Kernel4Ideal.cfg0.N := by
  refine funext fun (i : Kernel4Ideal.S8192x128.Idx) => ?_
  have hi : i = ix2 (i 0) (i 1) := by
    funext a
    fin_cases a <;> rfl
  rw [hi]
  refine (Reference4Ideal.Mem.rowsA_apply _ (i 0) (i 1)).trans ((Reference4Ideal.Mem.halfV_apply _ _ _ _ _ _).trans ?_)
  rw [h0, h1, h2]
  exact (Kernel4Ideal.Mem.vf_apply_arr m c (i 0) (i 1)).symm

/-- At equal arguments, the keys in bf16. -/
theorem kb (h0 : m' ((c.tc : Thread Reference4Ideal.nD Reference4Ideal.τ).loc Reference4Ideal.main_arg0) = m ((c.tc : Thread Kernel4Ideal.nD Kernel4Ideal.τ).loc Kernel4Ideal.main_arg0))
    (h1 : m' ((c.tc : Thread Reference4Ideal.nD Reference4Ideal.τ).loc Reference4Ideal.main_arg1) = m ((c.tc : Thread Kernel4Ideal.nD Kernel4Ideal.τ).loc Kernel4Ideal.main_arg1))
    (h2 : m' ((c.tc : Thread Reference4Ideal.nD Reference4Ideal.τ).loc Reference4Ideal.main_arg2) = m ((c.tc : Thread Kernel4Ideal.nD Kernel4Ideal.τ).loc Kernel4Ideal.main_arg2)) :
    Reference4Ideal.Mem.flatA (Reference4Ideal.Mem.halfK (Reference4Ideal.Mem.kvOf m' c)) = (Kernel4Ideal.Mem.dats m 0 c).arrAt 5 Kernel4Ideal.cfg0.N := by
  refine funext fun (i : Kernel4Ideal.S1024x1024.Idx) => ?_
  have hi : i = ix2 (i 0) (i 1) := by
    funext a
    fin_cases a <;> rfl
  rw [hi]
  refine (Reference4Ideal.Mem.flatA_apply _ (i 0) (i 1)).trans ((Reference4Ideal.Mem.halfK_apply _ _ _ _ _ _).trans ?_)
  rw [h0, h1, h2]
  exact (Kernel4Ideal.Mem.kb_apply_arr m c (i 0) (i 1)).symm

/-- At equal arguments, the values in bf16. -/
theorem vb (h0 : m' ((c.tc : Thread Reference4Ideal.nD Reference4Ideal.τ).loc Reference4Ideal.main_arg0) = m ((c.tc : Thread Kernel4Ideal.nD Kernel4Ideal.τ).loc Kernel4Ideal.main_arg0))
    (h1 : m' ((c.tc : Thread Reference4Ideal.nD Reference4Ideal.τ).loc Reference4Ideal.main_arg1) = m ((c.tc : Thread Kernel4Ideal.nD Kernel4Ideal.τ).loc Kernel4Ideal.main_arg1))
    (h2 : m' ((c.tc : Thread Reference4Ideal.nD Reference4Ideal.τ).loc Reference4Ideal.main_arg2) = m ((c.tc : Thread Kernel4Ideal.nD Kernel4Ideal.τ).loc Kernel4Ideal.main_arg2)) :
    Reference4Ideal.Mem.flatA (Reference4Ideal.Mem.halfV (Reference4Ideal.Mem.kvOf m' c)) = (Kernel4Ideal.Mem.dats m 0 c).arrAt 6 Kernel4Ideal.cfg0.N := by
  refine funext fun (i : Kernel4Ideal.S1024x1024.Idx) => ?_
  have hi : i = ix2 (i 0) (i 1) := by
    funext a
    fin_cases a <;> rfl
  rw [hi]
  refine (Reference4Ideal.Mem.flatA_apply _ (i 0) (i 1)).trans ((Reference4Ideal.Mem.halfV_apply _ _ _ _ _ _).trans ?_)
  rw [h0, h1, h2]
  exact (Kernel4Ideal.Mem.vb_apply_arr m c (i 0) (i 1)).symm

end Cert.MemEq

end
-- ==== Proof.SmpRow.lean ====
/- The sample group's parts of the layer at one sequence of four steps, in plain extended-real arithmetic: the convolutions
   read the two rows of state before the first step. -/
module

public import proofs.«01_k».proof.Proof.MixRow

@[expose] public section

noncomputable section

namespace Cert.SmpRow

open Idealize.ShloMosaic Cert.FfnRow Cert.MixRow

/-- What the mixer's convolution reads of one sequence: two rows of state, then a row for each step. -/
def padPre (x : Fin 4 → Fin 1024 → EReal) (w : Fin 1024 → EReal) (W : Fin 1024 → Fin 3072 → EReal) (S : Fin 2 → Fin 512 → EReal)
    (s : Fin 6) (n : Fin 512) : EReal :=
  if h : s.val < 2 then S ⟨s.val, h⟩ n else pre (x ⟨s.val - 2, by omega⟩) w W n

/-- The mixer's result at step `s` of one sequence. -/
def mix (x : Fin 4 → Fin 1024 → EReal) (w : Fin 1024 → EReal) (W : Fin 1024 → Fin 3072 → EReal)
    (cw : Fin 3 → Fin 512 → EReal) (cb : Fin 512 → EReal) (S : Fin 2 → Fin 512 → EReal) (s : Fin 4) (n : Fin 512) : EReal :=
  mixRow (x s) w W cb cw (padPre x w W S ⟨s.val, by omega⟩) (padPre x w W S ⟨1 + s.val, by omega⟩) (padPre x w W S ⟨2 + s.val, by omega⟩) n

/-- The new state: the last two rows of what the convolution reads. -/
def lastPre (x : Fin 4 → Fin 1024 → EReal) (w : Fin 1024 → EReal) (W : Fin 1024 → Fin 3072 → EReal) (a : Fin 2) (n : Fin 512) : EReal :=
  pre (x ⟨2 + a.val, by omega⟩) w W n

section
variable (x : Fin 4 → Fin 1024 → EReal) (w : Fin 1024 → EReal) (W : Fin 1024 → Fin 3072 → EReal)
  (cw : Fin 3 → Fin 512 → EReal) (cb : Fin 512 → EReal) (S : Fin 2 → Fin 512 → EReal) (n : Fin 512)

/-- The first step reads both rows of state. -/
theorem mix_zero : mix x w W cw cb S 0 n = mixRow (x 0) w W cb cw (S 0) (S 1) (pre (x 0) w W) n := rfl

/-- The second step reads one row of state. -/
theorem mix_one : mix x w W cw cb S 1 n = mixRow (x 1) w W cb cw (S 1) (pre (x 0) w W) (pre (x 1) w W) n := rfl

/-- The third step reads the steps alone. -/
theorem mix_two : mix x w W cw cb S 2 n = mixRow (x 2) w W cb cw (pre (x 0) w W) (pre (x 1) w W) (pre (x 2) w W) n := rfl

/-- So does the fourth. -/
theorem mix_three : mix x w W cw cb S 3 n = mixRow (x 3) w W cb cw (pre (x 1) w W) (pre (x 2) w W) (pre (x 3) w W) n := rfl
end

/-- What the feed-forward part's convolution reads of one sequence: two rows of state, then a row for each step. -/
def padUp (x : Fin 4 → Fin 1024 → EReal) (w : Fin 1024 → EReal) (W : Fin 1024 → Fin 5632 → EReal) (S : Fin 2 → Fin 5632 → EReal)
    (s : Fin 6) (n : Fin 5632) : EReal :=
  if h : s.val < 2 then S ⟨s.val, h⟩ n else up (x ⟨s.val - 2, by omega⟩) w W n

/-- The convolution at step `s` of one sequence. -/
def cv (x : Fin 4 → Fin 1024 → EReal) (w : Fin 1024 → EReal) (W : Fin 1024 → Fin 5632 → EReal)
    (cw : Fin 3 → Fin 5632 → EReal) (cb : Fin 5632 → EReal) (S : Fin 2 → Fin 5632 → EReal) (s : Fin 4) (n : Fin 5632) : EReal :=
  convRow cb cw (padUp x w W S ⟨s.val, by omega⟩) (padUp x w W S ⟨1 + s.val, by omega⟩) (padUp x w W S ⟨2 + s.val, by omega⟩) n

/-- The row before the feed-forward part: the row plus the attention's result times the matrix. -/
def joinRow (x o : Fin 1024 → EReal) (C : Fin 1024 → Fin 1024 → EReal) (k : Fin 1024) : EReal := x k + ∑ j, o j * C j k

/-- The layer's result at step `s` of one sequence, from the rows before the feed-forward part. -/
def ffn (x : Fin 4 → Fin 1024 → EReal) (w : Fin 1024 → EReal) (W : Fin 1024 → Fin 5632 → EReal)
    (cw : Fin 3 → Fin 5632 → EReal) (cb : Fin 5632 → EReal) (D : Fin 2816 → Fin 1024 → EReal) (fw : Fin 1024 → EReal)
    (S : Fin 2 → Fin 5632 → EReal) (s : Fin 4) (k : Fin 1024) : EReal :=
  unit (resRow (x s) (hidRow (cv x w W cw cb S s)) D) fw k

/-- The new state: the last two rows of what the convolution reads. -/
def lastUp (x : Fin 4 → Fin 1024 → EReal) (w : Fin 1024 → EReal) (W : Fin 1024 → Fin 5632 → EReal) (a : Fin 2) (n : Fin 5632) : EReal :=
  up (x ⟨2 + a.val, by omega⟩) w W n

section
variable (x : Fin 4 → Fin 1024 → EReal) (w : Fin 1024 → EReal) (W : Fin 1024 → Fin 5632 → EReal)
  (cw : Fin 3 → Fin 5632 → EReal) (cb : Fin 5632 → EReal) (S : Fin 2 → Fin 5632 → EReal) (n : Fin 5632)

/-- The first step's convolution reads both rows of state. -/
theorem cv_zero : cv x w W cw cb S 0 n = convRow cb cw (S 0) (S 1) (up (x 0) w W) n := rfl

/-- The second step's reads one row of state. -/
theorem cv_one : cv x w W cw cb S 1 n = convRow cb cw (S 1) (up (x 0) w W) (up (x 1) w W) n := rfl

/-- The third step's reads the steps alone. -/
theorem cv_two : cv x w W cw cb S 2 n = convRow cb cw (up (x 0) w W) (up (x 1) w W) (up (x 2) w W) n := rfl

/-- So does the fourth step's. -/
theorem cv_three : cv x w W cw cb S 3 n = convRow cb cw (up (x 1) w W) (up (x 2) w W) (up (x 3) w W) n := rfl
end

end Cert.SmpRow

end
-- ==== Proof.SmixRef.lean ====
/- The reference's four results of the sample group's mixer call, index by index, are the row arithmetic of SmpRow. -/
module

public import proofs.«01_k».proof.Proof.SmpRow
public import proofs.«01_k».proof.Proof.Gen.Reference5Ideal.Run

@[expose] public section

noncomputable section

namespace Cert.Reference5Ideal.Smix

open Cert.Reference5Ideal Cert.Reference5Ideal.Gen Idealize.ShloMosaic Idealize.ShloMosaic.TcCoe Cert.FfnRow Cert.SmpRow
open Cert.MixRow (proj pre key value mixRow)

/-- The norm over the last axis, as the reference spells it. -/
def rms (x : FVec Ideal S32x4x1024 .f32) (w : FVec Ideal S1x1024 .f32) : FVec Ideal S32x4x1024 .f32 :=
  mulf (mulf x (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf x x) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))) (broadcastInDim S32x4x1024 ![0, 1, 2] bcast_S1x1x1024_S32x4x1024_0_1_2 (broadcastInDim S1x1x1024 ![2] bcast_S1024_S1x1x1024_2 (shapeCast _ w shapeCasts_S1x1024_S1024)))

/-- The projection. -/
def projA (x : FVec Ideal S32x4x1024 .f32) (w : FVec Ideal S1x1024 .f32) (W : FVec Ideal S1x1024x3072 .f32) : FVec Ideal S32x4x3072 .f32 :=
  Host.dotGeneral dot_S32x4x1024_S1024x3072_S32x4x3072_2_0_01_1_n_n none (rms x w) (shapeCast _ W shapeCasts_S1x1024x3072_S1024x3072)

/-- What the convolution reads, with the two rows of state before each sequence. -/
def catA (z : FVec Ideal S32x4x3072 .f32) (st : FVec Ideal S1x32x2x512 .f32) : FVec Ideal S32x6x512 .f32 :=
  concatenate S32x6x512 1 [⟨S32x2x512, (shapeCast _ st shapeCasts_S1x32x2x512_S32x2x512)⟩, ⟨S32x4x512, (mulf (extractStridedSlice S32x4x512 ![0, 0, 512] z slices_S32x4x3072_S32x4x512_0_0_512) (extractStridedSlice S32x4x512 ![0, 0, 1024] z slices_S32x4x3072_S32x4x512_0_0_1024))⟩] concatenates_S32x2x512_S32x4x512_S32x6x512_d1

/-- The convolution over rows. -/
def convA (u : FVec Ideal S32x6x512 .f32) (cw : FVec Ideal S1x3x512 .f32) (cb : FVec Ideal S1x512 .f32) : FVec Ideal S32x4x512 .f32 :=
  addf (addf (addf (broadcastInDim S32x4x512 ![0, 1, 2] bcast_S1x1x512_S32x4x512_0_1_2 (broadcastInDim S1x1x512 ![2] bcast_S512_S1x1x512_2 (shapeCast _ cb shapeCasts_S1x512_S512))) (mulf (broadcastInDim S32x4x512 ![0, 1, 2] bcast_S1x1x512_S32x4x512_0_1_2 (broadcastInDim S1x1x512 ![2] bcast_S512_S1x1x512_2 (shapeCast _ (extractStridedSlice S1x512 ![0, 0] (shapeCast _ cw shapeCasts_S1x3x512_S3x512) slices_S3x512_S1x512_0_0) shapeCasts_S1x512_S512))) (extractStridedSlice S32x4x512 ![0, 0, 0] u slices_S32x6x512_S32x4x512_0_0_0))) (mulf (broadcastInDim S32x4x512 ![0, 1, 2] bcast_S1x1x512_S32x4x512_0_1_2 (broadcastInDim S1x1x512 ![2] bcast_S512_S1x1x512_2 (shapeCast _ (extractStridedSlice S1x512 ![1, 0] (shapeCast _ cw shapeCasts_S1x3x512_S3x512) slices_S3x512_S1x512_1_0) shapeCasts_S1x512_S512))) (extractStridedSlice S32x4x512 ![0, 1, 0] u slices_S32x6x512_S32x4x512_0_1_0))) (mulf (broadcastInDim S32x4x512 ![0, 1, 2] bcast_S1x1x512_S32x4x512_0_1_2 (broadcastInDim S1x1x512 ![2] bcast_S512_S1x1x512_2 (shapeCast _ (extractStridedSlice S1x512 ![2, 0] (shapeCast _ cw shapeCasts_S1x3x512_S3x512) slices_S3x512_S1x512_2_0) shapeCasts_S1x512_S512))) (extractStridedSlice S32x4x512 ![0, 2, 0] u slices_S32x6x512_S32x4x512_0_2_0))

/-- The first result: the mixer's rows. -/
def mixA (z : FVec Ideal S32x4x3072 .f32) (cw : FVec Ideal S1x3x512 .f32) (cb : FVec Ideal S1x512 .f32) (st : FVec Ideal S1x32x2x512 .f32) : FVec Ideal S128x512 .bf16 :=
  truncf .bf16 (shapeCast _ (transpose S4x32x512 [1, 0, 2] (mulf (extractStridedSlice S32x4x512 ![0, 0, 0] z slices_S32x4x3072_S32x4x512_0_0_0) (convA (catA z st) cw cb)) transposes_S32x4x512_S4x32x512_1_0_2) shapeCasts_S4x32x512_S128x512) bitsLt_bf16_f32

/-- The second result: the keys. -/
def keyA (z : FVec Ideal S32x4x3072 .f32) : FVec Ideal S128x512 .f32 :=
  shapeCast _ (transpose S4x32x512 [1, 0, 2] (extractStridedSlice S32x4x512 ![0, 0, 2048] z slices_S32x4x3072_S32x4x512_0_0_2048) transposes_S32x4x512_S4x32x512_1_0_2) shapeCasts_S4x32x512_S128x512

/-- The third result: the values. -/
def valueA (z : FVec Ideal S32x4x3072 .f32) : FVec Ideal S128x512 .f32 :=
  shapeCast _ (transpose S4x32x512 [1, 0, 2] (extractStridedSlice S32x4x512 ![0, 0, 2560] z slices_S32x4x3072_S32x4x512_0_0_2560) transposes_S32x4x512_S4x32x512_1_0_2) shapeCasts_S4x32x512_S128x512

/-- The fourth result: the new state. -/
def stateA (z : FVec Ideal S32x4x3072 .f32) (st : FVec Ideal S1x32x2x512 .f32) : FVec Ideal S2x32x512 .f32 :=
  transpose S2x32x512 [1, 0, 2] (extractStridedSlice S32x2x512 ![0, 4, 0] (catA z st) slices_S32x6x512_S32x2x512_0_4_0) transposes_S32x2x512_S2x32x512_1_0_2

/-- The projection of a memory's arguments. -/
abbrev projOf (m : (ℓ : Loc nD τ sig) → Buf (Elt Ideal) ℓ) (c : Dev nD) : FVec Ideal S32x4x3072 .f32 :=
  projA (m ((c.tc : Thread nD τ).loc main_arg0)) (m ((c.tc : Thread nD τ).loc main_arg1)) (m ((c.tc : Thread nD τ).loc main_arg2))

/-- The run with its four results by these names. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v54) = mixA (projOf m c) (m ((c.tc : Thread nD τ).loc main_arg3)) (m ((c.tc : Thread nD τ).loc main_arg4)) (m ((c.tc : Thread nD τ).loc main_arg5))
      ∧ r.2.mem ((c.tc : Thread nD τ).loc main_v56) = keyA (projOf m c)
      ∧ r.2.mem ((c.tc : Thread nD τ).loc main_v58) = valueA (projOf m c)
      ∧ r.2.mem ((c.tc : Thread nD τ).loc main_v59) = stateA (projOf m c) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.Reference5Ideal.Value.run m ρ

/-- The norm at one entry. -/
theorem rms_apply (x w i j k) : rms x w (ix3 i j k) = unit (fun k => x (ix3 i j k)) (fun k => w (ix2 0 k)) k := by
  pointwise [rms]
  rfl

/-- The projection at one entry. -/
theorem projA_apply (x w W i j n) : projA x w W (ix3 i j n)
    = proj (fun k => x (ix3 i j k)) (fun k => w (ix2 0 k)) (fun k n => W (ix3 0 k n)) n := by
  pointwise [projA]
  simp only [rms_apply]
  rfl

/-- The padded argument of the convolution at one entry. -/
theorem catA_apply (x w W st) (i : Fin 32) (j : Fin 6) (n : Fin 512) : catA (projA x w W) st (ix3 i j n)
    = padPre (fun s k => x (ix3 i s k)) (fun k => w (ix2 0 k)) (fun k n => W (ix3 0 k n)) (fun a n => st (ix4 0 i a n)) j n := by
  pointwise [catA]
  unfold padPre pre
  simp only [projA_apply]

/-- The convolution at one entry. -/
theorem convA_apply (u w b) (i : Fin 32) (j : Fin 4) (n : Fin 512) : convA u w b (ix3 i j n)
    = conv (b (ix2 0 n)) (w (ix3 0 0 n)) (w (ix3 0 1 n)) (w (ix3 0 2 n)) (u (ix3 i ⟨j.val, by omega⟩ n))
        (u (ix3 i ⟨1 + j.val, by omega⟩ n)) (u (ix3 i ⟨2 + j.val, by omega⟩ n)) := by
  pointwise [convA]
  rfl

/-- THE FIRST RESULT at row `q`, entry `n`: step `q / 32` of sequence `q % 32`. -/
theorem mixA_apply (x w W cw cb st) (q : Fin 128) (n : Fin 512) : mixA (projA x w W) cw cb st (ix2 q n)
    = mix (fun s k => x (ix3 (⟨q.val % 32, by omega⟩ : Fin 32) s k)) (fun k => w (ix2 0 k)) (fun k n => W (ix3 0 k n))
        (fun a n => cw (ix3 0 a n)) (fun n => cb (ix2 0 n)) (fun a n => st (ix4 0 (⟨q.val % 32, by omega⟩ : Fin 32) a n)) ⟨q.val / 32, by omega⟩ n := by
  pointwise [mixA]
  simp only [convA_apply, projA_apply, catA_apply]
  rfl

/-- THE SECOND RESULT. -/
theorem keyA_apply (x w W) (q : Fin 128) (n : Fin 512) : keyA (projA x w W) (ix2 q n)
    = key (fun k => x (ix3 (⟨q.val % 32, by omega⟩ : Fin 32) (⟨q.val / 32, by omega⟩ : Fin 4) k)) (fun k => w (ix2 0 k)) (fun k n => W (ix3 0 k n)) n := by
  pointwise [keyA]
  rw [projA_apply]
  rfl

/-- THE THIRD RESULT. -/
theorem valueA_apply (x w W) (q : Fin 128) (n : Fin 512) : valueA (projA x w W) (ix2 q n)
    = value (fun k => x (ix3 (⟨q.val % 32, by omega⟩ : Fin 32) (⟨q.val / 32, by omega⟩ : Fin 4) k)) (fun k => w (ix2 0 k)) (fun k n => W (ix3 0 k n)) n := by
  pointwise [valueA]
  rw [projA_apply]
  rfl

/-- THE FOURTH RESULT at row `a`, sequence `b`, entry `n`. -/
theorem stateA_apply (x w W st) (a : Fin 2) (b : Fin 32) (n : Fin 512) : stateA (projA x w W) st (ix3 a b n)
    = lastPre (fun s k => x (ix3 b s k)) (fun k => w (ix2 0 k)) (fun k n => W (ix3 0 k n)) a n := by
  pointwise [stateA]
  rw [catA_apply]
  unfold padPre lastPre
  rw [dif_neg (by dsimp only; omega)]
  congr 2
  ext
  dsimp only
  omega

end Cert.Reference5Ideal.Smix

end
-- ==== Proof.SmixTile.lean ====
/- What the sample group's mixer call's body computes, entry by entry, as the row arithmetic of SmpRow. Row `32 t + b` of a
   block is step `t` of sequence `b`. -/
module

public import proofs.«01_k».proof.Proof.SmpRow
public import proofs.«01_k».proof.Proof.Gen.Kernel5Ideal.Value
public import Idealize.ShloMosaic.Lib.Pipeline.ValueKit.Tiles

@[expose] public section

noncomputable section

namespace Cert.Kernel5Ideal.Smix

open Cert.Kernel5Ideal Cert.Kernel5Ideal.Gen Idealize.ShloMosaic Idealize.ShloMosaic.TcCoe Cert.FfnRow Cert.SmpRow
open Cert.MixRow (proj pre key value mixRow)

/-- The steps of sequence `b`. -/
abbrev tX (x0 : Vec Ideal S128x1024 .f32) (b : Fin 32) (t : Fin 4) (k : Fin 1024) : EReal := x0 (ix2 ⟨32 * t.val + b.val, by omega⟩ k)
/-- The norm's weight. -/
abbrev tN (x1 : Vec Ideal S1x1024 .f32) (k : Fin 1024) : EReal := x1 (ix2 0 k)
/-- The matrix. -/
abbrev tW (x2 : Vec Ideal S1024x3072 .f32) (k : Fin 1024) (n : Fin 3072) : EReal := x2 (ix2 k n)
/-- The convolution's weight. -/
abbrev tC (x3 : Vec Ideal S3x512 .f32) (a : Fin 3) (n : Fin 512) : EReal := x3 (ix2 a n)
/-- The convolution's bias. -/
abbrev tB (x4 : Vec Ideal S1x512 .f32) (n : Fin 512) : EReal := x4 (ix2 0 n)
/-- The two rows of state of sequence `b`. -/
def tS (x5 x6 : Vec Ideal S32x512 .f32) (b : Fin 32) (a : Fin 2) (n : Fin 512) : EReal := if a.val = 0 then x5 (ix2 b n) else x6 (ix2 b n)

/-- The mixer's entry at step `t` of sequence `b`. -/
def tileMix (x0 : Vec Ideal S128x1024 .f32) (x1 : Vec Ideal S1x1024 .f32) (x2 : Vec Ideal S1024x3072 .f32) (x3 : Vec Ideal S3x512 .f32)
    (x4 : Vec Ideal S1x512 .f32) (x5 x6 : Vec Ideal S32x512 .f32) (t : Fin 4) (b : Fin 32) (n : Fin 512) : EReal :=
  mix (tX x0 b) (tN x1) (tW x2) (tC x3) (tB x4) (tS x5 x6 b) t n

/-- The new state's entry. -/
def tileLast (x0 : Vec Ideal S128x1024 .f32) (x1 : Vec Ideal S1x1024 .f32) (x2 : Vec Ideal S1024x3072 .f32) (a : Fin 2) (b : Fin 32) (n : Fin 512) : EReal :=
  lastPre (tX x0 b) (tN x1) (tW x2) a n

theorem pay5_apply (x0 : Vec Ideal S128x1024 .f32) (x1 : Vec Ideal S1x1024 .f32) (r : Fin 128) (k : Fin 1024) :
    k0_pay5 x0 x1 (ix2 r k) = unit (fun k => x0 (ix2 r k)) (fun k => x1 (ix2 0 k)) k := by
  pointwise [k0_pay5]
  rfl

theorem pay8_apply (x0 : Vec Ideal S128x1024 .f32) (x1 : Vec Ideal S1x1024 .f32) (W W' : Vec Ideal S1024x512 .f32) (r : Fin 128) (n : Fin 512) :
    k0_pay8 x0 x1 W W' (ix2 r n) = (∑ k, unit (fun k => x0 (ix2 r k)) (fun k => x1 (ix2 0 k)) k * W (ix2 k n))
      * ∑ k, unit (fun k => x0 (ix2 r k)) (fun k => x1 (ix2 0 k)) k * W' (ix2 k n) := by
  pointwise [k0_pay8, k0_pay6, k0_pay7]
  simp only [pay5_apply]

theorem pay10_apply (x0 : Vec Ideal S128x1024 .f32) (x1 : Vec Ideal S1x1024 .f32) (W : Vec Ideal S1024x512 .f32) (r : Fin 128) (n : Fin 512) :
    k0_pay10 x0 x1 W (ix2 r n) = ∑ k, unit (fun k => x0 (ix2 r k)) (fun k => x1 (ix2 0 k)) k * W (ix2 k n) := by
  pointwise [k0_pay10, k0_pay9]
  simp only [pay5_apply]

/-- What the convolution reads of row `r`. -/
theorem pre_apply (x0 : Vec Ideal S128x1024 .f32) (x1 : Vec Ideal S1x1024 .f32) (x2 : Vec Ideal S1024x3072 .f32) (r : Fin 128) (n : Fin 512) :
    k0_pay8 x0 x1 (View.ld x2 r0_2) (View.ld x2 r0_3) (ix2 r n) = pre (fun k => x0 (ix2 r k)) (tN x1) (tW x2) n := by
  rw [pay8_apply]
  pointwise [r0_2, r0_3]
  rfl

/-- The first column of row `r`'s projection. -/
theorem gate_apply (x0 : Vec Ideal S128x1024 .f32) (x1 : Vec Ideal S1x1024 .f32) (x2 : Vec Ideal S1024x3072 .f32) (r : Fin 128) (n : Fin 512) :
    k0_pay10 x0 x1 (View.ld x2 r0_4) (ix2 r n) = proj (fun k => x0 (ix2 r k)) (tN x1) (tW x2) ⟨n.val, by omega⟩ := by
  rw [pay10_apply]
  pointwise [r0_4]
  rfl

/-- The keys of row `r`. -/
theorem pay2_apply (x0 : Vec Ideal S128x1024 .f32) (x1 : Vec Ideal S1x1024 .f32) (x2 : Vec Ideal S1024x3072 .f32) (r : Fin 128) (n : Fin 512) :
    k0_pay2 (F := Ideal) (k0_pay5 x0 x1) (View.ld x2 r0_17) (ix2 r n) = key (fun k => x0 (ix2 r k)) (tN x1) (tW x2) n := by
  pointwise [k0_pay2, k0_pay1, r0_17]
  simp only [pay5_apply]
  rfl

/-- The values of row `r`. -/
theorem pay4_apply (x0 : Vec Ideal S128x1024 .f32) (x1 : Vec Ideal S1x1024 .f32) (x2 : Vec Ideal S1024x3072 .f32) (r : Fin 128) (n : Fin 512) :
    k0_pay4 (F := Ideal) (k0_pay5 x0 x1) (View.ld x2 r0_19) (ix2 r n) = value (fun k => x0 (ix2 r k)) (tN x1) (tW x2) n := by
  pointwise [k0_pay4, k0_pay3, r0_19]
  simp only [pay5_apply]
  rfl

section
variable (U V : Vec Ideal S128x512 .f32) (s0 s1 : Vec Ideal S32x512 .f32) (w : Vec Ideal S3x512 .f32) (b : Vec Ideal S1x512 .f32) (r : Fin 32) (n : Fin 512)

theorem step0 : k0_pay22 (F := Ideal) V (k0_pay18 U s0 s1 w b) (ix2 r n) = V (ix2 ⟨r.val, by omega⟩ n)
    * conv (b (ix2 0 n)) (w (ix2 0 n)) (w (ix2 1 n)) (w (ix2 2 n)) (s0 (ix2 r n)) (s1 (ix2 r n)) (U (ix2 ⟨r.val, by omega⟩ n)) := by
  pointwise [k0_pay22, k0_pay18, k0_pay11, k0_pay12, k0_pay13, k0_pay14, k0_pay15, k0_pay16, k0_pay17]
  rfl

theorem step1 : k0_pay23 (F := Ideal) V (k0_pay19 U s1 w b) (ix2 r n) = V (ix2 ⟨32 + r.val, by omega⟩ n)
    * conv (b (ix2 0 n)) (w (ix2 0 n)) (w (ix2 1 n)) (w (ix2 2 n)) (s1 (ix2 r n)) (U (ix2 ⟨r.val, by omega⟩ n)) (U (ix2 ⟨32 + r.val, by omega⟩ n)) := by
  pointwise [k0_pay23, k0_pay19, k0_pay11, k0_pay12, k0_pay13, k0_pay14, k0_pay15, k0_pay16, k0_pay17]
  rfl

theorem step2 : k0_pay24 (F := Ideal) V (k0_pay20 U w b) (ix2 r n) = V (ix2 ⟨64 + r.val, by omega⟩ n)
    * conv (b (ix2 0 n)) (w (ix2 0 n)) (w (ix2 1 n)) (w (ix2 2 n)) (U (ix2 ⟨r.val, by omega⟩ n)) (U (ix2 ⟨32 + r.val, by omega⟩ n)) (U (ix2 ⟨64 + r.val, by omega⟩ n)) := by
  pointwise [k0_pay24, k0_pay20, k0_pay11, k0_pay12, k0_pay13, k0_pay14, k0_pay15, k0_pay16, k0_pay17]
  rfl

theorem step3 : k0_pay25 (F := Ideal) V (k0_pay14 U) (k0_pay15 U) (k0_pay16 w) (k0_pay17 b) (k0_pay21 U w) (ix2 r n) = V (ix2 ⟨96 + r.val, by omega⟩ n)
    * conv (b (ix2 0 n)) (w (ix2 0 n)) (w (ix2 1 n)) (w (ix2 2 n)) (U (ix2 ⟨32 + r.val, by omega⟩ n)) (U (ix2 ⟨64 + r.val, by omega⟩ n)) (U (ix2 ⟨96 + r.val, by omega⟩ n)) := by
  pointwise [k0_pay25, k0_pay21, k0_pay11, k0_pay12, k0_pay13, k0_pay14, k0_pay15, k0_pay16, k0_pay17]
  rfl

theorem plane0 : k0_pay26 (F := Ideal) (k0_pay14 U) (ix3 0 r n) = U (ix2 ⟨64 + r.val, by omega⟩ n) := by
  pointwise [k0_pay26, k0_pay14]

theorem plane1 : k0_pay27 (F := Ideal) (k0_pay15 U) (ix3 0 r n) = U (ix2 ⟨96 + r.val, by omega⟩ n) := by
  pointwise [k0_pay27, k0_pay15]
end

end Cert.Kernel5Ideal.Smix

end
-- ==== Proof.SmixKernel.lean ====
/- What the sample group's mixer call leaves in its result arrays, entry by entry, is the row arithmetic of SmpRow of the
   arguments. -/
module

public import proofs.«01_k».proof.Proof.SmixTile
public import Idealize.ShloMosaic.Lib.Pipeline.ValueKit.Point

@[expose] public section

noncomputable section

namespace Cert.Kernel5Ideal.Smix

open Cert.Kernel5Ideal Cert.Kernel5Ideal.Gen Cert.Kernel5Ideal.Value Idealize.ShloMosaic Idealize.ShloMosaic.TcCoe Cert.FfnRow Cert.SmpRow
open Cert.MixRow (proj pre key value mixRow)

theorem hz : (![0, 0] : Fin 2 → Nat) = fun _ => 0 := by
  funext a
  fin_cases a <;> rfl

section
variable (x0 : Vec Ideal S128x1024 .f32) (x1 : Vec Ideal S1x1024 .f32) (x2 : Vec Ideal S1024x3072 .f32) (x3 : Vec Ideal S3x512 .f32)
  (x4 : Vec Ideal S1x512 .f32) (x5 x6 : Vec Ideal S32x512 .f32)

/-- A store of the 32 rows of step `k` puts its row `r` at row `32 k + r`. -/
theorem piece_step (k : ℕ) (hk : k < 4) (P : Vec Ideal S32x512 .bf16) (inb) (g : Fin 4 → Fin 32 → Fin 512 → EReal)
    (h : ∀ (r : Fin 32) (n : Fin 512), P (ix2 r n) = g ⟨k, hk⟩ r n) (x : S32x512.Idx) :
    P x = (fun y : S128x512.Idx => g ⟨(y 0).val / 32, by have h : (y 0).val < 128 := (y 0).isLt; omega⟩ ⟨(y 0).val % 32, by omega⟩ (y 1))
      ((Rect.unit (s := S128x512) ![32 * k, 0] S32x512.size inb).emb x) := by
  have h0 : (x 0).val < 32 := (x 0).isLt
  have hx : x = ix2 (x 0) (x 1) := by
    funext a
    fin_cases a <;> rfl
  have e0 : ((Rect.unit (s := S128x512) ![32 * k, 0] S32x512.size inb).emb x 0).val = 32 * k + 1 * (x 0).val := rfl
  have e1 : ((Rect.unit (s := S128x512) ![32 * k, 0] S32x512.size inb).emb x 1) = x 1 := by
    ext
    show 0 + 1 * (x 1).val = (x 1).val
    omega
  dsimp only
  simp only [e0, e1]
  refine (congrArg P hx).trans ((h (x 0) (x 1)).trans ?_)
  congr 1
  · ext
    show k = (32 * k + 1 * (x 0).val) / 32
    omega
  · ext
    show (x 0).val = (32 * k + 1 * (x 0).val) % 32
    omega

/-- A store of plane `k` of the state. -/
theorem piece_plane (k : ℕ) (hk : k < 2) (P : Vec Ideal S1x32x512 .f32) (inb) (g : Fin 2 → Fin 32 → Fin 512 → EReal)
    (h : ∀ (r : Fin 32) (n : Fin 512), P (ix3 0 r n) = g ⟨k, hk⟩ r n) (x : S1x32x512.Idx) :
    P x = (fun y : S2x32x512.Idx => g (y 0) (y 1) (y 2)) ((Rect.unit (s := S2x32x512) ![k, 0, 0] S1x32x512.size inb).emb x) := by
  have h0 : (x 0).val < 1 := (x 0).isLt
  have hx : x = ix3 0 (x 1) (x 2) := by
    funext a
    fin_cases a
    · exact Fin.ext (by show (x 0).val = 0; omega)
    · rfl
    · rfl
  have e0 : ((Rect.unit (s := S2x32x512) ![k, 0, 0] S1x32x512.size inb).emb x 0) = (⟨k, hk⟩ : Fin 2) := by
    ext
    show k + 1 * (x 0).val = k
    omega
  have e1 : ((Rect.unit (s := S2x32x512) ![k, 0, 0] S1x32x512.size inb).emb x 1) = x 1 := by
    ext
    show 0 + 1 * (x 1).val = (x 1).val
    omega
  have e2 : ((Rect.unit (s := S2x32x512) ![k, 0, 0] S1x32x512.size inb).emb x 2) = x 2 := by
    ext
    show 0 + 1 * (x 2).val = (x 2).val
    omega
  dsimp only
  rw [e0, e1, e2]
  exact (congrArg P hx).trans (h (x 1) (x 2))

/-- The rows of the first two steps. -/
theorem tX_zero (b : Fin 32) : tX x0 b 0 = fun k => x0 (ix2 (⟨b.val, by omega⟩ : Fin 128) k) := by
  funext k
  unfold tX
  congr 2
  ext
  show 32 * 0 + b.val = b.val
  omega

theorem tX_one (b : Fin 32) : tX x0 b 1 = fun k => x0 (ix2 (⟨32 + b.val, by omega⟩ : Fin 128) k) := by
  funext k
  unfold tX
  congr 2

/-- What the body leaves of the mixer's rows. -/
theorem out7 (q : Fin 128) (n : Fin 512) : out0_7 x0 x1 x2 x3 x4 x5 x6 (ix2 q n)
    = tileMix x0 x1 x2 x3 x4 x5 x6 ⟨q.val / 32, by omega⟩ ⟨q.val % 32, by omega⟩ n := by
  unfold out0_7 k0_pay37 k0_pay36 k0_pay35 k0_pay34
  refine (View.canon_apply_of_pieces (fun y : S128x512.Idx => tileMix x0 x1 x2 x3 x4 x5 x6 ⟨(y 0).val / 32, by have h : (y 0).val < 128 := (y 0).isLt; omega⟩ ⟨(y 0).val % 32, by omega⟩ (y 1))
    _ ?_ (ix2 q n) (cover0_7 _ _ _ _ (ix2 q n))).trans rfl
  have h0 := View.ld_unit_zero (S := S128x1024) (Val := Elt Ideal) (e := .f32) hz inb_S128x1024_S128x1024_0_0 x0
  have h1 := View.ld_unit_zero (S := S1x1024) (Val := Elt Ideal) (e := .f32) hz inb_S1x1024_S1x1024_0_0 x1
  have h3 := View.ld_unit_zero (S := S3x512) (Val := Elt Ideal) (e := .f32) hz inb_S3x512_S3x512_0_0 x3
  have h4 := View.ld_unit_zero (S := S1x512) (Val := Elt Ideal) (e := .f32) hz inb_S1x512_S1x512_0_0 x4
  have h5 := View.ld_unit_zero (S := S32x512) (Val := Elt Ideal) (e := .f32) hz inb_S32x512_S32x512_0_0 x5
  have h6 := View.ld_unit_zero (S := S32x512) (Val := Elt Ideal) (e := .f32) hz inb_S32x512_S32x512_0_0 x6
  rw [h0, h1, h3, h4, h5, h6]
  intro p hp
  rcases List.mem_cons.mp hp with rfl | hp
  · refine piece_step 3 (by decide) _ inb_S128x512_S32x512_96_0 (tileMix x0 x1 x2 x3 x4 x5 x6) fun r n => ?_
    dsimp only [r0_2, r0_3, r0_4]
    rw [step3]
    simp only [gate_apply, pre_apply]
    refine Eq.trans ?_ (mix_three _ _ _ _ _ _ n).symm
    rw [mixRow]
    rfl
  rcases List.mem_cons.mp hp with rfl | hp
  · refine piece_step 2 (by decide) _ inb_S128x512_S32x512_64_0 (tileMix x0 x1 x2 x3 x4 x5 x6) fun r n => ?_
    dsimp only [r0_2, r0_3, r0_4]
    rw [step2]
    simp only [gate_apply, pre_apply]
    refine Eq.trans ?_ (mix_two _ _ _ _ _ _ n).symm
    rw [mixRow, tX_zero]
    rfl
  rcases List.mem_cons.mp hp with rfl | hp
  · refine piece_step 1 (by decide) _ inb_S128x512_S32x512_32_0 (tileMix x0 x1 x2 x3 x4 x5 x6) fun r n => ?_
    dsimp only [r0_2, r0_3, r0_4]
    rw [step1]
    simp only [gate_apply, pre_apply]
    refine Eq.trans ?_ (mix_one _ _ _ _ _ _ n).symm
    rw [mixRow, tX_zero]
    rfl
  rcases List.mem_cons.mp hp with rfl | hp
  · refine piece_step 0 (by decide) _ inb_S128x512_S32x512_0_0 (tileMix x0 x1 x2 x3 x4 x5 x6) fun r n => ?_
    dsimp only [r0_2, r0_3, r0_4]
    rw [step0]
    simp only [gate_apply, pre_apply]
    refine Eq.trans ?_ (mix_zero _ _ _ _ _ _ n).symm
    rw [mixRow, tX_zero]
    rfl
  · exact absurd hp List.not_mem_nil

/-- What the body leaves of the state. -/
theorem out11 (a : Fin 2) (b : Fin 32) (n : Fin 512) : out0_11 x0 x1 x2 x3 x4 x5 x6 (ix3 a b n) = tileLast x0 x1 x2 a b n := by
  unfold out0_11 k0_pay37 k0_pay36 k0_pay34
  refine (View.canon_apply_of_pieces (fun y : S2x32x512.Idx => tileLast x0 x1 x2 (y 0) (y 1) (y 2))
    _ ?_ (ix3 a b n) (cover0_11 _ _ (ix3 a b n))).trans rfl
  have h0 := View.ld_unit_zero (S := S128x1024) (Val := Elt Ideal) (e := .f32) hz inb_S128x1024_S128x1024_0_0 x0
  have h1 := View.ld_unit_zero (S := S1x1024) (Val := Elt Ideal) (e := .f32) hz inb_S1x1024_S1x1024_0_0 x1
  rw [h0, h1]
  intro p hp
  rcases List.mem_cons.mp hp with rfl | hp
  · refine piece_plane 1 (by decide) _ inb_S2x32x512_S1x32x512_1_0_0 (tileLast x0 x1 x2) fun r n => ?_
    dsimp only [r0_2, r0_3]
    rw [plane1, pre_apply]
    rfl
  rcases List.mem_cons.mp hp with rfl | hp
  · refine piece_plane 0 (by decide) _ inb_S2x32x512_S1x32x512_0_0_0 (tileLast x0 x1 x2) fun r n => ?_
    dsimp only [r0_2, r0_3]
    rw [plane0, pre_apply]
    rfl
  · exact absurd hp List.not_mem_nil

/-- What the body leaves of the keys. -/
theorem out9 (q : Fin 128) (n : Fin 512) : out0_9 x0 x1 x2 x3 x4 x5 x6 (ix2 q n) = key (fun k => x0 (ix2 q k)) (tN x1) (tW x2) n := by
  unfold out0_9 k0_pay33
  have h0 := View.ld_unit_zero (S := S128x1024) (Val := Elt Ideal) (e := .f32) hz inb_S128x1024_S128x1024_0_0 x0
  have h1 := View.ld_unit_zero (S := S1x1024) (Val := Elt Ideal) (e := .f32) hz inb_S1x1024_S1x1024_0_0 x1
  rw [h0, h1, View.canon_unit_zero hz, pay2_apply]

/-- What the body leaves of the values. -/
theorem out10 (q : Fin 128) (n : Fin 512) : out0_10 x0 x1 x2 x3 x4 x5 x6 (ix2 q n) = value (fun k => x0 (ix2 q k)) (tN x1) (tW x2) n := by
  unfold out0_10 k0_pay33
  have h0 := View.ld_unit_zero (S := S128x1024) (Val := Elt Ideal) (e := .f32) hz inb_S128x1024_S128x1024_0_0 x0
  have h1 := View.ld_unit_zero (S := S1x1024) (Val := Elt Ideal) (e := .f32) hz inb_S1x1024_S1x1024_0_0 x1
  rw [h0, h1, View.canon_unit_zero hz, pay4_apply]
end

variable (m : (ℓ : Loc nD τ sig) → Buf (Elt Ideal) ℓ) (c : Dev nD)

/-- Window 0 is at its whole array. -/
theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- Window 1 is at its whole array. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Window 2 is at its whole array. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Window 3 is at its whole array. -/
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Window 4 is at its whole array. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 5 is at its whole array. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 6 is at its whole array. -/
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Window 7 is at its whole array. -/
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Window 9 is at its whole array. -/
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- Window 10 is at its whole array. -/
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

/-- Window 11 is at its whole array. -/
theorem idx11 : ∀ t : Fin cfg0.N, win0_11.index t (0 : Fin 3) = 0 ∧ win0_11.index t (1 : Fin 3) = 0 ∧ win0_11.index t (2 : Fin 3) = 0 :=
  (by decide +kernel : ∀ t : Fin grid0.N, win0_11.index t (0 : Fin 3) = 0 ∧ win0_11.index t (1 : Fin 3) = 0 ∧ win0_11.index t (2 : Fin 3) = 0)

/-- Row `q` of window 0's block is step `q / 32` of sequence `q % 32`. -/
theorem blk0 (t : Fin cfg0.N) (q : Fin 128) (k : Fin 1024) :
    (iblk m c 0 t : Vec Ideal S128x1024 .f32) (ix2 q k) = m ((c : Thread nD τ).loc main_arg0) (ix3 (⟨q.val % 32, by omega⟩ : Fin 32) (⟨q.val / 32, by omega⟩ : Fin 4) k) := by
  have hi := idx0 t
  blk_ext! [iblk, V, hi]

/-- Window 1's block is argument 1. -/
theorem blk1 (t : Fin cfg0.N) (k : Fin 1024) :
    (iblk m c 1 t : Vec Ideal S1x1024 .f32) (ix2 0 k) = m ((c : Thread nD τ).loc main_arg1) (ix2 0 k) := by
  have hi := idx1 t
  blk_ext! [iblk, V, hi]

/-- Window 2's block is argument 2. -/
theorem blk2 (t : Fin cfg0.N) (k : Fin 1024) (n : Fin 3072) :
    (iblk m c 2 t : Vec Ideal S1024x3072 .f32) (ix2 k n) = m ((c : Thread nD τ).loc main_arg2) (ix3 0 k n) := by
  have hi := idx2 t
  blk_ext! [iblk, V, hi]

/-- Window 3's block is argument 3. -/
theorem blk3 (t : Fin cfg0.N) (a : Fin 3) (n : Fin 512) :
    (iblk m c 3 t : Vec Ideal S3x512 .f32) (ix2 a n) = m ((c : Thread nD τ).loc main_arg3) (ix3 0 a n) := by
  have hi := idx3 t
  blk_ext! [iblk, V, hi]

/-- Window 4's block is argument 4. -/
theorem blk4 (t : Fin cfg0.N) (n : Fin 512) :
    (iblk m c 4 t : Vec Ideal S1x512 .f32) (ix2 0 n) = m ((c : Thread nD τ).loc main_arg4) (ix2 0 n) := by
  have hi := idx4 t
  blk_ext! [iblk, V, hi]

/-- Window 5's block is the first row of state of each sequence. -/
theorem blk5 (t : Fin cfg0.N) (b : Fin 32) (n : Fin 512) :
    (iblk m c 5 t : Vec Ideal S32x512 .f32) (ix2 b n) = m ((c : Thread nD τ).loc main_arg5) (ix4 0 b 0 n) := by
  have hi := idx5 t
  blk_ext! [iblk, V, hi]

/-- Window 6's block is the second row of state of each sequence. -/
theorem blk6 (t : Fin cfg0.N) (b : Fin 32) (n : Fin 512) :
    (iblk m c 6 t : Vec Ideal S32x512 .f32) (ix2 b n) = m ((c : Thread nD τ).loc main_arg5) (ix4 0 b 1 n) := by
  have hi := idx6 t
  blk_ext! [iblk, V, hi]

/-- The arguments, as the row arithmetic takes them. -/
abbrev aX (b : Fin 32) (s : Fin 4) (k : Fin 1024) : EReal := m ((c : Thread nD τ).loc main_arg0) (ix3 b s k)
abbrev aN (k : Fin 1024) : EReal := m ((c : Thread nD τ).loc main_arg1) (ix2 0 k)
abbrev aW (k : Fin 1024) (n : Fin 3072) : EReal := m ((c : Thread nD τ).loc main_arg2) (ix3 0 k n)
abbrev aC (a : Fin 3) (n : Fin 512) : EReal := m ((c : Thread nD τ).loc main_arg3) (ix3 0 a n)
abbrev aB (n : Fin 512) : EReal := m ((c : Thread nD τ).loc main_arg4) (ix2 0 n)
abbrev aS (b : Fin 32) (a : Fin 2) (n : Fin 512) : EReal := m ((c : Thread nD τ).loc main_arg5) (ix4 0 b a n)

/-- A sequence's steps in window 0's block are those of argument 0. -/
theorem tX_eq (t : Fin cfg0.N) (b : Fin 32) : tX (iblk m c 0 t) b = aX m c b := by
  funext s k
  refine (blk0 m c t _ k).trans ?_
  show m ((c : Thread nD τ).loc main_arg0) _ = m ((c : Thread nD τ).loc main_arg0) _
  congr 2
  · ext
    show (32 * s.val + b.val) % 32 = b.val
    omega
  · ext
    show (32 * s.val + b.val) / 32 = s.val
    omega

/-- A sequence's rows of state. -/
theorem tS_eq (t : Fin cfg0.N) (b : Fin 32) : tS (iblk m c 5 t) (iblk m c 6 t) b = aS m c b := by
  funext a n
  have e5 := blk5 m c t b n
  have e6 := blk6 m c t b n
  fin_cases a
  · exact e5
  · exact e6

/-- The matrix and the small weights. -/
theorem tN_eq (t : Fin cfg0.N) : tN (iblk m c 1 t) = aN m c := funext fun k => blk1 m c t k
theorem tW_eq (t : Fin cfg0.N) : tW (iblk m c 2 t) = aW m c := funext fun k => funext fun n => blk2 m c t k n
theorem tC_eq (t : Fin cfg0.N) : tC (iblk m c 3 t) = aC m c := funext fun a => funext fun n => blk3 m c t a n
theorem tB_eq (t : Fin cfg0.N) : tB (iblk m c 4 t) = aB m c := funext fun n => blk4 m c t n

/-- THE MIXER'S ARRAY at row `q`, entry `n`. -/
theorem mix_apply_arr (q : Fin 128) (n : Fin 512) :
    ((dats m 0 c).arrAt 7 cfg0.N : S128x512.Idx → EReal) (ix2 q n)
      = mix (aX m c ⟨q.val % 32, by omega⟩) (aN m c) (aW m c) (aC m c) (aB m c) (aS m c ⟨q.val % 32, by omega⟩) ⟨q.val / 32, by omega⟩ n := by
  have hN : cfg0.N = 1 := N_0
  have ht : 0 < cfg0.N := by omega
  have hf : (cfg0.win 7).flush ⟨0, ht⟩ = true := by
    exact (by decide +kernel : ∀ t : Fin grid0.N, win0_7.flush t = true) ⟨0, ht⟩
  have hB := congrFun (blocks7 m c ⟨0, ht⟩ hf) (ix2 q n)
  rw [flushed7] at hB
  have hi := idx7 ⟨0, ht⟩
  refine Eq.trans ?_ (hB.trans ?_)
  · show (dats m 0 c).arrAt 7 cfg0.N (ix2 q n) = (dats m 0 c).arrAt 7 cfg0.N (((cfg0.win 7).blk ⟨0, ht⟩).view.emb (ix2 q n))
    congr 1
    funext a
    apply Fin.ext
    fin_cases a
    · show q.val = win0_7.index ⟨0, ht⟩ (0 : Fin 2) * 128 + 1 * q.val
      rw [hi.1]
      omega
    · show n.val = win0_7.index ⟨0, ht⟩ (1 : Fin 2) * 512 + 1 * n.val
      rw [hi.2]
      omega
  · refine (out7 _ _ _ _ _ _ _ q n).trans ?_
    unfold tileMix
    rw [tX_eq, tN_eq, tW_eq, tC_eq, tB_eq, tS_eq]

/-- THE KEYS' ARRAY at row `q`, entry `n`. -/
theorem key_apply_arr (q : Fin 128) (n : Fin 512) :
    ((dats m 0 c).arrAt 9 cfg0.N : S128x512.Idx → EReal) (ix2 q n)
      = key (aX m c ⟨q.val % 32, by omega⟩ ⟨q.val / 32, by omega⟩) (aN m c) (aW m c) n := by
  have hN : cfg0.N = 1 := N_0
  have ht : 0 < cfg0.N := by omega
  have hf : (cfg0.win 9).flush ⟨0, ht⟩ = true := by
    exact (by decide +kernel : ∀ t : Fin grid0.N, win0_9.flush t = true) ⟨0, ht⟩
  have hB := congrFun (blocks9 m c ⟨0, ht⟩ hf) (ix2 q n)
  rw [flushed9] at hB
  have hi := idx9 ⟨0, ht⟩
  refine Eq.trans ?_ (hB.trans ?_)
  · show (dats m 0 c).arrAt 9 cfg0.N (ix2 q n) = (dats m 0 c).arrAt 9 cfg0.N (((cfg0.win 9).blk ⟨0, ht⟩).view.emb (ix2 q n))
    congr 1
    funext a
    apply Fin.ext
    fin_cases a
    · show q.val = win0_9.index ⟨0, ht⟩ (0 : Fin 2) * 128 + 1 * q.val
      rw [hi.1]
      omega
    · show n.val = win0_9.index ⟨0, ht⟩ (1 : Fin 2) * 512 + 1 * n.val
      rw [hi.2]
      omega
  · have e0 : (fun k => (iblk m c 0 ⟨0, ht⟩ : Vec Ideal S128x1024 .f32) (ix2 q k)) = aX m c ⟨q.val % 32, by omega⟩ ⟨q.val / 32, by omega⟩ := funext fun k => blk0 m c ⟨0, ht⟩ q k
    refine (out9 _ _ _ _ _ _ _ q n).trans ?_
    rw [e0, tN_eq, tW_eq]

/-- THE VALUES' ARRAY at row `q`, entry `n`. -/
theorem value_apply_arr (q : Fin 128) (n : Fin 512) :
    ((dats m 0 c).arrAt 10 cfg0.N : S128x512.Idx → EReal) (ix2 q n)
      = value (aX m c ⟨q.val % 32, by omega⟩ ⟨q.val / 32, by omega⟩) (aN m c) (aW m c) n := by
  have hN : cfg0.N = 1 := N_0
  have ht : 0 < cfg0.N := by omega
  have hf : (cfg0.win 10).flush ⟨0, ht⟩ = true := by
    exact (by decide +kernel : ∀ t : Fin grid0.N, win0_10.flush t = true) ⟨0, ht⟩
  have hB := congrFun (blocks10 m c ⟨0, ht⟩ hf) (ix2 q n)
  rw [flushed10] at hB
  have hi := idx10 ⟨0, ht⟩
  refine Eq.trans ?_ (hB.trans ?_)
  · show (dats m 0 c).arrAt 10 cfg0.N (ix2 q n) = (dats m 0 c).arrAt 10 cfg0.N (((cfg0.win 10).blk ⟨0, ht⟩).view.emb (ix2 q n))
    congr 1
    funext a
    apply Fin.ext
    fin_cases a
    · show q.val = win0_10.index ⟨0, ht⟩ (0 : Fin 2) * 128 + 1 * q.val
      rw [hi.1]
      omega
    · show n.val = win0_10.index ⟨0, ht⟩ (1 : Fin 2) * 512 + 1 * n.val
      rw [hi.2]
      omega
  · have e0 : (fun k => (iblk m c 0 ⟨0, ht⟩ : Vec Ideal S128x1024 .f32) (ix2 q k)) = aX m c ⟨q.val % 32, by omega⟩ ⟨q.val / 32, by omega⟩ := funext fun k => blk0 m c ⟨0, ht⟩ q k
    refine (out10 _ _ _ _ _ _ _ q n).trans ?_
    rw [e0, tN_eq, tW_eq]

/-- THE STATE'S ARRAY at row `a`, sequence `b`, entry `n`. -/
theorem state_apply_arr (a : Fin 2) (b : Fin 32) (n : Fin 512) :
    ((dats m 0 c).arrAt 11 cfg0.N : S2x32x512.Idx → EReal) (ix3 a b n)
      = lastPre (aX m c b) (aN m c) (aW m c) a n := by
  have hN : cfg0.N = 1 := N_0
  have ht : 0 < cfg0.N := by omega
  have hf : (cfg0.win 11).flush ⟨0, ht⟩ = true := by
    exact (by decide +kernel : ∀ t : Fin grid0.N, win0_11.flush t = true) ⟨0, ht⟩
  have hB := congrFun (blocks11 m c ⟨0, ht⟩ hf) (ix3 a b n)
  rw [flushed11] at hB
  have hi := idx11 ⟨0, ht⟩
  refine Eq.trans ?_ (hB.trans ?_)
  · show (dats m 0 c).arrAt 11 cfg0.N (ix3 a b n) = (dats m 0 c).arrAt 11 cfg0.N (((cfg0.win 11).blk ⟨0, ht⟩).view.emb (ix3 a b n))
    congr 1
    funext d
    apply Fin.ext
    fin_cases d
    · show a.val = win0_11.index ⟨0, ht⟩ (0 : Fin 3) * 2 + 1 * a.val
      rw [hi.1]
      omega
    · show b.val = win0_11.index ⟨0, ht⟩ (1 : Fin 3) * 32 + 1 * b.val
      rw [hi.2.1]
      omega
    · show n.val = win0_11.index ⟨0, ht⟩ (2 : Fin 3) * 512 + 1 * n.val
      rw [hi.2.2]
      omega
  · refine (out11 _ _ _ _ _ _ _ a b n).trans ?_
    unfold tileLast
    rw [tX_eq, tN_eq, tW_eq]

end Cert.Kernel5Ideal.Smix

end
-- ==== Proof.SmixEq.lean ====
/- The sample group's mixer call's result arrays are the reference's. -/
module

public import proofs.«01_k».proof.Proof.SmixRef
public import proofs.«01_k».proof.Proof.SmixKernel

@[expose] public section

noncomputable section

namespace Cert.SmixEq

open Cert Idealize.ShloMosaic Idealize.ShloMosaic.TcCoe Cert.FfnRow Cert.SmpRow

variable (m : (ℓ : Loc Kernel5Ideal.nD Kernel5Ideal.τ Kernel5Ideal.sig) → Buf (Elt Ideal) ℓ)
  (m' : (ℓ : Loc Reference5Ideal.nD Reference5Ideal.τ Reference5Ideal.sig) → Buf (Elt Ideal) ℓ) (c : Dev Kernel5Ideal.nD)

/-- At equal arguments, the mixer's rows. -/
theorem mix (h0 : m' ((c.tc : Thread Reference5Ideal.nD Reference5Ideal.τ).loc Reference5Ideal.main_arg0) = m ((c.tc : Thread Kernel5Ideal.nD Kernel5Ideal.τ).loc Kernel5Ideal.main_arg0))
    (h1 : m' ((c.tc : Thread Reference5Ideal.nD Reference5Ideal.τ).loc Reference5Ideal.main_arg1) = m ((c.tc : Thread Kernel5Ideal.nD Kernel5Ideal.τ).loc Kernel5Ideal.main_arg1))
    (h2 : m' ((c.tc : Thread Reference5Ideal.nD Reference5Ideal.τ).loc Reference5Ideal.main_arg2) = m ((c.tc : Thread Kernel5Ideal.nD Kernel5Ideal.τ).loc Kernel5Ideal.main_arg2))
    (h3 : m' ((c.tc : Thread Reference5Ideal.nD Reference5Ideal.τ).loc Reference5Ideal.main_arg3) = m ((c.tc : Thread Kernel5Ideal.nD Kernel5Ideal.τ).loc Kernel5Ideal.main_arg3))
    (h4 : m' ((c.tc : Thread Reference5Ideal.nD Reference5Ideal.τ).loc Reference5Ideal.main_arg4) = m ((c.tc : Thread Kernel5Ideal.nD Kernel5Ideal.τ).loc Kernel5Ideal.main_arg4))
    (h5 : m' ((c.tc : Thread Reference5Ideal.nD Reference5Ideal.τ).loc Reference5Ideal.main_arg5) = m ((c.tc : Thread Kernel5Ideal.nD Kernel5Ideal.τ).loc Kernel5Ideal.main_arg5)) :
    Reference5Ideal.Smix.mixA (Reference5Ideal.Smix.projOf m' c) (m' ((c.tc : Thread Reference5Ideal.nD Reference5Ideal.τ).loc Reference5Ideal.main_arg3)) (m' ((c.tc : Thread Reference5Ideal.nD Reference5Ideal.τ).loc Reference5Ideal.main_arg4)) (m' ((c.tc : Thread Reference5Ideal.nD Reference5Ideal.τ).loc Reference5Ideal.main_arg5)) = (Kernel5Ideal.Gen.dats m 0 c).arrAt 7 Kernel5Ideal.cfg0.N := by
  refine funext fun (i : Kernel5Ideal.S128x512.Idx) => ?_
  have hi : i = ix2 (i 0) (i 1) := by
    funext a
    fin_cases a <;> rfl
  rw [hi]
  refine (Reference5Ideal.Smix.mixA_apply _ _ _ _ _ _ (i 0) (i 1)).trans ?_
  rw [h0, h1, h2, h3, h4, h5]
  exact (Kernel5Ideal.Smix.mix_apply_arr m c (i 0) (i 1)).symm

/-- At equal arguments, the keys. -/
theorem key (h0 : m' ((c.tc : Thread Reference5Ideal.nD Reference5Ideal.τ).loc Reference5Ideal.main_arg0) = m ((c.tc : Thread Kernel5Ideal.nD Kernel5Ideal.τ).loc Kernel5Ideal.main_arg0))
    (h1 : m' ((c.tc : Thread Reference5Ideal.nD Reference5Ideal.τ).loc Reference5Ideal.main_arg1) = m ((c.tc : Thread Kernel5Ideal.nD Kernel5Ideal.τ).loc Kernel5Ideal.main_arg1))
    (h2 : m' ((c.tc : Thread Reference5Ideal.nD Reference5Ideal.τ).loc Reference5Ideal.main_arg2) = m ((c.tc : Thread Kernel5Ideal.nD Kernel5Ideal.τ).loc Kernel5Ideal.main_arg2)) :
    Reference5Ideal.Smix.keyA (Reference5Ideal.Smix.projOf m' c) = (Kernel5Ideal.Gen.dats m 0 c).arrAt 9 Kernel5Ideal.cfg0.N := by
  refine funext fun (i : Kernel5Ideal.S128x512.Idx) => ?_
  have hi : i = ix2 (i 0) (i 1) := by
    funext a
    fin_cases a <;> rfl
  rw [hi]
  refine (Reference5Ideal.Smix.keyA_apply _ _ _ (i 0) (i 1)).trans ?_
  rw [h0, h1, h2]
  exact (Kernel5Ideal.Smix.key_apply_arr m c (i 0) (i 1)).symm

/-- At equal arguments, the values. -/
theorem value (h0 : m' ((c.tc : Thread Reference5Ideal.nD Reference5Ideal.τ).loc Reference5Ideal.main_arg0) = m ((c.tc : Thread Kernel5Ideal.nD Kernel5Ideal.τ).loc Kernel5Ideal.main_arg0))
    (h1 : m' ((c.tc : Thread Reference5Ideal.nD Reference5Ideal.τ).loc Reference5Ideal.main_arg1) = m ((c.tc : Thread Kernel5Ideal.nD Kernel5Ideal.τ).loc Kernel5Ideal.main_arg1))
    (h2 : m' ((c.tc : Thread Reference5Ideal.nD Reference5Ideal.τ).loc Reference5Ideal.main_arg2) = m ((c.tc : Thread Kernel5Ideal.nD Kernel5Ideal.τ).loc Kernel5Ideal.main_arg2)) :
    Reference5Ideal.Smix.valueA (Reference5Ideal.Smix.projOf m' c) = (Kernel5Ideal.Gen.dats m 0 c).arrAt 10 Kernel5Ideal.cfg0.N := by
  refine funext fun (i : Kernel5Ideal.S128x512.Idx) => ?_
  have hi : i = ix2 (i 0) (i 1) := by
    funext a
    fin_cases a <;> rfl
  rw [hi]
  refine (Reference5Ideal.Smix.valueA_apply _ _ _ (i 0) (i 1)).trans ?_
  rw [h0, h1, h2]
  exact (Kernel5Ideal.Smix.value_apply_arr m c (i 0) (i 1)).symm

/-- At equal arguments, the new state. -/
theorem state (h0 : m' ((c.tc : Thread Reference5Ideal.nD Reference5Ideal.τ).loc Reference5Ideal.main_arg0) = m ((c.tc : Thread Kernel5Ideal.nD Kernel5Ideal.τ).loc Kernel5Ideal.main_arg0))
    (h1 : m' ((c.tc : Thread Reference5Ideal.nD Reference5Ideal.τ).loc Reference5Ideal.main_arg1) = m ((c.tc : Thread Kernel5Ideal.nD Kernel5Ideal.τ).loc Kernel5Ideal.main_arg1))
    (h2 : m' ((c.tc : Thread Reference5Ideal.nD Reference5Ideal.τ).loc Reference5Ideal.main_arg2) = m ((c.tc : Thread Kernel5Ideal.nD Kernel5Ideal.τ).loc Kernel5Ideal.main_arg2)) :
    Reference5Ideal.Smix.stateA (Reference5Ideal.Smix.projOf m' c) (m' ((c.tc : Thread Reference5Ideal.nD Reference5Ideal.τ).loc Reference5Ideal.main_arg5)) = (Kernel5Ideal.Gen.dats m 0 c).arrAt 11 Kernel5Ideal.cfg0.N := by
  refine funext fun (i : Kernel5Ideal.S2x32x512.Idx) => ?_
  have hi : i = ix3 (i 0) (i 1) (i 2) := by
    funext a
    fin_cases a <;> rfl
  rw [hi]
  refine (Reference5Ideal.Smix.stateA_apply _ _ _ _ (i 0) (i 1) (i 2)).trans ?_
  rw [h0, h1, h2]
  exact (Kernel5Ideal.Smix.state_apply_arr m c (i 0) (i 1) (i 2)).symm

end Cert.SmixEq

end
-- ==== Proof.SffnRef.lean ====
/- The reference's two results of the sample group's feed-forward call, index by index, are the row arithmetic of SmpRow. -/
module

public import proofs.«01_k».proof.Proof.SmpRow
public import proofs.«01_k».proof.Proof.Gen.Reference6Ideal.Run

@[expose] public section

noncomputable section

namespace Cert.Reference6Ideal.Sffn

open Cert.Reference6Ideal Cert.Reference6Ideal.Gen Idealize.ShloMosaic Idealize.ShloMosaic.TcCoe Cert.FfnRow
open Cert.SmpRow (joinRow padUp cv lastUp)

/-- The norm over the last axis, as the reference spells it. -/
def rms (x : FVec Ideal S32x4x1024 .f32) (w : FVec Ideal S1024 .f32) : FVec Ideal S32x4x1024 .f32 :=
  mulf (mulf x (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf x x) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))) (broadcastInDim S32x4x1024 ![0, 1, 2] bcast_S1x1x1024_S32x4x1024_0_1_2 (broadcastInDim S1x1x1024 ![2] bcast_S1024_S1x1x1024_2 w))

/-- The rows before the feed-forward part. -/
def joinA (x o : FVec Ideal S32x4x1024 .f32) (C : FVec Ideal S1x1024x1024 .f32) : FVec Ideal S32x4x1024 .f32 :=
  addf x (Host.dotGeneral dot_S32x4x1024_S1024x1024_S32x4x1024_2_0_01_1_n_n none o (shapeCast _ C shapeCasts_S1x1024x1024_S1024x1024))

/-- The first product. -/
def upA (x : FVec Ideal S32x4x1024 .f32) (w : FVec Ideal S1x1024 .f32) (W : FVec Ideal S1x1024x5632 .f32) : FVec Ideal S32x4x5632 .f32 :=
  Host.dotGeneral dot_S32x4x1024_S1024x5632_S32x4x5632_2_0_01_1_n_n none (rms x (shapeCast _ w shapeCasts_S1x1024_S1024)) (shapeCast _ W shapeCasts_S1x1024x5632_S1024x5632)

/-- The first product with the two rows of state before each sequence. -/
def cat (u : FVec Ideal S32x4x5632 .f32) (st : FVec Ideal S1x32x2x5632 .f32) : FVec Ideal S32x6x5632 .f32 :=
  concatenate S32x6x5632 1 [⟨S32x2x5632, (shapeCast _ st shapeCasts_S1x32x2x5632_S32x2x5632)⟩, ⟨S32x4x5632, u⟩] concatenates_S32x2x5632_S32x4x5632_S32x6x5632_d1

/-- The convolution over rows. -/
def convA (u : FVec Ideal S32x6x5632 .f32) (cw : FVec Ideal S1x3x5632 .f32) (cb : FVec Ideal S1x5632 .f32) : FVec Ideal S32x4x5632 .f32 :=
  addf (addf (addf (broadcastInDim S32x4x5632 ![0, 1, 2] bcast_S1x1x5632_S32x4x5632_0_1_2 (broadcastInDim S1x1x5632 ![2] bcast_S5632_S1x1x5632_2 (shapeCast _ cb shapeCasts_S1x5632_S5632))) (mulf (broadcastInDim S32x4x5632 ![0, 1, 2] bcast_S1x1x5632_S32x4x5632_0_1_2 (broadcastInDim S1x1x5632 ![2] bcast_S5632_S1x1x5632_2 (shapeCast _ (extractStridedSlice S1x5632 ![0, 0] (shapeCast _ cw shapeCasts_S1x3x5632_S3x5632) slices_S3x5632_S1x5632_0_0) shapeCasts_S1x5632_S5632))) (extractStridedSlice S32x4x5632 ![0, 0, 0] u slices_S32x6x5632_S32x4x5632_0_0_0))) (mulf (broadcastInDim S32x4x5632 ![0, 1, 2] bcast_S1x1x5632_S32x4x5632_0_1_2 (broadcastInDim S1x1x5632 ![2] bcast_S5632_S1x1x5632_2 (shapeCast _ (extractStridedSlice S1x5632 ![1, 0] (shapeCast _ cw shapeCasts_S1x3x5632_S3x5632) slices_S3x5632_S1x5632_1_0) shapeCasts_S1x5632_S5632))) (extractStridedSlice S32x4x5632 ![0, 1, 0] u slices_S32x6x5632_S32x4x5632_0_1_0))) (mulf (broadcastInDim S32x4x5632 ![0, 1, 2] bcast_S1x1x5632_S32x4x5632_0_1_2 (broadcastInDim S1x1x5632 ![2] bcast_S5632_S1x1x5632_2 (shapeCast _ (extractStridedSlice S1x5632 ![2, 0] (shapeCast _ cw shapeCasts_S1x3x5632_S3x5632) slices_S3x5632_S1x5632_2_0) shapeCasts_S1x5632_S5632))) (extractStridedSlice S32x4x5632 ![0, 2, 0] u slices_S32x6x5632_S32x4x5632_0_2_0))

/-- The hidden entries. -/
def hidA (C : FVec Ideal S32x4x5632 .f32) : FVec Ideal S32x4x2816 .f32 :=
  mulf (mulf (extractStridedSlice S32x4x2816 ![0, 0, 0] C slices_S32x4x5632_S32x4x2816_0_0_0) (Host.divf (broadcastInDim S32x4x2816 ![] bcast_S_S32x4x2816 (constant S_ .f32 0x3F800000#32)) (addf (broadcastInDim S32x4x2816 ![] bcast_S_S32x4x2816 (constant S_ .f32 0x3F800000#32)) (Host.exp (Host.negf (extractStridedSlice S32x4x2816 ![0, 0, 0] C slices_S32x4x5632_S32x4x2816_0_0_0)))))) (extractStridedSlice S32x4x2816 ![0, 0, 2816] C slices_S32x4x5632_S32x4x2816_0_0_2816)

/-- The residual sum. -/
def resA (x : FVec Ideal S32x4x1024 .f32) (H : FVec Ideal S32x4x2816 .f32) (D : FVec Ideal S1x2816x1024 .f32) : FVec Ideal S32x4x1024 .f32 :=
  addf x (Host.dotGeneral dot_S32x4x2816_S2816x1024_S32x4x1024_2_0_01_1_n_n none H (shapeCast _ D shapeCasts_S1x2816x1024_S2816x1024))

/-- The new state: the last two rows of what the convolution reads. -/
def tailA (x : FVec Ideal S32x4x1024 .f32) (w : FVec Ideal S1x1024 .f32) (W : FVec Ideal S1x1024x5632 .f32) (st : FVec Ideal S1x32x2x5632 .f32) : FVec Ideal S2x32x5632 .f32 :=
  transpose S2x32x5632 [1, 0, 2] (extractStridedSlice S32x2x5632 ![0, 4, 0] (cat (upA x w W) st) slices_S32x6x5632_S32x2x5632_0_4_0) transposes_S32x2x5632_S2x32x5632_1_0_2

/-- The whole first result. -/
def outA (x : FVec Ideal S32x4x1024 .f32) (w : FVec Ideal S1x1024 .f32) (W : FVec Ideal S1x1024x5632 .f32) (cw : FVec Ideal S1x3x5632 .f32) (cb : FVec Ideal S1x5632 .f32) (D : FVec Ideal S1x2816x1024 .f32) (fw : FVec Ideal S1024 .f32) (st : FVec Ideal S1x32x2x5632 .f32) : FVec Ideal S128x1024 .f32 :=
  shapeCast _ (transpose S4x32x1024 [1, 0, 2] (rms (resA x (hidA (convA (cat (upA x w W) st) cw cb)) D) fw) transposes_S32x4x1024_S4x32x1024_1_0_2) shapeCasts_S4x32x1024_S128x1024

/-- The rows before the feed-forward part of a memory's arguments. -/
abbrev joinOf (m : (ℓ : Loc nD τ sig) → Buf (Elt Ideal) ℓ) (c : Dev nD) : FVec Ideal S32x4x1024 .f32 :=
  joinA (m ((c.tc : Thread nD τ).loc main_arg0)) (m ((c.tc : Thread nD τ).loc main_arg1)) (m ((c.tc : Thread nD τ).loc main_arg2))

/-- The run's first result is `outA` of the arguments. -/
theorem res_eq (m : (ℓ : Loc nD τ sig) → Buf (Elt Ideal) ℓ) (c : Dev nD) :
    Cert.Reference6Ideal.Value.res_main_v68 m c = outA (joinOf m c) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

/-- The joined row at one entry. -/
theorem joinA_apply (x o C i j k) : joinA x o C (ix3 i j k) = joinRow (fun k => x (ix3 i j k)) (fun k => o (ix3 i j k)) (fun j k => C (ix3 0 j k)) k := by
  pointwise [joinA]
  rfl

/-- The norm at one entry. -/
theorem rms_apply (x w i j k) : rms x w (ix3 i j k) = unit (fun k => x (ix3 i j k)) (fun k => w (ix1 k)) k := by
  pointwise [rms]
  rfl

/-- The first product at one entry. -/
theorem upA_apply (x w W i j n) : upA x w W (ix3 i j n)
    = up (fun k => x (ix3 i j k)) (fun k => w (ix2 0 k)) (fun k n => W (ix3 0 k n)) n := by
  pointwise [upA]
  simp only [rms_apply]
  unfold up
  refine Finset.sum_congr rfl fun k _ => ?_
  congr 2
  funext k
  pointwise []

/-- The padded first product at one entry. -/
theorem cat_apply (x w W st) (i : Fin 32) (j : Fin 6) (n : Fin 5632) : cat (upA x w W) st (ix3 i j n)
    = padUp (fun s k => x (ix3 i s k)) (fun k => w (ix2 0 k)) (fun k n => W (ix3 0 k n)) (fun a n => st (ix4 0 i a n)) j n := by
  pointwise [cat]
  unfold padUp
  simp only [upA_apply]

/-- The convolution at one entry. -/
theorem convA_apply (u w b) (i : Fin 32) (j : Fin 4) (n : Fin 5632) : convA u w b (ix3 i j n)
    = convRow (fun n => b (ix2 0 n)) (fun a n => w (ix3 0 a n)) (fun n => u (ix3 i ⟨j.val, by omega⟩ n))
        (fun n => u (ix3 i ⟨1 + j.val, by omega⟩ n)) (fun n => u (ix3 i ⟨2 + j.val, by omega⟩ n)) n := by
  pointwise [convA]
  rfl

/-- The hidden entry. -/
theorem hidA_apply (u) (i : Fin 32) (j : Fin 4) (n : Fin 2816) : hidA u (ix3 i j n) = hidRow (fun n => u (ix3 i j n)) n := by
  pointwise [hidA]
  unfold hidRow gate
  simp only [zero_sub]

/-- The residual sum at one entry. -/
theorem resA_apply (u h w) (i : Fin 32) (j : Fin 4) (k : Fin 1024) : resA u h w (ix3 i j k)
    = resRow (fun k => u (ix3 i j k)) (fun n => h (ix3 i j n)) (fun n k => w (ix3 0 n k)) k := by
  pointwise [resA]
  rfl

/-- THE FIRST RESULT at row `q`, entry `k`: step `q / 32` of sequence `q % 32`. -/
theorem outA_apply (x w W cw cb D fw st) (q : Fin 128) (k : Fin 1024) : outA x w W cw cb D fw st (ix2 q k)
    = SmpRow.ffn (fun s k => x (ix3 (⟨q.val % 32, by omega⟩ : Fin 32) s k)) (fun k => w (ix2 0 k)) (fun k n => W (ix3 0 k n))
        (fun a n => cw (ix3 0 a n)) (fun n => cb (ix2 0 n)) (fun n k => D (ix3 0 n k)) (fun k => fw (ix1 k))
        (fun a n => st (ix4 0 (⟨q.val % 32, by omega⟩ : Fin 32) a n)) ⟨q.val / 32, by omega⟩ k := by
  pointwise [outA]
  simp only [rms_apply, resA_apply, hidA_apply, convA_apply, cat_apply]
  rfl

/-- THE SECOND RESULT at row `a`, sequence `b`, column `n`. -/
theorem tailA_apply (x w W st) (a : Fin 2) (b : Fin 32) (n : Fin 5632) : tailA x w W st (ix3 a b n)
    = lastUp (fun s k => x (ix3 b s k)) (fun k => w (ix2 0 k)) (fun k n => W (ix3 0 k n)) a n := by
  pointwise [tailA]
  rw [cat_apply]
  unfold padUp lastUp
  rw [dif_neg (by dsimp only; omega)]
  congr 2
  ext
  dsimp only
  omega

end Cert.Reference6Ideal.Sffn

end
-- ==== Proof.SffnTile.lean ====
/- What the sample group's feed-forward call's body computes, entry by entry, as the row arithmetic of SmpRow. Row `32 t + b`
   of a block is step `t` of sequence `b`. -/
module

public import proofs.«01_k».proof.Proof.SmpRow
public import proofs.«01_k».proof.Proof.Gen.Kernel6Ideal.Frame
public import Idealize.ShloMosaic.Lib.Pipeline.ValueKit.Tiles

@[expose] public section

noncomputable section

namespace Cert.Kernel6Ideal.Sffn

open Cert.Kernel6Ideal Cert.Kernel6Ideal.Gen Idealize.ShloMosaic Idealize.ShloMosaic.TcCoe Cert.FfnRow Cert.SmpRow

theorem hz : (![0, 0] : Fin 2 → Nat) = fun _ => 0 := by
  funext a
  fin_cases a <;> rfl

/-- Row `r` of a block before the feed-forward part. -/
def tRow (x0 : Vec Ideal S128x1024 .f32) (x1 : Vec Ideal S128x1024 .bf16) (x2 : Vec Ideal S1024x1024 .f32) (r : Fin 128) : Fin 1024 → EReal :=
  joinRow (fun k => x0 (ix2 r k)) (fun k => x1 (ix2 r k)) (fun j k => x2 (ix2 j k))

/-- The first products of row `r`. -/
def tUp (x0 : Vec Ideal S128x1024 .f32) (x1 : Vec Ideal S128x1024 .bf16) (x2 : Vec Ideal S1024x1024 .f32) (x3 : Vec Ideal S1x1024 .f32)
    (x4 : Vec Ideal S1024x5632 .bf16) (r : Fin 128) : Fin 5632 → EReal :=
  up (tRow x0 x1 x2 r) (fun k => x3 (ix2 0 k)) (fun k n => x4 (ix2 k n))

/-- The two rows of state of sequence `b`. -/
def tS (x9 x10 : Vec Ideal S32x5632 .f32) (b : Fin 32) (a : Fin 2) (n : Fin 5632) : EReal := if a.val = 0 then x9 (ix2 b n) else x10 (ix2 b n)

/-- The convolution at step `t` of sequence `b`. -/
def tileCv (x0 : Vec Ideal S128x1024 .f32) (x1 : Vec Ideal S128x1024 .bf16) (x2 : Vec Ideal S1024x1024 .f32) (x3 : Vec Ideal S1x1024 .f32)
    (x4 : Vec Ideal S1024x5632 .bf16) (x5 : Vec Ideal S3x5632 .f32) (x6 : Vec Ideal S1x5632 .f32) (x9 x10 : Vec Ideal S32x5632 .f32)
    (t : Fin 4) (b : Fin 32) (n : Fin 5632) : EReal :=
  cv (fun t => tRow x0 x1 x2 ⟨32 * t.val + b.val, by omega⟩) (fun k => x3 (ix2 0 k)) (fun k n => x4 (ix2 k n))
    (fun a n => x5 (ix2 a n)) (fun n => x6 (ix2 0 n)) (tS x9 x10 b) t n

/-- The new state's entry. -/
def tileLast (x0 : Vec Ideal S128x1024 .f32) (x1 : Vec Ideal S128x1024 .bf16) (x2 : Vec Ideal S1024x1024 .f32) (x3 : Vec Ideal S1x1024 .f32)
    (x4 : Vec Ideal S1024x5632 .bf16) (a : Fin 2) (b : Fin 32) (n : Fin 5632) : EReal :=
  lastUp (fun t => tRow x0 x1 x2 ⟨32 * t.val + b.val, by omega⟩) (fun k => x3 (ix2 0 k)) (fun k n => x4 (ix2 k n)) a n

theorem pay4_apply (x0 : Vec Ideal S128x1024 .f32) (x1 : Vec Ideal S128x1024 .bf16) (x2 : Vec Ideal S1024x1024 .f32) (r : Fin 128) (k : Fin 1024) :
    k0_pay4 (F := Ideal) x0 x1 (k0_pay3 x2) (ix2 r k) = tRow x0 x1 x2 r k := by
  pointwise [k0_pay4, k0_pay3]
  rfl

theorem pay5_apply (x0 : Vec Ideal S128x1024 .f32) (x1 : Vec Ideal S128x1024 .bf16) (x2 : Vec Ideal S1024x1024 .f32) (x3 : Vec Ideal S1x1024 .f32) (r : Fin 128) (k : Fin 1024) :
    k0_pay5 (F := Ideal) x0 x1 (k0_pay3 x2) x3 (ix2 r k) = unit (tRow x0 x1 x2 r) (fun k => x3 (ix2 0 k)) k := by
  pointwise [k0_pay5]
  simp only [pay4_apply]
  rfl

/-- The left half of row `r`'s first products. -/
theorem left_apply (x0 : Vec Ideal S128x1024 .f32) (x1 : Vec Ideal S128x1024 .bf16) (x2 : Vec Ideal S1024x1024 .f32) (x3 : Vec Ideal S1x1024 .f32)
    (x4 : Vec Ideal S1024x5632 .bf16) (r : Fin 128) (n : Fin 2816) :
    k0_pay6 (F := Ideal) x0 x1 (k0_pay3 x2) x3 (View.ld x4 (Rect.unit ![0, 0] ![1024, 2816] inb_S1024x5632_S1024x2816_0_0)) (ix2 r n)
      = tUp x0 x1 x2 x3 x4 r ⟨n.val, by omega⟩ := by
  pointwise [k0_pay6]
  simp only [pay5_apply]
  rfl

/-- The right half of row `r`'s first products. -/
theorem right_apply (x0 : Vec Ideal S128x1024 .f32) (x1 : Vec Ideal S128x1024 .bf16) (x2 : Vec Ideal S1024x1024 .f32) (x3 : Vec Ideal S1x1024 .f32)
    (x4 : Vec Ideal S1024x5632 .bf16) (r : Fin 128) (n : Fin 2816) :
    k0_pay23 (F := Ideal) (k0_pay5 x0 x1 (k0_pay3 x2) x3) (View.ld x4 (Rect.unit ![0, 2816] ![1024, 2816] inb_S1024x5632_S1024x2816_0_2816)) (ix2 r n)
      = tUp x0 x1 x2 x3 x4 r ⟨2816 + n.val, by omega⟩ := by
  pointwise [k0_pay23]
  simp only [pay5_apply]
  rfl

section
variable (a : Vec Ideal S128x1024 .f32) (o : Vec Ideal S128x1024 .bf16) (C : Vec Ideal S1024x1024 .bf16) (nw : Vec Ideal S1x1024 .f32) (N : Vec Ideal S128x1024 .bf16)
  (W W' : Vec Ideal S1024x2816 .bf16) (s0 s1 t0 t1 : Vec Ideal S32x2816 .f32) (w w' : Vec Ideal S3x2816 .f32) (b b' : Vec Ideal S1x2816 .f32) (r : Fin 32) (n : Fin 2816)

theorem step0 : k0_pay39 (F := Ideal) (k0_pay38 (k0_pay17 (k0_pay7 s0) (k0_pay8 s1) (k0_pay9 a o C nw W) w b) (k0_pay24 t1) (k0_pay25 N W') (k0_pay31 w') (k0_pay33 t0 w') (k0_pay34 b')) (ix2 r n)
    = gate (conv (b (ix2 0 n)) (w (ix2 0 n)) (w (ix2 1 n)) (w (ix2 2 n)) (s0 (ix2 r n)) (s1 (ix2 r n)) (k0_pay6 a o C nw W (ix2 ⟨r.val, by omega⟩ n)))
        (conv (b' (ix2 0 n)) (w' (ix2 0 n)) (w' (ix2 1 n)) (w' (ix2 2 n)) (t0 (ix2 r n)) (t1 (ix2 r n)) (k0_pay23 N W' (ix2 ⟨r.val, by omega⟩ n))) := by
  pointwise [k0_pay39, k0_pay38, k0_pay17, k0_pay7, k0_pay8, k0_pay9, k0_pay15, k0_pay16, k0_pay24, k0_pay25, k0_pay31, k0_pay32, k0_pay33, k0_pay34]
  rfl

theorem step1 : k0_pay40 (F := Ideal) (k0_pay18 (k0_pay8 s1) (k0_pay9 a o C nw W) (k0_pay10 a o C nw W) w b) (k0_pay35 (k0_pay24 t1) (k0_pay25 N W') (k0_pay26 N W') (k0_pay31 w') (k0_pay32 b')) (ix2 r n)
    = gate (conv (b (ix2 0 n)) (w (ix2 0 n)) (w (ix2 1 n)) (w (ix2 2 n)) (s1 (ix2 r n)) (k0_pay6 a o C nw W (ix2 ⟨r.val, by omega⟩ n)) (k0_pay6 a o C nw W (ix2 ⟨32 + r.val, by omega⟩ n)))
        (conv (b' (ix2 0 n)) (w' (ix2 0 n)) (w' (ix2 1 n)) (w' (ix2 2 n)) (t1 (ix2 r n)) (k0_pay23 N W' (ix2 ⟨r.val, by omega⟩ n)) (k0_pay23 N W' (ix2 ⟨32 + r.val, by omega⟩ n))) := by
  pointwise [k0_pay40, k0_pay18, k0_pay8, k0_pay9, k0_pay10, k0_pay15, k0_pay16, k0_pay24, k0_pay25, k0_pay26, k0_pay31, k0_pay32, k0_pay35]
  rfl

theorem step2 : k0_pay41 (F := Ideal) (k0_pay21 (k0_pay11 (k0_pay6 a o C nw W)) (k0_pay19 (k0_pay9 a o C nw W) (k0_pay10 a o C nw W) w b) (k0_pay20 w)) (k0_pay36 (k0_pay25 N W') (k0_pay26 N W') (k0_pay27 N W') (k0_pay31 w') (k0_pay32 b')) (ix2 r n)
    = gate (conv (b (ix2 0 n)) (w (ix2 0 n)) (w (ix2 1 n)) (w (ix2 2 n)) (k0_pay6 a o C nw W (ix2 ⟨r.val, by omega⟩ n)) (k0_pay6 a o C nw W (ix2 ⟨32 + r.val, by omega⟩ n)) (k0_pay6 a o C nw W (ix2 ⟨64 + r.val, by omega⟩ n)))
        (conv (b' (ix2 0 n)) (w' (ix2 0 n)) (w' (ix2 1 n)) (w' (ix2 2 n)) (k0_pay23 N W' (ix2 ⟨r.val, by omega⟩ n)) (k0_pay23 N W' (ix2 ⟨32 + r.val, by omega⟩ n)) (k0_pay23 N W' (ix2 ⟨64 + r.val, by omega⟩ n))) := by
  pointwise [k0_pay41, k0_pay21, k0_pay19, k0_pay20, k0_pay9, k0_pay10, k0_pay11, k0_pay15, k0_pay16, k0_pay25, k0_pay26, k0_pay27, k0_pay31, k0_pay32, k0_pay36]
  rfl

theorem step3 : k0_pay1 (F := Ideal) (k0_pay42 (k0_pay22 (k0_pay10 a o C nw W) (k0_pay11 (k0_pay6 a o C nw W)) (k0_pay12 (k0_pay6 a o C nw W)) (k0_pay15 w) (k0_pay16 b)) (k0_pay37 (k0_pay26 N W') (k0_pay27 N W') (k0_pay28 N W') (k0_pay31 w') (k0_pay32 b'))) (ix2 r n)
    = gate (conv (b (ix2 0 n)) (w (ix2 0 n)) (w (ix2 1 n)) (w (ix2 2 n)) (k0_pay6 a o C nw W (ix2 ⟨32 + r.val, by omega⟩ n)) (k0_pay6 a o C nw W (ix2 ⟨64 + r.val, by omega⟩ n)) (k0_pay6 a o C nw W (ix2 ⟨96 + r.val, by omega⟩ n)))
        (conv (b' (ix2 0 n)) (w' (ix2 0 n)) (w' (ix2 1 n)) (w' (ix2 2 n)) (k0_pay23 N W' (ix2 ⟨32 + r.val, by omega⟩ n)) (k0_pay23 N W' (ix2 ⟨64 + r.val, by omega⟩ n)) (k0_pay23 N W' (ix2 ⟨96 + r.val, by omega⟩ n))) := by
  pointwise [k0_pay1, k0_pay42, k0_pay22, k0_pay10, k0_pay11, k0_pay12, k0_pay15, k0_pay16, k0_pay26, k0_pay27, k0_pay28, k0_pay31, k0_pay32, k0_pay37]
  rfl

theorem plane00 (U : Vec Ideal S128x2816 .f32) : k0_pay13 (F := Ideal) U (ix3 0 r n) = U (ix2 ⟨64 + r.val, by omega⟩ n) := by
  pointwise [k0_pay13, k0_pay11]

theorem plane10 (U : Vec Ideal S128x2816 .f32) : k0_pay14 (F := Ideal) U (ix3 0 r n) = U (ix2 ⟨96 + r.val, by omega⟩ n) := by
  pointwise [k0_pay14, k0_pay12]

theorem plane01 : k0_pay29 (F := Ideal) N W' (ix3 0 r n) = k0_pay23 N W' (ix2 ⟨64 + r.val, by omega⟩ n) := by
  pointwise [k0_pay29, k0_pay27]

theorem plane11 : k0_pay30 (F := Ideal) N W' (ix3 0 r n) = k0_pay23 N W' (ix2 ⟨96 + r.val, by omega⟩ n) := by
  pointwise [k0_pay30, k0_pay28]

theorem pay2_apply (X : Vec Ideal S128x1024 .f32) (H : Vec Ideal S128x2816 .bf16) (D : Vec Ideal S2816x1024 .bf16) (fw : Vec Ideal S1x1024 .f32) (q : Fin 128) (k : Fin 1024) :
    k0_pay2 (F := Ideal) X H D fw (ix2 q k)
      = unit (resRow (fun k => X (ix2 q k)) (fun n => H (ix2 q n)) (fun n k => D (ix2 n k))) (fun k => fw (ix2 0 k)) k := by
  pointwise [k0_pay2]
  rfl
end

end Cert.Kernel6Ideal.Sffn

end
-- ==== Proof.SffnKernel.lean ====
/- What the sample group's feed-forward call leaves of its rows and of the new state, as functions of the arguments. -/
module

public import proofs.«01_k».proof.Proof.SffnTile
public import proofs.«01_k».proof.Proof.Gen.Kernel6Ideal.Value
public import Idealize.ShloMosaic.Lib.Pipeline.ValueKit.Point
public import Idealize.ShloMosaic.Lib.WritesUnit

@[expose] public section

noncomputable section

namespace Cert.Kernel6Ideal.Sffn

open Cert.Kernel6Ideal Cert.Kernel6Ideal.Gen Cert.Kernel6Ideal.Value Idealize.ShloMosaic Idealize.ShloMosaic.TcCoe Cert.FfnRow Cert.SmpRow

/-- A store of the 32 rows of step `k` puts its row `r` at row `32 k + r`. -/
theorem piece_rows (k : ℕ) (hk : k < 4) (P : Vec Ideal S32x2816 .bf16) (inb) (g : Fin 4 → Fin 32 → Fin 2816 → EReal)
    (h : ∀ (r : Fin 32) (n : Fin 2816), P (ix2 r n) = g ⟨k, hk⟩ r n) (x : S32x2816.Idx) :
    P x = (fun y : S128x2816.Idx => g ⟨(y 0).val / 32, by have h : (y 0).val < 128 := (y 0).isLt; omega⟩ ⟨(y 0).val % 32, by omega⟩ (y 1))
      ((Rect.unit (s := S128x2816) ![32 * k, 0] S32x2816.size inb).emb x) := by
  have h0 : (x 0).val < 32 := (x 0).isLt
  have hx : x = ix2 (x 0) (x 1) := by
    funext a
    fin_cases a <;> rfl
  have e0 : ((Rect.unit (s := S128x2816) ![32 * k, 0] S32x2816.size inb).emb x 0).val = 32 * k + 1 * (x 0).val := rfl
  have e1 : ((Rect.unit (s := S128x2816) ![32 * k, 0] S32x2816.size inb).emb x 1) = x 1 := by
    ext
    show 0 + 1 * (x 1).val = (x 1).val
    omega
  dsimp only
  simp only [e0, e1]
  refine (congrArg P hx).trans ((h (x 0) (x 1)).trans ?_)
  congr 1
  · ext
    show k = (32 * k + 1 * (x 0).val) / 32
    omega
  · ext
    show (x 0).val = (32 * k + 1 * (x 0).val) % 32
    omega

/-- The hidden rows, stored step by step, read back whole. -/
theorem four_rows (v : View sig .tc .vmem S128x2816 .bf16) (P0 P1 P2 P3 : Vec Ideal S32x2816 .bf16) (ii) (g : Fin 4 → Fin 32 → Fin 2816 → EReal)
    (h0 : ∀ (r : Fin 32) (n : Fin 2816), P0 (ix2 r n) = g 0 r n) (h1 : ∀ (r : Fin 32) (n : Fin 2816), P1 (ix2 r n) = g 1 r n)
    (h2 : ∀ (r : Fin 32) (n : Fin 2816), P2 (ix2 r n) = g 2 r n) (h3 : ∀ (r : Fin 32) (n : Fin 2816), P3 (ix2 r n) = g 3 r n) (q : Fin 128) (n : Fin 2816) :
    v.readCov [(⟨Rect.unit ![96, 0] ![32, 2816] inb_S128x2816_S32x2816_96_0, P3⟩ : View.Piece (Elt Ideal) S128x2816 .bf16), ⟨Rect.unit ![64, 0] ![32, 2816] inb_S128x2816_S32x2816_64_0, P2⟩, ⟨Rect.unit ![32, 0] ![32, 2816] inb_S128x2816_S32x2816_32_0, P1⟩, ⟨Rect.unit ![0, 0] ![32, 2816] inb_S128x2816_S32x2816_0_0, P0⟩]
      (Rect.unit (s := S128x2816) ![0, 0] ![128, 2816] ii).toLoadRect (ix2 q n) = g ⟨q.val / 32, by omega⟩ ⟨q.val % 32, by omega⟩ n := by
  rw [View.readCov_eq_canon']
  dsimp only
  have e : (Rect.unit (s := S128x2816) ![0, 0] S128x2816.size ii).toLoadRect.idx (ix2 q n) = (ix2 q n : S128x2816.Idx) := by
    funext a
    apply Fin.ext
    fin_cases a
    · show 0 + 1 * q.val = q.val; omega
    · show 0 + 1 * n.val = n.val; omega
  rw [e]
  refine (View.canon_apply_of_pieces (fun y : S128x2816.Idx => g ⟨(y 0).val / 32, by have h : (y 0).val < 128 := (y 0).isLt; omega⟩ ⟨(y 0).val % 32, by omega⟩ (y 1))
    _ ?_ (ix2 q n) ?_).trans rfl
  rotate_left
  · refine View.cover_of_tiled _ (![32, 2816] : Fin 2 → ℕ) ?_ _
    rfl
  intro p hp
  rcases List.mem_cons.mp hp with rfl | hp
  · exact piece_rows 3 (by decide) _ inb_S128x2816_S32x2816_96_0 g h3
  rcases List.mem_cons.mp hp with rfl | hp
  · exact piece_rows 2 (by decide) _ inb_S128x2816_S32x2816_64_0 g h2
  rcases List.mem_cons.mp hp with rfl | hp
  · exact piece_rows 1 (by decide) _ inb_S128x2816_S32x2816_32_0 g h1
  rcases List.mem_cons.mp hp with rfl | hp
  · exact piece_rows 0 (by decide) _ inb_S128x2816_S32x2816_0_0 g h0
  · exact absurd hp List.not_mem_nil

/-- A whole array stored and read back. -/
theorem whole_back (v : View sig .tc .vmem S1024x1024 .bf16) (P : Vec Ideal S1024x1024 .bf16) (i ii) :
    v.readCov [(⟨Rect.unit ![0, 0] ![1024, 1024] i, P⟩ : View.Piece (Elt Ideal) S1024x1024 .bf16)] (Rect.unit (s := S1024x1024) ![0, 0] ![1024, 1024] ii).toLoadRect = P := by
  funext y
  rw [View.readCov_eq_canon']
  dsimp only
  rw [View.canon_unit_zero hz]
  congr 1
  funext a
  apply Fin.ext
  fin_cases a
  · show 0 + 1 * (y 0).val = (y 0).val; omega
  · show 0 + 1 * (y 1).val = (y 1).val; omega

/-- A store of half a plane of the state. -/
theorem piece_half (k : ℕ) (hk : k < 2) (o : ℕ) (ho : o + 2816 ≤ 5632) (P : Vec Ideal S1x32x2816 .f32) (inb) (g : Fin 2 → Fin 32 → Fin 5632 → EReal)
    (h : ∀ (r : Fin 32) (n : Fin 2816), P (ix3 0 r n) = g ⟨k, hk⟩ r ⟨o + n.val, by omega⟩) (x : S1x32x2816.Idx) :
    P x = (fun y : S2x32x5632.Idx => g (y 0) (y 1) (y 2)) ((Rect.unit (s := S2x32x5632) ![k, 0, o] S1x32x2816.size inb).emb x) := by
  have h0 : (x 0).val < 1 := (x 0).isLt
  have h2 : (x 2).val < 2816 := (x 2).isLt
  have hx : x = ix3 0 (x 1) (x 2) := by
    funext a
    fin_cases a
    · exact Fin.ext (by show (x 0).val = 0; omega)
    · rfl
    · rfl
  have e0 : ((Rect.unit (s := S2x32x5632) ![k, 0, o] S1x32x2816.size inb).emb x 0) = (⟨k, hk⟩ : Fin 2) := by
    ext
    show k + 1 * (x 0).val = k
    omega
  have e1 : ((Rect.unit (s := S2x32x5632) ![k, 0, o] S1x32x2816.size inb).emb x 1) = x 1 := by
    ext
    show 0 + 1 * (x 1).val = (x 1).val
    omega
  have e2 : ((Rect.unit (s := S2x32x5632) ![k, 0, o] S1x32x2816.size inb).emb x 2) = (⟨o + (x 2).val, by omega⟩ : Fin 5632) := by
    ext
    show o + 1 * (x 2).val = o + (x 2).val
    omega
  dsimp only
  rw [e0, e1, e2]
  exact (congrArg P hx).trans (h (x 1) (x 2))

/-- What the body leaves of the rows. -/
theorem out11 (c : Dev nD) (arg0 : Memref sig .tc .vmem S128x1024 .f32) (harg0 : arg0.IsWhole) (arg1 : Memref sig .tc .vmem S128x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S32x5632 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S2x32x5632 .f32) (harg12 : arg12.IsWhole) (arg13 : Memref sig .tc .vmem S1024x1024 .bf16) (harg13 : arg13.IsWhole) (arg14 : Memref sig .tc .vmem S128x2816 .bf16) (harg14 : arg14.IsWhole)
    (x0 : Vec Ideal S128x1024 .f32) (x1 : Vec Ideal S128x1024 .bf16) (x2 : Vec Ideal S1024x1024 .f32) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32) (x9 : Vec Ideal S32x5632 .f32) (x10 : Vec Ideal S32x5632 .f32) (q : Fin 128) (k : Fin 1024) :
    out0_A_11 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 (ix2 q k)
      = unit (resRow (tRow x0 x1 x2 q) (hidRow (tileCv x0 x1 x2 x3 x4 x5 x6 x9 x10 ⟨q.val / 32, by omega⟩ ⟨q.val % 32, by omega⟩)) (fun n k => x7 (ix2 n k))) (fun k => x8 (ix2 0 k)) k := by
  unfold out0_A_11
  rw [View.read_writes_eq_canon _ _ _ (cover0_A_11 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)]
  unfold kernelRun0_A
  dsimp only
  sl_unfold_words
  simp only [View.readAt_eq_ld, harg0.read_unread, harg1.read_unread, harg2.read_unread, harg3.read_unread, harg4.read_unread, harg5.read_unread, harg6.read_unread, harg7.read_unread, harg8.read_unread, harg9.read_unread, harg10.read_unread, View.ld_unit_zero (S := S128x1024) hz, View.ld_unit_zero (S := S1024x1024) hz, View.ld_unit_zero (S := S1x1024) hz, View.ld_unit_zero (S := S2816x1024) hz, whole_back]
  rw [View.canon_unit_zero hz, pay2_apply]
  simp only [pay4_apply]
  congr 2
  funext n
  refine four_rows arg14.view _ _ _ _ _ (fun t b n => hidRow (tileCv x0 x1 x2 x3 x4 x5 x6 x9 x10 t b) n) ?_ ?_ ?_ ?_ q n
  · intro r n
    rw [step0]
    simp only [left_apply, right_apply]
    pointwise []
    unfold hidRow tileCv
    rw [cv_zero, cv_zero]
    have e : (⟨32 * (0 : Fin 4).val + r.val, by show 32 * 0 + r.val < 128; omega⟩ : Fin 128) = ⟨r.val, by omega⟩ := Fin.ext (by show 32 * 0 + r.val = r.val; omega)
    simp only [e]
    rfl
  · intro r n
    rw [step1]
    simp only [left_apply, right_apply]
    pointwise []
    unfold hidRow tileCv
    rw [cv_one, cv_one]
    have e : (⟨32 * (0 : Fin 4).val + r.val, by show 32 * 0 + r.val < 128; omega⟩ : Fin 128) = ⟨r.val, by omega⟩ := Fin.ext (by show 32 * 0 + r.val = r.val; omega)
    simp only [e]
    rfl
  · intro r n
    rw [step2]
    simp only [left_apply, right_apply]
    pointwise []
    unfold hidRow tileCv
    rw [cv_two, cv_two]
    have e : (⟨32 * (0 : Fin 4).val + r.val, by show 32 * 0 + r.val < 128; omega⟩ : Fin 128) = ⟨r.val, by omega⟩ := Fin.ext (by show 32 * 0 + r.val = r.val; omega)
    simp only [e]
    rfl
  · intro r n
    rw [step3]
    simp only [left_apply, right_apply]
    pointwise []
    unfold hidRow tileCv
    rw [cv_three, cv_three]
    rfl

/-- What the body leaves of the state. -/
theorem out12 (c : Dev nD) (arg0 : Memref sig .tc .vmem S128x1024 .f32) (harg0 : arg0.IsWhole) (arg1 : Memref sig .tc .vmem S128x1024 .bf16) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S32x5632 .f32) (harg9 : arg9.IsWhole) (arg10 : Memref sig .tc .vmem S32x5632 .f32) (harg10 : arg10.IsWhole) (arg11 : Memref sig .tc .vmem S128x1024 .f32) (harg11 : arg11.IsWhole) (arg12 : Memref sig .tc .vmem S2x32x5632 .f32) (harg12 : arg12.IsWhole) (arg13 : Memref sig .tc .vmem S1024x1024 .bf16) (harg13 : arg13.IsWhole) (arg14 : Memref sig .tc .vmem S128x2816 .bf16) (harg14 : arg14.IsWhole)
    (x0 : Vec Ideal S128x1024 .f32) (x1 : Vec Ideal S128x1024 .bf16) (x2 : Vec Ideal S1024x1024 .f32) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32) (x9 : Vec Ideal S32x5632 .f32) (x10 : Vec Ideal S32x5632 .f32) (a : Fin 2) (b : Fin 32) (n : Fin 5632) :
    out0_A_12 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 (ix3 a b n)
      = tileLast x0 x1 x2 x3 x4 a b n := by
  unfold out0_A_12
  rw [View.read_writes_eq_canon _ _ _ (cover0_A_12 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)]
  refine (View.canon_apply_of_pieces (fun y : S2x32x5632.Idx => tileLast x0 x1 x2 x3 x4 (y 0) (y 1) (y 2))
    _ ?_ (ix3 a b n) (cover0_A_12 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 (ix3 a b n))).trans rfl
  unfold kernelRun0_A
  dsimp only
  sl_unfold_words
  simp only [View.readAt_eq_ld, harg0.read_unread, harg1.read_unread, harg2.read_unread, harg3.read_unread, harg4.read_unread, harg5.read_unread, harg6.read_unread, harg7.read_unread, harg8.read_unread, harg9.read_unread, harg10.read_unread, View.ld_unit_zero (S := S128x1024) hz, View.ld_unit_zero (S := S1024x1024) hz, View.ld_unit_zero (S := S1x1024) hz, View.ld_unit_zero (S := S2816x1024) hz, whole_back]
  intro p hp
  rcases List.mem_cons.mp hp with rfl | hp
  · refine piece_half 1 (by decide) 2816 (by decide) _ inb_S2x32x5632_S1x32x2816_1_0_2816 (tileLast x0 x1 x2 x3 x4) fun r n => ?_
    dsimp only
    rw [plane11, right_apply]
    rfl
  rcases List.mem_cons.mp hp with rfl | hp
  · refine piece_half 0 (by decide) 2816 (by decide) _ inb_S2x32x5632_S1x32x2816_0_0_2816 (tileLast x0 x1 x2 x3 x4) fun r n => ?_
    dsimp only
    rw [plane01, right_apply]
    rfl
  rcases List.mem_cons.mp hp with rfl | hp
  · refine piece_half 1 (by decide) 0 (by decide) _ inb_S2x32x5632_S1x32x2816_1_0_0 (tileLast x0 x1 x2 x3 x4) fun r n => ?_
    dsimp only
    rw [plane10, left_apply]
    simp only [Nat.zero_add]
    rfl
  rcases List.mem_cons.mp hp with rfl | hp
  · refine piece_half 0 (by decide) 0 (by decide) _ inb_S2x32x5632_S1x32x2816_0_0_0 (tileLast x0 x1 x2 x3 x4) fun r n => ?_
    dsimp only
    rw [plane00, left_apply]
    simp only [Nat.zero_add]
    rfl
  · exact absurd hp List.not_mem_nil

variable (m : (ℓ : Loc nD τ sig) → Buf (Elt Ideal) ℓ) (c : Dev nD)

/-- Window 0 is at its whole array. -/
theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- Window 1 is at its whole array. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Window 2 is at its whole array. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Window 3 is at its whole array. -/
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Window 4 is at its whole array. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 5 is at its whole array. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 6 is at its whole array. -/
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Window 7 is at its whole array. -/
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Window 8 is at its whole array. -/
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Window 9 is at its whole array. -/
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- Window 10 is at its whole array. -/
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

/-- Window 11 is at its whole array. -/
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-- Window 12 is at its whole array. -/
theorem idx12 : ∀ t : Fin cfg0.N, win0_12.index t (0 : Fin 3) = 0 ∧ win0_12.index t (1 : Fin 3) = 0 ∧ win0_12.index t (2 : Fin 3) = 0 :=
  (by decide +kernel : ∀ t : Fin grid0.N, win0_12.index t (0 : Fin 3) = 0 ∧ win0_12.index t (1 : Fin 3) = 0 ∧ win0_12.index t (2 : Fin 3) = 0)

/-- Row `q` of window 0's block is step `q / 32` of sequence `q % 32`. -/
theorem blk0 (t : Fin cfg0.N) (q : Fin 128) (k : Fin 1024) :
    (iblk m c 0 t : Vec Ideal S128x1024 .f32) (ix2 q k) = m ((c : Thread nD τ).loc main_arg0) (ix3 (⟨q.val % 32, by omega⟩ : Fin 32) (⟨q.val / 32, by omega⟩ : Fin 4) k) := by
  have hi := idx0 t
  blk_ext! [iblk, V, hi]

/-- Row `q` of window 1's block is step `q / 32` of sequence `q % 32`. -/
theorem blk1 (t : Fin cfg0.N) (q : Fin 128) (k : Fin 1024) :
    (iblk m c 1 t : Vec Ideal S128x1024 .bf16) (ix2 q k) = m ((c : Thread nD τ).loc main_arg1) (ix3 (⟨q.val % 32, by omega⟩ : Fin 32) (⟨q.val / 32, by omega⟩ : Fin 4) k) := by
  have hi := idx1 t
  blk_ext! [iblk, V, hi]

/-- Window 2's block is argument 2. -/
theorem blk2 (t : Fin cfg0.N) (k n : Fin 1024) :
    (iblk m c 2 t : Vec Ideal S1024x1024 .f32) (ix2 k n) = m ((c : Thread nD τ).loc main_arg2) (ix3 0 k n) := by
  have hi := idx2 t
  blk_ext! [iblk, V, hi]

/-- Window 3's block is argument 3. -/
theorem blk3 (t : Fin cfg0.N) (k : Fin 1024) :
    (iblk m c 3 t : Vec Ideal S1x1024 .f32) (ix2 0 k) = m ((c : Thread nD τ).loc main_arg3) (ix2 0 k) := by
  have hi := idx3 t
  blk_ext! [iblk, V, hi]

/-- Window 4's block is argument 4. -/
theorem blk4 (t : Fin cfg0.N) (k : Fin 1024) (n : Fin 5632) :
    (iblk m c 4 t : Vec Ideal S1024x5632 .bf16) (ix2 k n) = m ((c : Thread nD τ).loc main_arg4) (ix3 0 k n) := by
  have hi := idx4 t
  blk_ext! [iblk, V, hi]

/-- Window 5's block is argument 5. -/
theorem blk5 (t : Fin cfg0.N) (a : Fin 3) (n : Fin 5632) :
    (iblk m c 5 t : Vec Ideal S3x5632 .f32) (ix2 a n) = m ((c : Thread nD τ).loc main_arg5) (ix3 0 a n) := by
  have hi := idx5 t
  blk_ext! [iblk, V, hi]

/-- Window 6's block is argument 6. -/
theorem blk6 (t : Fin cfg0.N) (n : Fin 5632) :
    (iblk m c 6 t : Vec Ideal S1x5632 .f32) (ix2 0 n) = m ((c : Thread nD τ).loc main_arg6) (ix2 0 n) := by
  have hi := idx6 t
  blk_ext! [iblk, V, hi]

/-- Window 7's block is argument 7. -/
theorem blk7 (t : Fin cfg0.N) (n : Fin 2816) (k : Fin 1024) :
    (iblk m c 7 t : Vec Ideal S2816x1024 .bf16) (ix2 n k) = m ((c : Thread nD τ).loc main_arg7) (ix3 0 n k) := by
  have hi := idx7 t
  blk_ext! [iblk, V, hi]

/-- Window 8's block is argument 8. -/
theorem blk8 (t : Fin cfg0.N) (k : Fin 1024) :
    (iblk m c 8 t : Vec Ideal S1x1024 .f32) (ix2 0 k) = m ((c : Thread nD τ).loc main_arg8) (ix1 k) := by
  have hi := idx8 t
  blk_ext! [iblk, V, hi]

/-- Window 9's block is the first row of state of each sequence. -/
theorem blk9 (t : Fin cfg0.N) (b : Fin 32) (n : Fin 5632) :
    (iblk m c 9 t : Vec Ideal S32x5632 .f32) (ix2 b n) = m ((c : Thread nD τ).loc main_arg9) (ix4 0 b 0 n) := by
  have hi := idx9 t
  blk_ext! [iblk, V, hi]

/-- Window 10's block is the second row of state of each sequence. -/
theorem blk10 (t : Fin cfg0.N) (b : Fin 32) (n : Fin 5632) :
    (iblk m c 10 t : Vec Ideal S32x5632 .f32) (ix2 b n) = m ((c : Thread nD τ).loc main_arg9) (ix4 0 b 1 n) := by
  have hi := idx10 t
  blk_ext! [iblk, V, hi]

/-- The arguments, as the row arithmetic takes them. -/
abbrev aX (b : Fin 32) (s : Fin 4) : Fin 1024 → EReal :=
  joinRow (fun k => m ((c : Thread nD τ).loc main_arg0) (ix3 b s k)) (fun k => m ((c : Thread nD τ).loc main_arg1) (ix3 b s k)) (fun j k => m ((c : Thread nD τ).loc main_arg2) (ix3 0 j k))
abbrev aN (k : Fin 1024) : EReal := m ((c : Thread nD τ).loc main_arg3) (ix2 0 k)
abbrev aW (k : Fin 1024) (n : Fin 5632) : EReal := m ((c : Thread nD τ).loc main_arg4) (ix3 0 k n)
abbrev aC (a : Fin 3) (n : Fin 5632) : EReal := m ((c : Thread nD τ).loc main_arg5) (ix3 0 a n)
abbrev aB (n : Fin 5632) : EReal := m ((c : Thread nD τ).loc main_arg6) (ix2 0 n)
abbrev aD (n : Fin 2816) (k : Fin 1024) : EReal := m ((c : Thread nD τ).loc main_arg7) (ix3 0 n k)
abbrev aF (k : Fin 1024) : EReal := m ((c : Thread nD τ).loc main_arg8) (ix1 k)
abbrev aS (b : Fin 32) (a : Fin 2) (n : Fin 5632) : EReal := m ((c : Thread nD τ).loc main_arg9) (ix4 0 b a n)

/-- Row `q` before the feed-forward part. -/
theorem tRow_eq (t : Fin cfg0.N) (q : Fin 128) : tRow (iblk m c 0 t) (iblk m c 1 t) (iblk m c 2 t) q = aX m c ⟨q.val % 32, by omega⟩ ⟨q.val / 32, by omega⟩ := by
  unfold tRow aX
  have e0 := funext fun k => blk0 m c t q k
  have e1 := funext fun k => blk1 m c t q k
  have e2 := funext fun j => funext fun k => blk2 m c t j k
  rw [e0, e1, e2]

/-- A sequence's rows. -/
theorem tRows_eq (t : Fin cfg0.N) (b : Fin 32) : (fun s : Fin 4 => tRow (iblk m c 0 t) (iblk m c 1 t) (iblk m c 2 t) ⟨32 * s.val + b.val, by omega⟩) = aX m c b := by
  funext s
  refine (tRow_eq m c t _).trans ?_
  congr 1
  · ext
    show (32 * s.val + b.val) % 32 = b.val
    omega
  · ext
    show (32 * s.val + b.val) / 32 = s.val
    omega

/-- A sequence's rows of state. -/
theorem tS_eq (t : Fin cfg0.N) (b : Fin 32) : tS (iblk m c 9 t) (iblk m c 10 t) b = aS m c b := by
  funext a n
  have e5 := blk9 m c t b n
  have e6 := blk10 m c t b n
  fin_cases a
  · exact e5
  · exact e6

/-- The weights. -/
theorem tN_eq (t : Fin cfg0.N) : (fun k => (iblk m c 3 t : Vec Ideal S1x1024 .f32) (ix2 0 k)) = aN m c := funext fun k => blk3 m c t k
theorem tW_eq (t : Fin cfg0.N) : (fun k n => (iblk m c 4 t : Vec Ideal S1024x5632 .bf16) (ix2 k n)) = aW m c := funext fun k => funext fun n => blk4 m c t k n
theorem tC_eq (t : Fin cfg0.N) : (fun a n => (iblk m c 5 t : Vec Ideal S3x5632 .f32) (ix2 a n)) = aC m c := funext fun a => funext fun n => blk5 m c t a n
theorem tB_eq (t : Fin cfg0.N) : (fun n => (iblk m c 6 t : Vec Ideal S1x5632 .f32) (ix2 0 n)) = aB m c := funext fun n => blk6 m c t n
theorem tD_eq (t : Fin cfg0.N) : (fun n k => (iblk m c 7 t : Vec Ideal S2816x1024 .bf16) (ix2 n k)) = aD m c := funext fun n => funext fun k => blk7 m c t n k
theorem tF_eq (t : Fin cfg0.N) : (fun k => (iblk m c 8 t : Vec Ideal S1x1024 .f32) (ix2 0 k)) = aF m c := funext fun k => blk8 m c t k

/-- The convolution at step `t` of sequence `b`. -/
theorem tileCv_eq (t : Fin cfg0.N) (s : Fin 4) (b : Fin 32) : tileCv (iblk m c 0 t) (iblk m c 1 t) (iblk m c 2 t) (iblk m c 3 t) (iblk m c 4 t) (iblk m c 5 t) (iblk m c 6 t) (iblk m c 9 t) (iblk m c 10 t) s b
    = cv (aX m c b) (aN m c) (aW m c) (aC m c) (aB m c) (aS m c b) s := by
  funext n
  unfold tileCv
  rw [tRows_eq, tN_eq, tW_eq, tC_eq, tB_eq, tS_eq]

/-- THE ROWS' ARRAY at row `q`, entry `k`. -/
theorem ffn_apply_arr (q : Fin 128) (k : Fin 1024) :
    ((dats m 0 c).arrAt 11 cfg0.N : S128x1024.Idx → EReal) (ix2 q k)
      = SmpRow.ffn (aX m c ⟨q.val % 32, by omega⟩) (aN m c) (aW m c) (aC m c) (aB m c) (aD m c) (aF m c) (aS m c ⟨q.val % 32, by omega⟩) ⟨q.val / 32, by omega⟩ k := by
  have hN : cfg0.N = 1 := N_0
  have ht : 0 < cfg0.N := by omega
  have hf : (cfg0.win 11).flush ⟨0, ht⟩ = true := by
    exact (by decide +kernel : ∀ t : Fin grid0.N, win0_11.flush t = true) ⟨0, ht⟩
  have hB := congrFun (blocks11 m c ⟨0, ht⟩ hf) (ix2 q k)
  rw [flushed11_A] at hB
  have hi := idx11 ⟨0, ht⟩
  refine Eq.trans ?_ (hB.trans ?_)
  · show (dats m 0 c).arrAt 11 cfg0.N (ix2 q k) = (dats m 0 c).arrAt 11 cfg0.N (((cfg0.win 11).blk ⟨0, ht⟩).view.emb (ix2 q k))
    congr 1
    funext a
    apply Fin.ext
    fin_cases a
    · show q.val = win0_11.index ⟨0, ht⟩ (0 : Fin 2) * 128 + 1 * q.val
      rw [hi.1]
      omega
    · show k.val = win0_11.index ⟨0, ht⟩ (1 : Fin 2) * 1024 + 1 * k.val
      rw [hi.2]
      omega
  · refine (out11 _ _ _ _ _ _ _ _ _ _ _ _ _ _ _ _ _ _ _ _ _ _ _ _ _ _ _ _ _ _ _ _ _ _ _ _ _ _ _ _ _ _ q k).trans ?_
    rw [tRow_eq, tileCv_eq, tD_eq, tF_eq]
    rfl

set_option maxRecDepth 20000 in
/-- THE STATE'S ARRAY at row `a`, sequence `b`, entry `n`. -/
theorem state_apply_arr (a : Fin 2) (b : Fin 32) (n : Fin 5632) :
    ((dats m 0 c).arrAt 12 cfg0.N : S2x32x5632.Idx → EReal) (ix3 a b n)
      = lastUp (aX m c b) (aN m c) (aW m c) a n := by
  have hN : cfg0.N = 1 := N_0
  have ht : 0 < cfg0.N := by omega
  have hf : (cfg0.win 12).flush ⟨0, ht⟩ = true := by
    exact (by decide +kernel : ∀ t : Fin grid0.N, win0_12.flush t = true) ⟨0, ht⟩
  have hB := congrFun (blocks12 m c ⟨0, ht⟩ hf) (ix3 a b n)
  rw [flushed12_A] at hB
  have hi := idx12 ⟨0, ht⟩
  refine Eq.trans ?_ (hB.trans ?_)
  · have e : (ix3 a b n : S2x32x5632.Idx) = ((cfg0.win 12).blk ⟨0, ht⟩).view.emb (ix3 a b n) := by
      funext d
      apply Fin.ext
      fin_cases d
      · show a.val = win0_12.index ⟨0, ht⟩ (0 : Fin 3) * 2 + 1 * a.val
        rw [hi.1]
        omega
      · show b.val = win0_12.index ⟨0, ht⟩ (1 : Fin 3) * 32 + 1 * b.val
        rw [hi.2.1]
        omega
      · show n.val = win0_12.index ⟨0, ht⟩ (2 : Fin 3) * 5632 + 1 * n.val
        rw [hi.2.2]
        omega
    exact congrArg ((dats m 0 c).arrAt 12 cfg0.N : S2x32x5632.Idx → EReal) e
  · refine (out12 _ _ _ _ _ _ _ _ _ _ _ _ _ _ _ _ _ _ _ _ _ _ _ _ _ _ _ _ _ _ _ _ _ _ _ _ _ _ _ _ _ _ a b n).trans ?_
    unfold tileLast
    rw [tRows_eq, tN_eq, tW_eq]

end Cert.Kernel6Ideal.Sffn

end
-- ==== Proof.SffnEq.lean ====
/- The sample group's feed-forward call's result arrays are the reference's. -/
module

public import proofs.«01_k».proof.Proof.SffnRef
public import proofs.«01_k».proof.Proof.SffnKernel

@[expose] public section

noncomputable section

namespace Cert.SffnEq

open Cert Idealize.ShloMosaic Idealize.ShloMosaic.TcCoe Cert.FfnRow Cert.SmpRow

variable (m : (ℓ : Loc Kernel6Ideal.nD Kernel6Ideal.τ Kernel6Ideal.sig) → Buf (Elt Ideal) ℓ)
  (m' : (ℓ : Loc Reference6Ideal.nD Reference6Ideal.τ Reference6Ideal.sig) → Buf (Elt Ideal) ℓ) (c : Dev Kernel6Ideal.nD)

/-- At equal arguments, the rows. -/
theorem ffn (h0 : m' ((c.tc : Thread Reference6Ideal.nD Reference6Ideal.τ).loc Reference6Ideal.main_arg0) = m ((c.tc : Thread Kernel6Ideal.nD Kernel6Ideal.τ).loc Kernel6Ideal.main_arg0))
    (h1 : m' ((c.tc : Thread Reference6Ideal.nD Reference6Ideal.τ).loc Reference6Ideal.main_arg1) = m ((c.tc : Thread Kernel6Ideal.nD Kernel6Ideal.τ).loc Kernel6Ideal.main_arg1))
    (h2 : m' ((c.tc : Thread Reference6Ideal.nD Reference6Ideal.τ).loc Reference6Ideal.main_arg2) = m ((c.tc : Thread Kernel6Ideal.nD Kernel6Ideal.τ).loc Kernel6Ideal.main_arg2))
    (h3 : m' ((c.tc : Thread Reference6Ideal.nD Reference6Ideal.τ).loc Reference6Ideal.main_arg3) = m ((c.tc : Thread Kernel6Ideal.nD Kernel6Ideal.τ).loc Kernel6Ideal.main_arg3))
    (h4 : m' ((c.tc : Thread Reference6Ideal.nD Reference6Ideal.τ).loc Reference6Ideal.main_arg4) = m ((c.tc : Thread Kernel6Ideal.nD Kernel6Ideal.τ).loc Kernel6Ideal.main_arg4))
    (h5 : m' ((c.tc : Thread Reference6Ideal.nD Reference6Ideal.τ).loc Reference6Ideal.main_arg5) = m ((c.tc : Thread Kernel6Ideal.nD Kernel6Ideal.τ).loc Kernel6Ideal.main_arg5))
    (h6 : m' ((c.tc : Thread Reference6Ideal.nD Reference6Ideal.τ).loc Reference6Ideal.main_arg6) = m ((c.tc : Thread Kernel6Ideal.nD Kernel6Ideal.τ).loc Kernel6Ideal.main_arg6))
    (h7 : m' ((c.tc : Thread Reference6Ideal.nD Reference6Ideal.τ).loc Reference6Ideal.main_arg7) = m ((c.tc : Thread Kernel6Ideal.nD Kernel6Ideal.τ).loc Kernel6Ideal.main_arg7))
    (h8 : m' ((c.tc : Thread Reference6Ideal.nD Reference6Ideal.τ).loc Reference6Ideal.main_arg8) = m ((c.tc : Thread Kernel6Ideal.nD Kernel6Ideal.τ).loc Kernel6Ideal.main_arg8))
    (h9 : m' ((c.tc : Thread Reference6Ideal.nD Reference6Ideal.τ).loc Reference6Ideal.main_arg9) = m ((c.tc : Thread Kernel6Ideal.nD Kernel6Ideal.τ).loc Kernel6Ideal.main_arg9)) :
    Reference6Ideal.Sffn.outA (Reference6Ideal.Sffn.joinOf m' c) (m' ((c.tc : Thread Reference6Ideal.nD Reference6Ideal.τ).loc Reference6Ideal.main_arg3)) (m' ((c.tc : Thread Reference6Ideal.nD Reference6Ideal.τ).loc Reference6Ideal.main_arg4)) (m' ((c.tc : Thread Reference6Ideal.nD Reference6Ideal.τ).loc Reference6Ideal.main_arg5)) (m' ((c.tc : Thread Reference6Ideal.nD Reference6Ideal.τ).loc Reference6Ideal.main_arg6)) (m' ((c.tc : Thread Reference6Ideal.nD Reference6Ideal.τ).loc Reference6Ideal.main_arg7)) (m' ((c.tc : Thread Reference6Ideal.nD Reference6Ideal.τ).loc Reference6Ideal.main_arg8)) (m' ((c.tc : Thread Reference6Ideal.nD Reference6Ideal.τ).loc Reference6Ideal.main_arg9)) = (Kernel6Ideal.Gen.dats m 0 c).arrAt 11 Kernel6Ideal.cfg0.N := by
  refine funext fun (i : Kernel6Ideal.S128x1024.Idx) => ?_
  have hi : i = ix2 (i 0) (i 1) := by
    funext a
    fin_cases a <;> rfl
  rw [hi]
  refine (Reference6Ideal.Sffn.outA_apply _ _ _ _ _ _ _ _ (i 0) (i 1)).trans ?_
  simp only [Reference6Ideal.Sffn.joinOf, Reference6Ideal.Sffn.joinA_apply]
  rw [h0, h1, h2, h3, h4, h5, h6, h7, h8, h9]
  exact (Kernel6Ideal.Sffn.ffn_apply_arr m c (i 0) (i 1)).symm

/-- At equal arguments, the new state. -/
theorem state (h0 : m' ((c.tc : Thread Reference6Ideal.nD Reference6Ideal.τ).loc Reference6Ideal.main_arg0) = m ((c.tc : Thread Kernel6Ideal.nD Kernel6Ideal.τ).loc Kernel6Ideal.main_arg0))
    (h1 : m' ((c.tc : Thread Reference6Ideal.nD Reference6Ideal.τ).loc Reference6Ideal.main_arg1) = m ((c.tc : Thread Kernel6Ideal.nD Kernel6Ideal.τ).loc Kernel6Ideal.main_arg1))
    (h2 : m' ((c.tc : Thread Reference6Ideal.nD Reference6Ideal.τ).loc Reference6Ideal.main_arg2) = m ((c.tc : Thread Kernel6Ideal.nD Kernel6Ideal.τ).loc Kernel6Ideal.main_arg2))
    (h3 : m' ((c.tc : Thread Reference6Ideal.nD Reference6Ideal.τ).loc Reference6Ideal.main_arg3) = m ((c.tc : Thread Kernel6Ideal.nD Kernel6Ideal.τ).loc Kernel6Ideal.main_arg3))
    (h4 : m' ((c.tc : Thread Reference6Ideal.nD Reference6Ideal.τ).loc Reference6Ideal.main_arg4) = m ((c.tc : Thread Kernel6Ideal.nD Kernel6Ideal.τ).loc Kernel6Ideal.main_arg4)) :
    Reference6Ideal.Sffn.tailA (Reference6Ideal.Sffn.joinOf m' c) (m' ((c.tc : Thread Reference6Ideal.nD Reference6Ideal.τ).loc Reference6Ideal.main_arg3)) (m' ((c.tc : Thread Reference6Ideal.nD Reference6Ideal.τ).loc Reference6Ideal.main_arg4)) (m' ((c.tc : Thread Reference6Ideal.nD Reference6Ideal.τ).loc Reference6Ideal.main_arg9)) = (Kernel6Ideal.Gen.dats m 0 c).arrAt 12 Kernel6Ideal.cfg0.N := by
  refine funext fun (i : Kernel6Ideal.S2x32x5632.Idx) => ?_
  have hi : i = ix3 (i 0) (i 1) (i 2) := by
    funext a
    fin_cases a <;> rfl
  rw [hi]
  refine (Reference6Ideal.Sffn.tailA_apply _ _ _ _ (i 0) (i 1) (i 2)).trans ?_
  refine (congrArg (fun x => lastUp x _ _ (i 0) (i 2)) (funext fun s => funext fun k => Reference6Ideal.Sffn.joinA_apply _ _ _ (i 1) s k)).trans ?_
  rw [h0, h1, h2, h3, h4]
  exact (Kernel6Ideal.Sffn.state_apply_arr m c (i 0) (i 1) (i 2)).symm

end Cert.SffnEq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference3Ideal
public import proofs.«01_k».proof.Proof.Gen.Reference3Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.FfnEq
public import proofs.«01_k».proof.Proof.CrossEq
public import proofs.«01_k».proof.Proof.MixEq
public import proofs.«01_k».proof.Proof.MemEq
public import Idealize.ShloMosaic.Lib.Quiescent
public import Idealize.ShloMosaic.Adequacy
public import Idealize.ShloMosaic.Init
public import proofs.«01_k».proof.Proof.SmixEq
public import proofs.«01_k».proof.Proof.SffnEq

@[expose] public section

noncomputable section

namespace Cert.Proof

open Idealize.ShloMosaic Idealize.SL.Sem Cert.Kernel

/-- The reference runs, keeps its arguments, and leaves every counter at zero. -/
theorem reference_frame : Cert.quiescent_ReferenceIdeal (hReferenceIdeal := Cert.ReferenceIdeal.Gen.facts) := fun m ρ _ =>
  (θ_run _ _ _).mono (fun r h => ⟨fun c => (h c).2.2, sem_eq_zero_of_no_sems (by decide) r.2⟩) (Cert.ReferenceIdeal.Value.run (F := Ideal) m ρ)

/-- Kernel and reference end with equal results. -/
theorem value : Cert.algebraic_KernelIdeal_ReferenceIdeal (hKernelIdeal := Cert.KernelIdeal.Gen.facts) (hReferenceIdeal := Cert.ReferenceIdeal.Gen.facts) := fun m g m' g' _ h =>
  ⟨fun c => Cert.KernelIdeal.Value.G7 m c, fun c => Cert.KernelIdeal.Value.G8 m c, Cert.KernelIdeal.Value.run m g,
    (θ_run _ _ _).mono (fun _ hr c =>
      ⟨(hr c).1.trans (Cert.FfnEq.out m m' c (h c).1 (h c).2.1 (h c).2.2.1 (h c).2.2.2.1 (h c).2.2.2.2.1 (h c).2.2.2.2.2.1 (h c).2.2.2.2.2.2),
        (hr c).2.1.trans (Cert.FfnEq.tail m m' c (h c).1 (h c).2.1 (h c).2.2.1),
        (hr c).2.2⟩) (Cert.ReferenceIdeal.Value.run (F := Ideal) m' g')⟩

/-- The precondition's shape conditions. -/
theorem pre_facts : Cert.Pre_finite2.Facts where
  bcast_S_S1x1024 := by decide
  bcast_S_S1x1024x1024 := by decide
  bcast_S_S4x256x4x256 := by decide

/-- The cross call's reference runs, keeps its arguments, and leaves every counter at zero. -/
theorem reference2_frame : Cert.quiescent_Reference2Ideal (hReference2Ideal := Cert.Reference2Ideal.Gen.facts) := fun m ρ _ =>
  (θ_run _ _ _).mono (fun r h => ⟨fun c => (h c).2, sem_eq_zero_of_no_sems (by decide) r.2⟩) (Cert.Reference2Ideal.Value.run (F := Ideal) m ρ)

/-- The cross call and its reference end with equal results. -/
theorem value2 : Cert.algebraic_Kernel2Ideal_Reference2Ideal_pre_finite2 (hKernel2Ideal := Cert.Kernel2Ideal.Gen.facts) (hReference2Ideal := Cert.Reference2Ideal.Gen.facts) (hPre_finite2 := pre_facts) := fun m g m' g' hp h =>
  ⟨fun c => (Cert.Kernel2Ideal.Gen.dats m 0 c).arrAt 9 Cert.Kernel2Ideal.cfg0.N, Cert.Kernel2Ideal.Value.run_blocks m g,
    (θ_run _ _ _).mono (fun _ hr c =>
      ⟨(hr c).1.trans (Cert.CrossEq.out (hPre_finite2 := pre_facts) m m' c hp (h c).1 (h c).2.1 (h c).2.2.1 (h c).2.2.2.1 (h c).2.2.2.2.1 (h c).2.2.2.2.2.1 (h c).2.2.2.2.2.2.1 (h c).2.2.2.2.2.2.2.1 (h c).2.2.2.2.2.2.2.2),
        (hr c).2⟩) (Cert.Reference2Ideal.Value.run (F := Ideal) m' g')⟩

/-- The mixer call's body is the ideal kernel's, the two texts being one. -/
theorem same_body : Cert.Kernel3.defs₀ (F := Bits) = Cert.Kernel3Ideal.defs₀ (F := Bits) := by
  unfold Cert.Kernel3.defs₀ Cert.Kernel3Ideal.defs₀
  refine congrArg Defs.onTc (funext fun l => funext fun a => ?_)
  match l, a with
  | 0, (t, s) => rfl

/-- So are its labels with the pipeline around it. -/
theorem same_defs : Cert.Kernel3.defs (F := Bits) = Cert.Kernel3Ideal.defs (F := Bits) := by
  unfold Cert.Kernel3.defs Cert.Kernel3Ideal.defs
  rw [same_body]
  rfl

/-- The mixer call runs, keeps its arguments, and leaves every counter at zero: the ideal kernel's frame is proved for any floats. -/
theorem frame3 : Cert.quiescent_Kernel3 (hKernel3 := Cert.Kernel3.Gen.facts) := fun m ρ _ =>
  (congrArg (fun d => θ_run d (onTc (τ := Cert.Kernel3.τ) (Cert.Kernel3.main (F := Bits))) ⟨m, fun _ => 0, ρ⟩ _) same_defs).mpr
    (Cert.Kernel3Ideal.Mix.frame (F := Bits) m ρ)

/-- The mixer call's reference runs, keeps its arguments, and leaves every counter at zero. -/
theorem reference3_frame : Cert.quiescent_Reference3Ideal (hReference3Ideal := Cert.Reference3Ideal.Gen.facts) := fun m ρ _ =>
  (θ_run _ _ _).mono (fun r h => ⟨fun c => (h c).2.2.2.2, sem_eq_zero_of_no_sems (by decide) r.2⟩) (Cert.Reference3Ideal.Mix.run m ρ)

/-- The mixer call and its reference end with equal results. -/
theorem value3 : Cert.algebraic_Kernel3Ideal_Reference3Ideal (hKernel3Ideal := Cert.Kernel3Ideal.Gen.facts) (hReference3Ideal := Cert.Reference3Ideal.Gen.facts) := fun m g m' g' _ h =>
  ⟨fun c => (Cert.Kernel3Ideal.Mix.dats m 0 c).arrAt 5 Cert.Kernel3Ideal.cfg0.N, fun c => (Cert.Kernel3Ideal.Mix.dats m 0 c).arrAt 7 Cert.Kernel3Ideal.cfg0.N,
    fun c => (Cert.Kernel3Ideal.Mix.dats m 0 c).arrAt 8 Cert.Kernel3Ideal.cfg0.N, fun c => (Cert.Kernel3Ideal.Mix.dats m 0 c).arrAt 11 Cert.Kernel3Ideal.cfg0.N,
    Cert.Kernel3Ideal.Mix.run_blocks m g,
    (θ_run _ _ _).mono (fun _ hr c =>
      ⟨(hr c).1.trans (Cert.MixEq.mix m m' c (h c).1 (h c).2.1 (h c).2.2.1 (h c).2.2.2.1 (h c).2.2.2.2),
        (hr c).2.1.trans (Cert.MixEq.key m m' c (h c).1 (h c).2.1 (h c).2.2.1 (h c).2.2.2.1 (h c).2.2.2.2),
        (hr c).2.2.1.trans (Cert.MixEq.value m m' c (h c).1 (h c).2.1 (h c).2.2.1 (h c).2.2.2.1 (h c).2.2.2.2),
        (hr c).2.2.2.1.trans (Cert.MixEq.state m m' c (h c).1 (h c).2.1 (h c).2.2.1 (h c).2.2.2.1 (h c).2.2.2.2),
        (hr c).2.2.2.2⟩) (Cert.Reference3Ideal.Mix.run m' g')⟩

/-- The memory call's body under its labels is the same for the kernel and the ideal kernel: their printed texts are. -/
theorem same_body4 : Cert.Kernel4.defs₀ (F := Bits) = Cert.Kernel4Ideal.defs₀ (F := Bits) := by
  unfold Cert.Kernel4.defs₀ Cert.Kernel4Ideal.defs₀
  refine congrArg Defs.onTc (funext fun l => funext fun a => ?_)
  match l, a with
  | 0, (t, s) => rfl

/-- So are its labels with the pipeline around it. -/
theorem same_defs4 : Cert.Kernel4.defs (F := Bits) = Cert.Kernel4Ideal.defs (F := Bits) := by
  unfold Cert.Kernel4.defs Cert.Kernel4Ideal.defs
  rw [same_body4]
  rfl

/-- The memory call runs, keeps its arguments, and leaves every counter at zero: the ideal kernel's frame is proved for any floats. -/
theorem frame4 : Cert.quiescent_Kernel4 (hKernel4 := Cert.Kernel4.Gen.facts) := fun m ρ _ =>
  (congrArg (fun d => θ_run d (onTc (τ := Cert.Kernel4.τ) (Cert.Kernel4.main (F := Bits))) ⟨m, fun _ => 0, ρ⟩ _) same_defs4).mpr
    (Cert.Kernel4Ideal.Mem.frame (F := Bits) m ρ)

/-- The memory call's reference runs, keeps its arguments, and leaves every counter at zero. -/
theorem reference4_frame : Cert.quiescent_Reference4Ideal (hReference4Ideal := Cert.Reference4Ideal.Gen.facts) := fun m ρ _ =>
  (θ_run _ _ _).mono (fun r h => ⟨fun c => (h c).2.2.2.2, sem_eq_zero_of_no_sems (by decide) r.2⟩) (Cert.Reference4Ideal.Mem.run m ρ)

/-- The memory call and its reference end with equal results. -/
theorem value4 : Cert.algebraic_Kernel4Ideal_Reference4Ideal (hKernel4Ideal := Cert.Kernel4Ideal.Gen.facts) (hReference4Ideal := Cert.Reference4Ideal.Gen.facts) := fun m g m' g' _ h =>
  ⟨fun c => (Cert.Kernel4Ideal.Mem.dats m 0 c).arrAt 3 Cert.Kernel4Ideal.cfg0.N, fun c => (Cert.Kernel4Ideal.Mem.dats m 0 c).arrAt 4 Cert.Kernel4Ideal.cfg0.N, fun c => (Cert.Kernel4Ideal.Mem.dats m 0 c).arrAt 5 Cert.Kernel4Ideal.cfg0.N, fun c => (Cert.Kernel4Ideal.Mem.dats m 0 c).arrAt 6 Cert.Kernel4Ideal.cfg0.N,
    Cert.Kernel4Ideal.Mem.run_blocks m g,
    (θ_run _ _ _).mono (fun _ hr c =>
      ⟨(hr c).1.trans (Cert.MemEq.kf m m' c (h c).1 (h c).2.1 (h c).2.2),
        (hr c).2.1.trans (Cert.MemEq.vf m m' c (h c).1 (h c).2.1 (h c).2.2),
        (hr c).2.2.1.trans (Cert.MemEq.kb m m' c (h c).1 (h c).2.1 (h c).2.2),
        (hr c).2.2.2.1.trans (Cert.MemEq.vb m m' c (h c).1 (h c).2.1 (h c).2.2),
        (hr c).2.2.2.2⟩) (Cert.Reference4Ideal.Mem.run m' g')⟩

/-- The sample group's mixer reference runs, keeps its arguments, and leaves every counter at zero. -/
theorem reference5_frame : Cert.quiescent_Reference5Ideal (hReference5Ideal := Cert.Reference5Ideal.Gen.facts) := fun m ρ _ =>
  (θ_run _ _ _).mono (fun r h => ⟨fun c => (h c).2.2.2.2, sem_eq_zero_of_no_sems (by decide) r.2⟩) (Cert.Reference5Ideal.Smix.run m ρ)

/-- The sample group's mixer call and its reference end with equal results. -/
theorem value5 : Cert.algebraic_Kernel5Ideal_Reference5Ideal (hKernel5Ideal := Cert.Kernel5Ideal.Gen.facts) (hReference5Ideal := Cert.Reference5Ideal.Gen.facts) := fun m g m' g' _ h =>
  ⟨fun c => (Cert.Kernel5Ideal.Gen.dats m 0 c).arrAt 7 Cert.Kernel5Ideal.cfg0.N, fun c => (Cert.Kernel5Ideal.Gen.dats m 0 c).arrAt 9 Cert.Kernel5Ideal.cfg0.N, fun c => (Cert.Kernel5Ideal.Gen.dats m 0 c).arrAt 10 Cert.Kernel5Ideal.cfg0.N, fun c => (Cert.Kernel5Ideal.Gen.dats m 0 c).arrAt 11 Cert.Kernel5Ideal.cfg0.N,
    (θ_run _ _ _).mono (fun _ hr c => ⟨(hr c).1, (hr c).2.2.1, (hr c).2.2.2.1, (hr c).2.2.2.2.1, (hr c).2.2.2.2.2.2⟩) (Cert.Kernel5Ideal.Value.run_blocks m g),
    (θ_run _ _ _).mono (fun _ hr c =>
      ⟨(hr c).1.trans (Cert.SmixEq.mix m m' c (h c).1 (h c).2.1 (h c).2.2.1 (h c).2.2.2.1 (h c).2.2.2.2.1 (h c).2.2.2.2.2),
        (hr c).2.1.trans (Cert.SmixEq.key m m' c (h c).1 (h c).2.1 (h c).2.2.1),
        (hr c).2.2.1.trans (Cert.SmixEq.value m m' c (h c).1 (h c).2.1 (h c).2.2.1),
        (hr c).2.2.2.1.trans (Cert.SmixEq.state m m' c (h c).1 (h c).2.1 (h c).2.2.1),
        (hr c).2.2.2.2⟩) (Cert.Reference5Ideal.Smix.run m' g')⟩

/-- The sample group's feed-forward reference runs, keeps its arguments, and leaves every counter at zero. -/
theorem reference6_frame : Cert.quiescent_Reference6Ideal (hReference6Ideal := Cert.Reference6Ideal.Gen.facts) := fun m ρ _ =>
  (θ_run _ _ _).mono (fun r h => ⟨fun c => (h c).2.2, sem_eq_zero_of_no_sems (by decide) r.2⟩) (Cert.Reference6Ideal.Value.run m ρ)

/-- The sample group's feed-forward call and its reference end with equal results. -/
theorem value6 : Cert.algebraic_Kernel6Ideal_Reference6Ideal (hKernel6Ideal := Cert.Kernel6Ideal.Gen.facts) (hReference6Ideal := Cert.Reference6Ideal.Gen.facts) := fun m g m' g' _ h =>
  ⟨fun c => (Cert.Kernel6Ideal.Gen.dats m 0 c).arrAt 11 Cert.Kernel6Ideal.cfg0.N, fun c => (Cert.Kernel6Ideal.Gen.dats m 0 c).arrAt 12 Cert.Kernel6Ideal.cfg0.N,
    (θ_run _ _ _).mono (fun _ hr c => ⟨(hr c).1, (hr c).2.1, (hr c).2.2.2⟩) (Cert.Kernel6Ideal.Value.run_blocks m g),
    (θ_run _ _ _).mono (fun _ hr c =>
      ⟨(hr c).1.trans ((Cert.Reference6Ideal.Sffn.res_eq m' c).trans (Cert.SffnEq.ffn m m' c (h c).1 (h c).2.1 (h c).2.2.1 (h c).2.2.2.1 (h c).2.2.2.2.1 (h c).2.2.2.2.2.1 (h c).2.2.2.2.2.2.1 (h c).2.2.2.2.2.2.2.1 (h c).2.2.2.2.2.2.2.2.1 (h c).2.2.2.2.2.2.2.2.2)),
        (hr c).2.1.trans (Cert.SffnEq.state m m' c (h c).1 (h c).2.1 (h c).2.2.1 (h c).2.2.2.1 (h c).2.2.2.2.1),
        (hr c).2.2⟩) (Cert.Reference6Ideal.Value.run m' g')⟩

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, pre_facts,
  fun m ρ _ => Cert.Kernel.Gen.frame m ρ, fun m ρ _ => Cert.KernelIdeal.Gen.frame m ρ, reference_frame,
  fun m ρ _ => Cert.Kernel2.Gen.frame m ρ, fun m ρ _ => Cert.Kernel2Ideal.Gen.frame m ρ, fun m ρ _ => Cert.Kernel2Ideal.Gen.frame m ρ,
  reference2_frame, fun m ρ _ => reference2_frame m ρ trivial,
  frame3, fun m ρ _ => Cert.Kernel3Ideal.Mix.frame m ρ, reference3_frame,
  frame4, fun m ρ _ => Cert.Kernel4Ideal.Mem.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  trivial, value, trivial, value2, trivial, value3, trivial, value4, trivial, value5, trivial, value6⟩

end Cert.Proof

end
